-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ln2 (m : (ℓ : Loc Cert.Ln2.nD Cert.Ln2.τ Cert.Ln2.sig) → Buf (Elt Bits) ℓ) : Prop :=
  True

def Pre_Ln2Ideal (m : (ℓ : Loc Cert.Ln2Ideal.nD Cert.Ln2Ideal.τ Cert.Ln2Ideal.sig) → Buf (Elt Ideal) ℓ) : Prop :=
  True

def Pre_Ln2Ideal_finite_ln2 [hPre_finite_ln2 : Cert.Pre_finite_ln2.Facts] (m : (ℓ : Loc Cert.Ln2Ideal.nD Cert.Ln2Ideal.τ Cert.Ln2Ideal.sig) → Buf (Elt Ideal) ℓ) : Prop :=
  ∀ c : Dev Cert.Ln2Ideal.nD,
    (Cert.Pre_finite_ln2.fn (F := Ideal) (m ((c.tc : Thread Cert.Ln2Ideal.nD Cert.Ln2Ideal.τ).loc Cert.Ln2Ideal.main_arg0)) (m ((c.tc : Thread Cert.Ln2Ideal.nD Cert.Ln2Ideal.τ).loc Cert.Ln2Ideal.main_arg1)) (m ((c.tc : Thread Cert.Ln2Ideal.nD Cert.Ln2Ideal.τ).loc Cert.Ln2Ideal.main_arg2)) (m ((c.tc : Thread Cert.Ln2Ideal.nD Cert.Ln2Ideal.τ).loc Cert.Ln2Ideal.main_arg3)) (m ((c.tc : Thread Cert.Ln2Ideal.nD Cert.Ln2Ideal.τ).loc Cert.Ln2Ideal.main_arg4))) = (fun _ => 1#1)

def Pre_Ln2RefIdeal (m : (ℓ : Loc Cert.Ln2RefIdeal.nD Cert.Ln2RefIdeal.τ Cert.Ln2RefIdeal.sig) → Buf (Elt Ideal) ℓ) : Prop :=
  True

def Pre_Ln2RefIdeal_finite_ln2 [hPre_finite_ln2 : Cert.Pre_finite_ln2.Facts] (m : (ℓ : Loc Cert.Ln2RefIdeal.nD Cert.Ln2RefIdeal.τ Cert.Ln2RefIdeal.sig) → Buf (Elt Ideal) ℓ) : Prop :=
  ∀ c : Dev Cert.Ln2RefIdeal.nD,
    (Cert.Pre_finite_ln2.fn (F := Ideal) (m ((c.tc : Thread Cert.Ln2RefIdeal.nD Cert.Ln2RefIdeal.τ).loc Cert.Ln2RefIdeal.main_arg0)) (m ((c.tc : Thread Cert.Ln2RefIdeal.nD Cert.Ln2RefIdeal.τ).loc Cert.Ln2RefIdeal.main_arg1)) (m ((c.tc : Thread Cert.Ln2RefIdeal.nD Cert.Ln2RefIdeal.τ).loc Cert.Ln2RefIdeal.main_arg2)) (m ((c.tc : Thread Cert.Ln2RefIdeal.nD Cert.Ln2RefIdeal.τ).loc Cert.Ln2RefIdeal.main_arg3)) (m ((c.tc : Thread Cert.Ln2RefIdeal.nD Cert.Ln2RefIdeal.τ).loc Cert.Ln2RefIdeal.main_arg4))) = (fun _ => 1#1)

def Pre_Ln1 (m : (ℓ : Loc Cert.Ln1.nD Cert.Ln1.τ Cert.Ln1.sig) → Buf (Elt Bits) ℓ) : Prop :=
  True

def Pre_Ln1Ideal (m : (ℓ : Loc Cert.Ln1Ideal.nD Cert.Ln1Ideal.τ Cert.Ln1Ideal.sig) → Buf (Elt Ideal) ℓ) : Prop :=
  True

def Pre_Ln1Ideal_finite_ln1 [hPre_finite_ln1 : Cert.Pre_finite_ln1.Facts] (m : (ℓ : Loc Cert.Ln1Ideal.nD Cert.Ln1Ideal.τ Cert.Ln1Ideal.sig) → Buf (Elt Ideal) ℓ) : Prop :=
  ∀ c : Dev Cert.Ln1Ideal.nD,
    (Cert.Pre_finite_ln1.fn (F := Ideal) (m ((c.tc : Thread Cert.Ln1Ideal.nD Cert.Ln1Ideal.τ).loc Cert.Ln1Ideal.main_arg0)) (m ((c.tc : Thread Cert.Ln1Ideal.nD Cert.Ln1Ideal.τ).loc Cert.Ln1Ideal.main_arg1)) (m ((c.tc : Thread Cert.Ln1Ideal.nD Cert.Ln1Ideal.τ).loc Cert.Ln1Ideal.main_arg2)) (m ((c.tc : Thread Cert.Ln1Ideal.nD Cert.Ln1Ideal.τ).loc Cert.Ln1Ideal.main_arg3)) (m ((c.tc : Thread Cert.Ln1Ideal.nD Cert.Ln1Ideal.τ).loc Cert.Ln1Ideal.main_arg4)) (m ((c.tc : Thread Cert.Ln1Ideal.nD Cert.Ln1Ideal.τ).loc Cert.Ln1Ideal.main_arg5)) (m ((c.tc : Thread Cert.Ln1Ideal.nD Cert.Ln1Ideal.τ).loc Cert.Ln1Ideal.main_arg6)) (m ((c.tc : Thread Cert.Ln1Ideal.nD Cert.Ln1Ideal.τ).loc Cert.Ln1Ideal.main_arg7))) = (fun _ => 1#1)

def Pre_Ln1RefIdeal (m : (ℓ : Loc Cert.Ln1RefIdeal.nD Cert.Ln1RefIdeal.τ Cert.Ln1RefIdeal.sig) → Buf (Elt Ideal) ℓ) : Prop :=
  True

def Pre_Ln1RefIdeal_finite_ln1 [hPre_finite_ln1 : Cert.Pre_finite_ln1.Facts] (m : (ℓ : Loc Cert.Ln1RefIdeal.nD Cert.Ln1RefIdeal.τ Cert.Ln1RefIdeal.sig) → Buf (Elt Ideal) ℓ) : Prop :=
  ∀ c : Dev Cert.Ln1RefIdeal.nD,
    (Cert.Pre_finite_ln1.fn (F := Ideal) (m ((c.tc : Thread Cert.Ln1RefIdeal.nD Cert.Ln1RefIdeal.τ).loc Cert.Ln1RefIdeal.main_arg0)) (m ((c.tc : Thread Cert.Ln1RefIdeal.nD Cert.Ln1RefIdeal.τ).loc Cert.Ln1RefIdeal.main_arg1)) (m ((c.tc : Thread Cert.Ln1RefIdeal.nD Cert.Ln1RefIdeal.τ).loc Cert.Ln1RefIdeal.main_arg2)) (m ((c.tc : Thread Cert.Ln1RefIdeal.nD Cert.Ln1RefIdeal.τ).loc Cert.Ln1RefIdeal.main_arg3)) (m ((c.tc : Thread Cert.Ln1RefIdeal.nD Cert.Ln1RefIdeal.τ).loc Cert.Ln1RefIdeal.main_arg4)) (m ((c.tc : Thread Cert.Ln1RefIdeal.nD Cert.Ln1RefIdeal.τ).loc Cert.Ln1RefIdeal.main_arg5)) (m ((c.tc : Thread Cert.Ln1RefIdeal.nD Cert.Ln1RefIdeal.τ).loc Cert.Ln1RefIdeal.main_arg6)) (m ((c.tc : Thread Cert.Ln1RefIdeal.nD Cert.Ln1RefIdeal.τ).loc Cert.Ln1RefIdeal.main_arg7))) = (fun _ => 1#1)

def Pre_Dh0 (m : (ℓ : Loc Cert.Dh0.nD Cert.Dh0.τ Cert.Dh0.sig) → Buf (Elt Bits) ℓ) : Prop :=
  True

def Pre_Dh0Ideal (m : (ℓ : Loc Cert.Dh0Ideal.nD Cert.Dh0Ideal.τ Cert.Dh0Ideal.sig) → Buf (Elt Ideal) ℓ) : Prop :=
  True

def Pre_Dh0RefIdeal (m : (ℓ : Loc Cert.Dh0RefIdeal.nD Cert.Dh0RefIdeal.τ Cert.Dh0RefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Wup (m : (ℓ : Loc Cert.Wup.nD Cert.Wup.τ Cert.Wup.sig) → Buf (Elt Bits) ℓ) : Prop :=
  True

def Pre_WupIdeal (m : (ℓ : Loc Cert.WupIdeal.nD Cert.WupIdeal.τ Cert.WupIdeal.sig) → Buf (Elt Ideal) ℓ) : Prop :=
  True

def Pre_WupRefIdeal (m : (ℓ : Loc Cert.WupRefIdeal.nD Cert.WupRefIdeal.τ Cert.WupRefIdeal.sig) → Buf (Elt Ideal) ℓ) : Prop :=
  True

def Pre_Wdown (m : (ℓ : Loc Cert.Wdown.nD Cert.Wdown.τ Cert.Wdown.sig) → Buf (Elt Bits) ℓ) : Prop :=
  True

def Pre_WdownIdeal (m : (ℓ : Loc Cert.WdownIdeal.nD Cert.WdownIdeal.τ Cert.WdownIdeal.sig) → Buf (Elt Ideal) ℓ) : Prop :=
  True

def Pre_WdownRefIdeal (m : (ℓ : Loc Cert.WdownRefIdeal.nD Cert.WdownRefIdeal.τ Cert.WdownRefIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_Wple (m : (ℓ : Loc Cert.Wple.nD Cert.Wple.τ Cert.Wple.sig) → Buf (Elt Bits) ℓ) : Prop :=
  True

def Pre_WpleIdeal (m : (ℓ : Loc Cert.WpleIdeal.nD Cert.WpleIdeal.τ Cert.WpleIdeal.sig) → Buf (Elt Ideal) ℓ) : Prop :=
  True

def Pre_WpleRefIdeal (m : (ℓ : Loc Cert.WpleRefIdeal.nD Cert.WpleRefIdeal.τ Cert.WpleRefIdeal.sig) → Buf (Elt Ideal) ℓ) : Prop :=
  True

def Pre_Aout (m : (ℓ : Loc Cert.Aout.nD Cert.Aout.τ Cert.Aout.sig) → Buf (Elt Bits) ℓ) : Prop :=
  True

def Pre_AoutIdeal (m : (ℓ : Loc Cert.AoutIdeal.nD Cert.AoutIdeal.τ Cert.AoutIdeal.sig) → Buf (Elt Ideal) ℓ) : Prop :=
  True

def Pre_AoutRefIdeal (m : (ℓ : Loc Cert.AoutRefIdeal.nD Cert.AoutRefIdeal.τ Cert.AoutRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Ln2 [hLn2 : Cert.Ln2.Facts] : Prop :=
  ∀ (m : (ℓ : Loc Cert.Ln2.nD Cert.Ln2.τ Cert.Ln2.sig) → Buf (Elt Bits) ℓ) (g : Dev Cert.Ln2.nD → PrngReg), Pre_Ln2 m →
    θ_run (Cert.Ln2.defs (F := Bits)) (onTc (τ := Cert.Ln2.τ) (Cert.Ln2.main (F := Bits))) ⟨m, fun _ => 0, g⟩ (fun r => (∀ c : Dev Cert.Ln2.nD,
      r.2.mem ((c.tc : Thread Cert.Ln2.nD Cert.Ln2.τ).loc Cert.Ln2.main_arg0) = m ((c.tc : Thread Cert.Ln2.nD Cert.Ln2.τ).loc Cert.Ln2.main_arg0)
      ∧ r.2.mem ((c.tc : Thread Cert.Ln2.nD Cert.Ln2.τ).loc Cert.Ln2.main_arg1) = m ((c.tc : Thread Cert.Ln2.nD Cert.Ln2.τ).loc Cert.Ln2.main_arg1)
      ∧ r.2.mem ((c.tc : Thread Cert.Ln2.nD Cert.Ln2.τ).loc Cert.Ln2.main_arg2) = m ((c.tc : Thread Cert.Ln2.nD Cert.Ln2.τ).loc Cert.Ln2.main_arg2)
      ∧ r.2.mem ((c.tc : Thread Cert.Ln2.nD Cert.Ln2.τ).loc Cert.Ln2.main_arg3) = m ((c.tc : Thread Cert.Ln2.nD Cert.Ln2.τ).loc Cert.Ln2.main_arg3)
      ∧ r.2.mem ((c.tc : Thread Cert.Ln2.nD Cert.Ln2.τ).loc Cert.Ln2.main_arg4) = m ((c.tc : Thread Cert.Ln2.nD Cert.Ln2.τ).loc Cert.Ln2.main_arg4))
      ∧ r.2.sem = fun _ => 0)

def quiescent_Ln2Ideal [hLn2Ideal : Cert.Ln2Ideal.Facts] : Prop :=
  ∀ (m : (ℓ : Loc Cert.Ln2Ideal.nD Cert.Ln2Ideal.τ Cert.Ln2Ideal.sig) → Buf (Elt Ideal) ℓ) (g : Dev Cert.Ln2Ideal.nD → PrngReg), Pre_Ln2Ideal m →
    θ_run (Cert.Ln2Ideal.defs (F := Ideal)) (onTc (τ := Cert.Ln2Ideal.τ) (Cert.Ln2Ideal.main (F := Ideal))) ⟨m, fun _ => 0, g⟩ (fun r => (∀ c : Dev Cert.Ln2Ideal.nD,
      r.2.mem ((c.tc : Thread Cert.Ln2Ideal.nD Cert.Ln2Ideal.τ).loc Cert.Ln2Ideal.main_arg0) = m ((c.tc : Thread Cert.Ln2Ideal.nD Cert.Ln2Ideal.τ).loc Cert.Ln2Ideal.main_arg0)
      ∧ r.2.mem ((c.tc : Thread Cert.Ln2Ideal.nD Cert.Ln2Ideal.τ).loc Cert.Ln2Ideal.main_arg1) = m ((c.tc : Thread Cert.Ln2Ideal.nD Cert.Ln2Ideal.τ).loc Cert.Ln2Ideal.main_arg1)
      ∧ r.2.mem ((c.tc : Thread Cert.Ln2Ideal.nD Cert.Ln2Ideal.τ).loc Cert.Ln2Ideal.main_arg2) = m ((c.tc : Thread Cert.Ln2Ideal.nD Cert.Ln2Ideal.τ).loc Cert.Ln2Ideal.main_arg2)
      ∧ r.2.mem ((c.tc : Thread Cert.Ln2Ideal.nD Cert.Ln2Ideal.τ).loc Cert.Ln2Ideal.main_arg3) = m ((c.tc : Thread Cert.Ln2Ideal.nD Cert.Ln2Ideal.τ).loc Cert.Ln2Ideal.main_arg3)
      ∧ r.2.mem ((c.tc : Thread Cert.Ln2Ideal.nD Cert.Ln2Ideal.τ).loc Cert.Ln2Ideal.main_arg4) = m ((c.tc : Thread Cert.Ln2Ideal.nD Cert.Ln2Ideal.τ).loc Cert.Ln2Ideal.main_arg4))
      ∧ r.2.sem = fun _ => 0)

def quiescent_Ln2Ideal_pre_finite_ln2 [hLn2Ideal : Cert.Ln2Ideal.Facts] [hPre_finite_ln2 : Cert.Pre_finite_ln2.Facts] : Prop :=
  ∀ (m : (ℓ : Loc Cert.Ln2Ideal.nD Cert.Ln2Ideal.τ Cert.Ln2Ideal.sig) → Buf (Elt Ideal) ℓ) (g : Dev Cert.Ln2Ideal.nD → PrngReg), Pre_Ln2Ideal_finite_ln2 m →
    θ_run (Cert.Ln2Ideal.defs (F := Ideal)) (onTc (τ := Cert.Ln2Ideal.τ) (Cert.Ln2Ideal.main (F := Ideal))) ⟨m, fun _ => 0, g⟩ (fun r => (∀ c : Dev Cert.Ln2Ideal.nD,
      r.2.mem ((c.tc : Thread Cert.Ln2Ideal.nD Cert.Ln2Ideal.τ).loc Cert.Ln2Ideal.main_arg0) = m ((c.tc : Thread Cert.Ln2Ideal.nD Cert.Ln2Ideal.τ).loc Cert.Ln2Ideal.main_arg0)
      ∧ r.2.mem ((c.tc : Thread Cert.Ln2Ideal.nD Cert.Ln2Ideal.τ).loc Cert.Ln2Ideal.main_arg1) = m ((c.tc : Thread Cert.Ln2Ideal.nD Cert.Ln2Ideal.τ).loc Cert.Ln2Ideal.main_arg1)
      ∧ r.2.mem ((c.tc : Thread Cert.Ln2Ideal.nD Cert.Ln2Ideal.τ).loc Cert.Ln2Ideal.main_arg2) = m ((c.tc : Thread Cert.Ln2Ideal.nD Cert.Ln2Ideal.τ).loc Cert.Ln2Ideal.main_arg2)
      ∧ r.2.mem ((c.tc : Thread Cert.Ln2Ideal.nD Cert.Ln2Ideal.τ).loc Cert.Ln2Ideal.main_arg3) = m ((c.tc : Thread Cert.Ln2Ideal.nD Cert.Ln2Ideal.τ).loc Cert.Ln2Ideal.main_arg3)
      ∧ r.2.mem ((c.tc : Thread Cert.Ln2Ideal.nD Cert.Ln2Ideal.τ).loc Cert.Ln2Ideal.main_arg4) = m ((c.tc : Thread Cert.Ln2Ideal.nD Cert.Ln2Ideal.τ).loc Cert.Ln2Ideal.main_arg4))
      ∧ r.2.sem = fun _ => 0)

def quiescent_Ln2RefIdeal [hLn2RefIdeal : Cert.Ln2RefIdeal.Facts] : Prop :=
  ∀ (m : (ℓ : Loc Cert.Ln2RefIdeal.nD Cert.Ln2RefIdeal.τ Cert.Ln2RefIdeal.sig) → Buf (Elt Ideal) ℓ) (g : Dev Cert.Ln2RefIdeal.nD → PrngReg), Pre_Ln2RefIdeal m →
    θ_run (Cert.Ln2RefIdeal.defs (F := Ideal)) (onTc (τ := Cert.Ln2RefIdeal.τ) (Cert.Ln2RefIdeal.main (F := Ideal))) ⟨m, fun _ => 0, g⟩ (fun r => (∀ c : Dev Cert.Ln2RefIdeal.nD,
      r.2.mem ((c.tc : Thread Cert.Ln2RefIdeal.nD Cert.Ln2RefIdeal.τ).loc Cert.Ln2RefIdeal.main_arg0) = m ((c.tc : Thread Cert.Ln2RefIdeal.nD Cert.Ln2RefIdeal.τ).loc Cert.Ln2RefIdeal.main_arg0)
      ∧ r.2.mem ((c.tc : Thread Cert.Ln2RefIdeal.nD Cert.Ln2RefIdeal.τ).loc Cert.Ln2RefIdeal.main_arg1) = m ((c.tc : Thread Cert.Ln2RefIdeal.nD Cert.Ln2RefIdeal.τ).loc Cert.Ln2RefIdeal.main_arg1)
      ∧ r.2.mem ((c.tc : Thread Cert.Ln2RefIdeal.nD Cert.Ln2RefIdeal.τ).loc Cert.Ln2RefIdeal.main_arg2) = m ((c.tc : Thread Cert.Ln2RefIdeal.nD Cert.Ln2RefIdeal.τ).loc Cert.Ln2RefIdeal.main_arg2)
      ∧ r.2.mem ((c.tc : Thread Cert.Ln2RefIdeal.nD Cert.Ln2RefIdeal.τ).loc Cert.Ln2RefIdeal.main_arg3) = m ((c.tc : Thread Cert.Ln2RefIdeal.nD Cert.Ln2RefIdeal.τ).loc Cert.Ln2RefIdeal.main_arg3)
      ∧ r.2.mem ((c.tc : Thread Cert.Ln2RefIdeal.nD Cert.Ln2RefIdeal.τ).loc Cert.Ln2RefIdeal.main_arg4) = m ((c.tc : Thread Cert.Ln2RefIdeal.nD Cert.Ln2RefIdeal.τ).loc Cert.Ln2RefIdeal.main_arg4))
      ∧ r.2.sem = fun _ => 0)

def quiescent_Ln2RefIdeal_pre_finite_ln2 [hLn2RefIdeal : Cert.Ln2RefIdeal.Facts] [hPre_finite_ln2 : Cert.Pre_finite_ln2.Facts] : Prop :=
  ∀ (m : (ℓ : Loc Cert.Ln2RefIdeal.nD Cert.Ln2RefIdeal.τ Cert.Ln2RefIdeal.sig) → Buf (Elt Ideal) ℓ) (g : Dev Cert.Ln2RefIdeal.nD → PrngReg), Pre_Ln2RefIdeal_finite_ln2 m →
    θ_run (Cert.Ln2RefIdeal.defs (F := Ideal)) (onTc (τ := Cert.Ln2RefIdeal.τ) (Cert.Ln2RefIdeal.main (F := Ideal))) ⟨m, fun _ => 0, g⟩ (fun r => (∀ c : Dev Cert.Ln2RefIdeal.nD,
      r.2.mem ((c.tc : Thread Cert.Ln2RefIdeal.nD Cert.Ln2RefIdeal.τ).loc Cert.Ln2RefIdeal.main_arg0) = m ((c.tc : Thread Cert.Ln2RefIdeal.nD Cert.Ln2RefIdeal.τ).loc Cert.Ln2RefIdeal.main_arg0)
      ∧ r.2.mem ((c.tc : Thread Cert.Ln2RefIdeal.nD Cert.Ln2RefIdeal.τ).loc Cert.Ln2RefIdeal.main_arg1) = m ((c.tc : Thread Cert.Ln2RefIdeal.nD Cert.Ln2RefIdeal.τ).loc Cert.Ln2RefIdeal.main_arg1)
      ∧ r.2.mem ((c.tc : Thread Cert.Ln2RefIdeal.nD Cert.Ln2RefIdeal.τ).loc Cert.Ln2RefIdeal.main_arg2) = m ((c.tc : Thread Cert.Ln2RefIdeal.nD Cert.Ln2RefIdeal.τ).loc Cert.Ln2RefIdeal.main_arg2)
      ∧ r.2.mem ((c.tc : Thread Cert.Ln2RefIdeal.nD Cert.Ln2RefIdeal.τ).loc Cert.Ln2RefIdeal.main_arg3) = m ((c.tc : Thread Cert.Ln2RefIdeal.nD Cert.Ln2RefIdeal.τ).loc Cert.Ln2RefIdeal.main_arg3)
      ∧ r.2.mem ((c.tc : Thread Cert.Ln2RefIdeal.nD Cert.Ln2RefIdeal.τ).loc Cert.Ln2RefIdeal.main_arg4) = m ((c.tc : Thread Cert.Ln2RefIdeal.nD Cert.Ln2RefIdeal.τ).loc Cert.Ln2RefIdeal.main_arg4))
      ∧ r.2.sem = fun _ => 0)

def quiescent_Ln1 [hLn1 : Cert.Ln1.Facts] : Prop :=
  ∀ (m : (ℓ : Loc Cert.Ln1.nD Cert.Ln1.τ Cert.Ln1.sig) → Buf (Elt Bits) ℓ) (g : Dev Cert.Ln1.nD → PrngReg), Pre_Ln1 m →
    θ_run (Cert.Ln1.defs (F := Bits)) (onTc (τ := Cert.Ln1.τ) (Cert.Ln1.main (F := Bits))) ⟨m, fun _ => 0, g⟩ (fun r => (∀ c : Dev Cert.Ln1.nD,
      r.2.mem ((c.tc : Thread Cert.Ln1.nD Cert.Ln1.τ).loc Cert.Ln1.main_arg0) = m ((c.tc : Thread Cert.Ln1.nD Cert.Ln1.τ).loc Cert.Ln1.main_arg0)
      ∧ r.2.mem ((c.tc : Thread Cert.Ln1.nD Cert.Ln1.τ).loc Cert.Ln1.main_arg1) = m ((c.tc : Thread Cert.Ln1.nD Cert.Ln1.τ).loc Cert.Ln1.main_arg1)
      ∧ r.2.mem ((c.tc : Thread Cert.Ln1.nD Cert.Ln1.τ).loc Cert.Ln1.main_arg2) = m ((c.tc : Thread Cert.Ln1.nD Cert.Ln1.τ).loc Cert.Ln1.main_arg2)
      ∧ r.2.mem ((c.tc : Thread Cert.Ln1.nD Cert.Ln1.τ).loc Cert.Ln1.main_arg3) = m ((c.tc : Thread Cert.Ln1.nD Cert.Ln1.τ).loc Cert.Ln1.main_arg3)
      ∧ r.2.mem ((c.tc : Thread Cert.Ln1.nD Cert.Ln1.τ).loc Cert.Ln1.main_arg4) = m ((c.tc : Thread Cert.Ln1.nD Cert.Ln1.τ).loc Cert.Ln1.main_arg4)
      ∧ r.2.mem ((c.tc : Thread Cert.Ln1.nD Cert.Ln1.τ).loc Cert.Ln1.main_arg5) = m ((c.tc : Thread Cert.Ln1.nD Cert.Ln1.τ).loc Cert.Ln1.main_arg5)
      ∧ r.2.mem ((c.tc : Thread Cert.Ln1.nD Cert.Ln1.τ).loc Cert.Ln1.main_arg6) = m ((c.tc : Thread Cert.Ln1.nD Cert.Ln1.τ).loc Cert.Ln1.main_arg6)
      ∧ r.2.mem ((c.tc : Thread Cert.Ln1.nD Cert.Ln1.τ).loc Cert.Ln1.main_arg7) = m ((c.tc : Thread Cert.Ln1.nD Cert.Ln1.τ).loc Cert.Ln1.main_arg7))
      ∧ r.2.sem = fun _ => 0)

def quiescent_Ln1Ideal [hLn1Ideal : Cert.Ln1Ideal.Facts] : Prop :=
  ∀ (m : (ℓ : Loc Cert.Ln1Ideal.nD Cert.Ln1Ideal.τ Cert.Ln1Ideal.sig) → Buf (Elt Ideal) ℓ) (g : Dev Cert.Ln1Ideal.nD → PrngReg), Pre_Ln1Ideal m →
    θ_run (Cert.Ln1Ideal.defs (F := Ideal)) (onTc (τ := Cert.Ln1Ideal.τ) (Cert.Ln1Ideal.main (F := Ideal))) ⟨m, fun _ => 0, g⟩ (fun r => (∀ c : Dev Cert.Ln1Ideal.nD,
      r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
      ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1)
      ∧ r.2.mem ((c.tc : Thread Cert.Ln1Ideal.nD Cert.Ln1Ideal.τ).loc Cert.Ln1Ideal.main_arg2) = m ((c.tc : Thread Cert.Ln1Ideal.nD Cert.Ln1Ideal.τ).loc Cert.Ln1Ideal.main_arg2)
      ∧ r.2.mem ((c.tc : Thread Cert.Ln1Ideal.nD Cert.Ln1Ideal.τ).loc Cert.Ln1Ideal.main_arg3) = m ((c.tc : Thread Cert.Ln1Ideal.nD Cert.Ln1Ideal.τ).loc Cert.Ln1Ideal.main_arg3)
      ∧ r.2.mem ((c.tc : Thread Cert.Ln1Ideal.nD Cert.Ln1Ideal.τ).loc Cert.Ln1Ideal.main_arg4) = m ((c.tc : Thread Cert.Ln1Ideal.nD Cert.Ln1Ideal.τ).loc Cert.Ln1Ideal.main_arg4)
      ∧ r.2.mem ((c.tc : Thread Cert.Ln1Ideal.nD Cert.Ln1Ideal.τ).loc Cert.Ln1Ideal.main_arg5) = m ((c.tc : Thread Cert.Ln1Ideal.nD Cert.Ln1Ideal.τ).loc Cert.Ln1Ideal.main_arg5)
      ∧ r.2.mem ((c.tc : Thread Cert.Ln1Ideal.nD Cert.Ln1Ideal.τ).loc Cert.Ln1Ideal.main_arg6) = m ((c.tc : Thread Cert.Ln1Ideal.nD Cert.Ln1Ideal.τ).loc Cert.Ln1Ideal.main_arg6)
      ∧ r.2.mem ((c.tc : Thread Cert.Ln1Ideal.nD Cert.Ln1Ideal.τ).loc Cert.Ln1Ideal.main_arg7) = m ((c.tc : Thread Cert.Ln1Ideal.nD Cert.Ln1Ideal.τ).loc Cert.Ln1Ideal.main_arg7))
      ∧ r.2.sem = fun _ => 0)

def quiescent_Ln1Ideal_pre_finite_ln1 [hLn1Ideal : Cert.Ln1Ideal.Facts] [hPre_finite_ln1 : Cert.Pre_finite_ln1.Facts] : Prop :=
  ∀ (m : (ℓ : Loc Cert.Ln1Ideal.nD Cert.Ln1Ideal.τ Cert.Ln1Ideal.sig) → Buf (Elt Ideal) ℓ) (g : Dev Cert.Ln1Ideal.nD → PrngReg), Pre_Ln1Ideal_finite_ln1 m →
    θ_run (Cert.Ln1Ideal.defs (F := Ideal)) (onTc (τ := Cert.Ln1Ideal.τ) (Cert.Ln1Ideal.main (F := Ideal))) ⟨m, fun _ => 0, g⟩ (fun r => (∀ c : Dev Cert.Ln1Ideal.nD,
      r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
      ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1)
      ∧ r.2.mem ((c.tc : Thread Cert.Ln1Ideal.nD Cert.Ln1Ideal.τ).loc Cert.Ln1Ideal.main_arg2) = m ((c.tc : Thread Cert.Ln1Ideal.nD Cert.Ln1Ideal.τ).loc Cert.Ln1Ideal.main_arg2)
      ∧ r.2.mem ((c.tc : Thread Cert.Ln1Ideal.nD Cert.Ln1Ideal.τ).loc Cert.Ln1Ideal.main_arg3) = m ((c.tc : Thread Cert.Ln1Ideal.nD Cert.Ln1Ideal.τ).loc Cert.Ln1Ideal.main_arg3)
      ∧ r.2.mem ((c.tc : Thread Cert.Ln1Ideal.nD Cert.Ln1Ideal.τ).loc Cert.Ln1Ideal.main_arg4) = m ((c.tc : Thread Cert.Ln1Ideal.nD Cert.Ln1Ideal.τ).loc Cert.Ln1Ideal.main_arg4)
      ∧ r.2.mem ((c.tc : Thread Cert.Ln1Ideal.nD Cert.Ln1Ideal.τ).loc Cert.Ln1Ideal.main_arg5) = m ((c.tc : Thread Cert.Ln1Ideal.nD Cert.Ln1Ideal.τ).loc Cert.Ln1Ideal.main_arg5)
      ∧ r.2.mem ((c.tc : Thread Cert.Ln1Ideal.nD Cert.Ln1Ideal.τ).loc Cert.Ln1Ideal.main_arg6) = m ((c.tc : Thread Cert.Ln1Ideal.nD Cert.Ln1Ideal.τ).loc Cert.Ln1Ideal.main_arg6)
      ∧ r.2.mem ((c.tc : Thread Cert.Ln1Ideal.nD Cert.Ln1Ideal.τ).loc Cert.Ln1Ideal.main_arg7) = m ((c.tc : Thread Cert.Ln1Ideal.nD Cert.Ln1Ideal.τ).loc Cert.Ln1Ideal.main_arg7))
      ∧ r.2.sem = fun _ => 0)

def quiescent_Ln1RefIdeal [hLn1RefIdeal : Cert.Ln1RefIdeal.Facts] : Prop :=
  ∀ (m : (ℓ : Loc Cert.Ln1RefIdeal.nD Cert.Ln1RefIdeal.τ Cert.Ln1RefIdeal.sig) → Buf (Elt Ideal) ℓ) (g : Dev Cert.Ln1RefIdeal.nD → PrngReg), Pre_Ln1RefIdeal m →
    θ_run (Cert.Ln1RefIdeal.defs (F := Ideal)) (onTc (τ := Cert.Ln1RefIdeal.τ) (Cert.Ln1RefIdeal.main (F := Ideal))) ⟨m, fun _ => 0, g⟩ (fun r => (∀ c : Dev Cert.Ln1RefIdeal.nD,
      r.2.mem ((c.tc : Thread Cert.Ln1RefIdeal.nD Cert.Ln1RefIdeal.τ).loc Cert.Ln1RefIdeal.main_arg0) = m ((c.tc : Thread Cert.Ln1RefIdeal.nD Cert.Ln1RefIdeal.τ).loc Cert.Ln1RefIdeal.main_arg0)
      ∧ r.2.mem ((c.tc : Thread Cert.Ln1RefIdeal.nD Cert.Ln1RefIdeal.τ).loc Cert.Ln1RefIdeal.main_arg1) = m ((c.tc : Thread Cert.Ln1RefIdeal.nD Cert.Ln1RefIdeal.τ).loc Cert.Ln1RefIdeal.main_arg1)
      ∧ r.2.mem ((c.tc : Thread Cert.Ln1RefIdeal.nD Cert.Ln1RefIdeal.τ).loc Cert.Ln1RefIdeal.main_arg2) = m ((c.tc : Thread Cert.Ln1RefIdeal.nD Cert.Ln1RefIdeal.τ).loc Cert.Ln1RefIdeal.main_arg2)
      ∧ r.2.mem ((c.tc : Thread Cert.Ln1RefIdeal.nD Cert.Ln1RefIdeal.τ).loc Cert.Ln1RefIdeal.main_arg3) = m ((c.tc : Thread Cert.Ln1RefIdeal.nD Cert.Ln1RefIdeal.τ).loc Cert.Ln1RefIdeal.main_arg3)
      ∧ r.2.mem ((c.tc : Thread Cert.Ln1RefIdeal.nD Cert.Ln1RefIdeal.τ).loc Cert.Ln1RefIdeal.main_arg4) = m ((c.tc : Thread Cert.Ln1RefIdeal.nD Cert.Ln1RefIdeal.τ).loc Cert.Ln1RefIdeal.main_arg4)
      ∧ r.2.mem ((c.tc : Thread Cert.Ln1RefIdeal.nD Cert.Ln1RefIdeal.τ).loc Cert.Ln1RefIdeal.main_arg5) = m ((c.tc : Thread Cert.Ln1RefIdeal.nD Cert.Ln1RefIdeal.τ).loc Cert.Ln1RefIdeal.main_arg5)
      ∧ r.2.mem ((c.tc : Thread Cert.Ln1RefIdeal.nD Cert.Ln1RefIdeal.τ).loc Cert.Ln1RefIdeal.main_arg6) = m ((c.tc : Thread Cert.Ln1RefIdeal.nD Cert.Ln1RefIdeal.τ).loc Cert.Ln1RefIdeal.main_arg6)
      ∧ r.2.mem ((c.tc : Thread Cert.Ln1RefIdeal.nD Cert.Ln1RefIdeal.τ).loc Cert.Ln1RefIdeal.main_arg7) = m ((c.tc : Thread Cert.Ln1RefIdeal.nD Cert.Ln1RefIdeal.τ).loc Cert.Ln1RefIdeal.main_arg7))
      ∧ r.2.sem = fun _ => 0)

def quiescent_Ln1RefIdeal_pre_finite_ln1 [hLn1RefIdeal : Cert.Ln1RefIdeal.Facts] [hPre_finite_ln1 : Cert.Pre_finite_ln1.Facts] : Prop :=
  ∀ (m : (ℓ : Loc Cert.Ln1RefIdeal.nD Cert.Ln1RefIdeal.τ Cert.Ln1RefIdeal.sig) → Buf (Elt Ideal) ℓ) (g : Dev Cert.Ln1RefIdeal.nD → PrngReg), Pre_Ln1RefIdeal_finite_ln1 m →
    θ_run (Cert.Ln1RefIdeal.defs (F := Ideal)) (onTc (τ := Cert.Ln1RefIdeal.τ) (Cert.Ln1RefIdeal.main (F := Ideal))) ⟨m, fun _ => 0, g⟩ (fun r => (∀ c : Dev Cert.Ln1RefIdeal.nD,
      r.2.mem ((c.tc : Thread Cert.Ln1RefIdeal.nD Cert.Ln1RefIdeal.τ).loc Cert.Ln1RefIdeal.main_arg0) = m ((c.tc : Thread Cert.Ln1RefIdeal.nD Cert.Ln1RefIdeal.τ).loc Cert.Ln1RefIdeal.main_arg0)
      ∧ r.2.mem ((c.tc : Thread Cert.Ln1RefIdeal.nD Cert.Ln1RefIdeal.τ).loc Cert.Ln1RefIdeal.main_arg1) = m ((c.tc : Thread Cert.Ln1RefIdeal.nD Cert.Ln1RefIdeal.τ).loc Cert.Ln1RefIdeal.main_arg1)
      ∧ r.2.mem ((c.tc : Thread Cert.Ln1RefIdeal.nD Cert.Ln1RefIdeal.τ).loc Cert.Ln1RefIdeal.main_arg2) = m ((c.tc : Thread Cert.Ln1RefIdeal.nD Cert.Ln1RefIdeal.τ).loc Cert.Ln1RefIdeal.main_arg2)
      ∧ r.2.mem ((c.tc : Thread Cert.Ln1RefIdeal.nD Cert.Ln1RefIdeal.τ).loc Cert.Ln1RefIdeal.main_arg3) = m ((c.tc : Thread Cert.Ln1RefIdeal.nD Cert.Ln1RefIdeal.τ).loc Cert.Ln1RefIdeal.main_arg3)
      ∧ r.2.mem ((c.tc : Thread Cert.Ln1RefIdeal.nD Cert.Ln1RefIdeal.τ).loc Cert.Ln1RefIdeal.main_arg4) = m ((c.tc : Thread Cert.Ln1RefIdeal.nD Cert.Ln1RefIdeal.τ).loc Cert.Ln1RefIdeal.main_arg4)
      ∧ r.2.mem ((c.tc : Thread Cert.Ln1RefIdeal.nD Cert.Ln1RefIdeal.τ).loc Cert.Ln1RefIdeal.main_arg5) = m ((c.tc : Thread Cert.Ln1RefIdeal.nD Cert.Ln1RefIdeal.τ).loc Cert.Ln1RefIdeal.main_arg5)
      ∧ r.2.mem ((c.tc : Thread Cert.Ln1RefIdeal.nD Cert.Ln1RefIdeal.τ).loc Cert.Ln1RefIdeal.main_arg6) = m ((c.tc : Thread Cert.Ln1RefIdeal.nD Cert.Ln1RefIdeal.τ).loc Cert.Ln1RefIdeal.main_arg6)
      ∧ r.2.mem ((c.tc : Thread Cert.Ln1RefIdeal.nD Cert.Ln1RefIdeal.τ).loc Cert.Ln1RefIdeal.main_arg7) = m ((c.tc : Thread Cert.Ln1RefIdeal.nD Cert.Ln1RefIdeal.τ).loc Cert.Ln1RefIdeal.main_arg7))
      ∧ r.2.sem = fun _ => 0)

def quiescent_Dh0 [hDh0 : Cert.Dh0.Facts] : Prop :=
  ∀ (m : (ℓ : Loc Cert.Dh0.nD Cert.Dh0.τ Cert.Dh0.sig) → Buf (Elt Bits) ℓ) (g : Dev Cert.Dh0.nD → PrngReg), Pre_Dh0 m →
    θ_run (Cert.Dh0.defs (F := Bits)) (onTc (τ := Cert.Dh0.τ) (Cert.Dh0.main (F := Bits))) ⟨m, fun _ => 0, g⟩ (fun r => (∀ c : Dev Cert.Dh0.nD,
      r.2.mem ((c.tc : Thread Cert.Dh0.nD Cert.Dh0.τ).loc Cert.Dh0.main_arg0) = m ((c.tc : Thread Cert.Dh0.nD Cert.Dh0.τ).loc Cert.Dh0.main_arg0)
      ∧ r.2.mem ((c.tc : Thread Cert.Dh0.nD Cert.Dh0.τ).loc Cert.Dh0.main_arg1) = m ((c.tc : Thread Cert.Dh0.nD Cert.Dh0.τ).loc Cert.Dh0.main_arg1)
      ∧ r.2.mem ((c.tc : Thread Cert.Dh0.nD Cert.Dh0.τ).loc Cert.Dh0.main_arg2) = m ((c.tc : Thread Cert.Dh0.nD Cert.Dh0.τ).loc Cert.Dh0.main_arg2)
      ∧ r.2.mem ((c.tc : Thread Cert.Dh0.nD Cert.Dh0.τ).loc Cert.Dh0.main_arg3) = m ((c.tc : Thread Cert.Dh0.nD Cert.Dh0.τ).loc Cert.Dh0.main_arg3)
      ∧ r.2.mem ((c.tc : Thread Cert.Dh0.nD Cert.Dh0.τ).loc Cert.Dh0.main_arg4) = m ((c.tc : Thread Cert.Dh0.nD Cert.Dh0.τ).loc Cert.Dh0.main_arg4)
      ∧ r.2.mem ((c.tc : Thread Cert.Dh0.nD Cert.Dh0.τ).loc Cert.Dh0.main_arg5) = m ((c.tc : Thread Cert.Dh0.nD Cert.Dh0.τ).loc Cert.Dh0.main_arg5)
      ∧ r.2.mem ((c.tc : Thread Cert.Dh0.nD Cert.Dh0.τ).loc Cert.Dh0.main_arg6) = m ((c.tc : Thread Cert.Dh0.nD Cert.Dh0.τ).loc Cert.Dh0.main_arg6)
      ∧ r.2.mem ((c.tc : Thread Cert.Dh0.nD Cert.Dh0.τ).loc Cert.Dh0.main_arg7) = m ((c.tc : Thread Cert.Dh0.nD Cert.Dh0.τ).loc Cert.Dh0.main_arg7))
      ∧ r.2.sem = fun _ => 0)

def quiescent_Dh0Ideal [hDh0Ideal : Cert.Dh0Ideal.Facts] : Prop :=
  ∀ (m : (ℓ : Loc Cert.Dh0Ideal.nD Cert.Dh0Ideal.τ Cert.Dh0Ideal.sig) → Buf (Elt Ideal) ℓ) (g : Dev Cert.Dh0Ideal.nD → PrngReg), Pre_Dh0Ideal m →
    θ_run (Cert.Dh0Ideal.defs (F := Ideal)) (onTc (τ := Cert.Dh0Ideal.τ) (Cert.Dh0Ideal.main (F := Ideal))) ⟨m, fun _ => 0, g⟩ (fun r => (∀ c : Dev Cert.Dh0Ideal.nD,
      r.2.mem ((c.tc : Thread Cert.Dh0Ideal.nD Cert.Dh0Ideal.τ).loc Cert.Dh0Ideal.main_arg0) = m ((c.tc : Thread Cert.Dh0Ideal.nD Cert.Dh0Ideal.τ).loc Cert.Dh0Ideal.main_arg0)
      ∧ r.2.mem ((c.tc : Thread Cert.Dh0Ideal.nD Cert.Dh0Ideal.τ).loc Cert.Dh0Ideal.main_arg1) = m ((c.tc : Thread Cert.Dh0Ideal.nD Cert.Dh0Ideal.τ).loc Cert.Dh0Ideal.main_arg1)
      ∧ r.2.mem ((c.tc : Thread Cert.Dh0Ideal.nD Cert.Dh0Ideal.τ).loc Cert.Dh0Ideal.main_arg2) = m ((c.tc : Thread Cert.Dh0Ideal.nD Cert.Dh0Ideal.τ).loc Cert.Dh0Ideal.main_arg2)
      ∧ r.2.mem ((c.tc : Thread Cert.Dh0Ideal.nD Cert.Dh0Ideal.τ).loc Cert.Dh0Ideal.main_arg3) = m ((c.tc : Thread Cert.Dh0Ideal.nD Cert.Dh0Ideal.τ).loc Cert.Dh0Ideal.main_arg3)
      ∧ r.2.mem ((c.tc : Thread Cert.Dh0Ideal.nD Cert.Dh0Ideal.τ).loc Cert.Dh0Ideal.main_arg4) = m ((c.tc : Thread Cert.Dh0Ideal.nD Cert.Dh0Ideal.τ).loc Cert.Dh0Ideal.main_arg4)
      ∧ r.2.mem ((c.tc : Thread Cert.Dh0Ideal.nD Cert.Dh0Ideal.τ).loc Cert.Dh0Ideal.main_arg5) = m ((c.tc : Thread Cert.Dh0Ideal.nD Cert.Dh0Ideal.τ).loc Cert.Dh0Ideal.main_arg5)
      ∧ r.2.mem ((c.tc : Thread Cert.Dh0Ideal.nD Cert.Dh0Ideal.τ).loc Cert.Dh0Ideal.main_arg6) = m ((c.tc : Thread Cert.Dh0Ideal.nD Cert.Dh0Ideal.τ).loc Cert.Dh0Ideal.main_arg6)
      ∧ r.2.mem ((c.tc : Thread Cert.Dh0Ideal.nD Cert.Dh0Ideal.τ).loc Cert.Dh0Ideal.main_arg7) = m ((c.tc : Thread Cert.Dh0Ideal.nD Cert.Dh0Ideal.τ).loc Cert.Dh0Ideal.main_arg7))
      ∧ r.2.sem = fun _ => 0)

def quiescent_Dh0RefIdeal [hDh0RefIdeal : Cert.Dh0RefIdeal.Facts] : Prop :=
  ∀ (m : (ℓ : Loc Cert.Dh0RefIdeal.nD Cert.Dh0RefIdeal.τ Cert.Dh0RefIdeal.sig) → Buf (Elt Ideal) ℓ) (g : Dev Cert.Dh0RefIdeal.nD → PrngReg), Pre_Dh0RefIdeal m →
    θ_run (Cert.Dh0RefIdeal.defs (F := Ideal)) (onTc (τ := Cert.Dh0RefIdeal.τ) (Cert.Dh0RefIdeal.main (F := Ideal))) ⟨m, fun _ => 0, g⟩ (fun r => (∀ c : Dev Cert.Dh0RefIdeal.nD,
      r.2.mem ((c.tc : Thread Cert.Dh0RefIdeal.nD Cert.Dh0RefIdeal.τ).loc Cert.Dh0RefIdeal.main_arg0) = m ((c.tc : Thread Cert.Dh0RefIdeal.nD Cert.Dh0RefIdeal.τ).loc Cert.Dh0RefIdeal.main_arg0)
      ∧ r.2.mem ((c.tc : Thread Cert.Dh0RefIdeal.nD Cert.Dh0RefIdeal.τ).loc Cert.Dh0RefIdeal.main_arg1) = m ((c.tc : Thread Cert.Dh0RefIdeal.nD Cert.Dh0RefIdeal.τ).loc Cert.Dh0RefIdeal.main_arg1)
      ∧ r.2.mem ((c.tc : Thread Cert.Dh0RefIdeal.nD Cert.Dh0RefIdeal.τ).loc Cert.Dh0RefIdeal.main_arg2) = m ((c.tc : Thread Cert.Dh0RefIdeal.nD Cert.Dh0RefIdeal.τ).loc Cert.Dh0RefIdeal.main_arg2)
      ∧ r.2.mem ((c.tc : Thread Cert.Dh0RefIdeal.nD Cert.Dh0RefIdeal.τ).loc Cert.Dh0RefIdeal.main_arg3) = m ((c.tc : Thread Cert.Dh0RefIdeal.nD Cert.Dh0RefIdeal.τ).loc Cert.Dh0RefIdeal.main_arg3)
      ∧ r.2.mem ((c.tc : Thread Cert.Dh0RefIdeal.nD Cert.Dh0RefIdeal.τ).loc Cert.Dh0RefIdeal.main_arg4) = m ((c.tc : Thread Cert.Dh0RefIdeal.nD Cert.Dh0RefIdeal.τ).loc Cert.Dh0RefIdeal.main_arg4)
      ∧ r.2.mem ((c.tc : Thread Cert.Dh0RefIdeal.nD Cert.Dh0RefIdeal.τ).loc Cert.Dh0RefIdeal.main_arg5) = m ((c.tc : Thread Cert.Dh0RefIdeal.nD Cert.Dh0RefIdeal.τ).loc Cert.Dh0RefIdeal.main_arg5)
      ∧ r.2.mem ((c.tc : Thread Cert.Dh0RefIdeal.nD Cert.Dh0RefIdeal.τ).loc Cert.Dh0RefIdeal.main_arg6) = m ((c.tc : Thread Cert.Dh0RefIdeal.nD Cert.Dh0RefIdeal.τ).loc Cert.Dh0RefIdeal.main_arg6)
      ∧ r.2.mem ((c.tc : Thread Cert.Dh0RefIdeal.nD Cert.Dh0RefIdeal.τ).loc Cert.Dh0RefIdeal.main_arg7) = m ((c.tc : Thread Cert.Dh0RefIdeal.nD Cert.Dh0RefIdeal.τ).loc Cert.Dh0RefIdeal.main_arg7))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2)
      ∧ r.2.mem ((c.tc : Thread Cert.Win.nD Cert.Win.τ).loc Cert.Win.main_arg3) = m ((c.tc : Thread Cert.Win.nD Cert.Win.τ).loc Cert.Win.main_arg3)
      ∧ r.2.mem ((c.tc : Thread Cert.Win.nD Cert.Win.τ).loc Cert.Win.main_arg4) = m ((c.tc : Thread Cert.Win.nD Cert.Win.τ).loc Cert.Win.main_arg4)
      ∧ r.2.mem ((c.tc : Thread Cert.Win.nD Cert.Win.τ).loc Cert.Win.main_arg5) = m ((c.tc : Thread Cert.Win.nD Cert.Win.τ).loc Cert.Win.main_arg5)
      ∧ r.2.mem ((c.tc : Thread Cert.Win.nD Cert.Win.τ).loc Cert.Win.main_arg6) = m ((c.tc : Thread Cert.Win.nD Cert.Win.τ).loc Cert.Win.main_arg6))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
      ∧ r.2.mem ((c.tc : Thread Cert.WinIdeal.nD Cert.WinIdeal.τ).loc Cert.WinIdeal.main_arg4) = m ((c.tc : Thread Cert.WinIdeal.nD Cert.WinIdeal.τ).loc Cert.WinIdeal.main_arg4)
      ∧ r.2.mem ((c.tc : Thread Cert.WinIdeal.nD Cert.WinIdeal.τ).loc Cert.WinIdeal.main_arg5) = m ((c.tc : Thread Cert.WinIdeal.nD Cert.WinIdeal.τ).loc Cert.WinIdeal.main_arg5)
      ∧ r.2.mem ((c.tc : Thread Cert.WinIdeal.nD Cert.WinIdeal.τ).loc Cert.WinIdeal.main_arg6) = m ((c.tc : Thread Cert.WinIdeal.nD Cert.WinIdeal.τ).loc Cert.WinIdeal.main_arg6))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3)
      ∧ r.2.mem ((c.tc : Thread Cert.WinRefIdeal.nD Cert.WinRefIdeal.τ).loc Cert.WinRefIdeal.main_arg4) = m ((c.tc : Thread Cert.WinRefIdeal.nD Cert.WinRefIdeal.τ).loc Cert.WinRefIdeal.main_arg4)
      ∧ r.2.mem ((c.tc : Thread Cert.WinRefIdeal.nD Cert.WinRefIdeal.τ).loc Cert.WinRefIdeal.main_arg5) = m ((c.tc : Thread Cert.WinRefIdeal.nD Cert.WinRefIdeal.τ).loc Cert.WinRefIdeal.main_arg5)
      ∧ r.2.mem ((c.tc : Thread Cert.WinRefIdeal.nD Cert.WinRefIdeal.τ).loc Cert.WinRefIdeal.main_arg6) = m ((c.tc : Thread Cert.WinRefIdeal.nD Cert.WinRefIdeal.τ).loc Cert.WinRefIdeal.main_arg6))
      ∧ r.2.sem = fun _ => 0)

def quiescent_Wup [hWup : Cert.Wup.Facts] : Prop :=
  ∀ (m : (ℓ : Loc Cert.Wup.nD Cert.Wup.τ Cert.Wup.sig) → Buf (Elt Bits) ℓ) (g : Dev Cert.Wup.nD → PrngReg), Pre_Wup m →
    θ_run (Cert.Wup.defs (F := Bits)) (onTc (τ := Cert.Wup.τ) (Cert.Wup.main (F := Bits))) ⟨m, fun _ => 0, g⟩ (fun r => (∀ c : Dev Cert.Wup.nD,
      r.2.mem ((c.tc : Thread Cert.Wup.nD Cert.Wup.τ).loc Cert.Wup.main_arg0) = m ((c.tc : Thread Cert.Wup.nD Cert.Wup.τ).loc Cert.Wup.main_arg0)
      ∧ r.2.mem ((c.tc : Thread Cert.Wup.nD Cert.Wup.τ).loc Cert.Wup.main_arg1) = m ((c.tc : Thread Cert.Wup.nD Cert.Wup.τ).loc Cert.Wup.main_arg1)
      ∧ r.2.mem ((c.tc : Thread Cert.Wup.nD Cert.Wup.τ).loc Cert.Wup.main_arg2) = m ((c.tc : Thread Cert.Wup.nD Cert.Wup.τ).loc Cert.Wup.main_arg2))
      ∧ r.2.sem = fun _ => 0)

def quiescent_WupIdeal [hWupIdeal : Cert.WupIdeal.Facts] : Prop :=
  ∀ (m : (ℓ : Loc Cert.WupIdeal.nD Cert.WupIdeal.τ Cert.WupIdeal.sig) → Buf (Elt Ideal) ℓ) (g : Dev Cert.WupIdeal.nD → PrngReg), Pre_WupIdeal m →
    θ_run (Cert.WupIdeal.defs (F := Ideal)) (onTc (τ := Cert.WupIdeal.τ) (Cert.WupIdeal.main (F := Ideal))) ⟨m, fun _ => 0, g⟩ (fun r => (∀ c : Dev Cert.WupIdeal.nD,
      r.2.mem ((c.tc : Thread Cert.WupIdeal.nD Cert.WupIdeal.τ).loc Cert.WupIdeal.main_arg0) = m ((c.tc : Thread Cert.WupIdeal.nD Cert.WupIdeal.τ).loc Cert.WupIdeal.main_arg0)
      ∧ r.2.mem ((c.tc : Thread Cert.WupIdeal.nD Cert.WupIdeal.τ).loc Cert.WupIdeal.main_arg1) = m ((c.tc : Thread Cert.WupIdeal.nD Cert.WupIdeal.τ).loc Cert.WupIdeal.main_arg1)
      ∧ r.2.mem ((c.tc : Thread Cert.WupIdeal.nD Cert.WupIdeal.τ).loc Cert.WupIdeal.main_arg2) = m ((c.tc : Thread Cert.WupIdeal.nD Cert.WupIdeal.τ).loc Cert.WupIdeal.main_arg2))
      ∧ r.2.sem = fun _ => 0)

def quiescent_WupRefIdeal [hWupRefIdeal : Cert.WupRefIdeal.Facts] : Prop :=
  ∀ (m : (ℓ : Loc Cert.WupRefIdeal.nD Cert.WupRefIdeal.τ Cert.WupRefIdeal.sig) → Buf (Elt Ideal) ℓ) (g : Dev Cert.WupRefIdeal.nD → PrngReg), Pre_WupRefIdeal m →
    θ_run (Cert.WupRefIdeal.defs (F := Ideal)) (onTc (τ := Cert.WupRefIdeal.τ) (Cert.WupRefIdeal.main (F := Ideal))) ⟨m, fun _ => 0, g⟩ (fun r => (∀ c : Dev Cert.WupRefIdeal.nD,
      r.2.mem ((c.tc : Thread Cert.WupRefIdeal.nD Cert.WupRefIdeal.τ).loc Cert.WupRefIdeal.main_arg0) = m ((c.tc : Thread Cert.WupRefIdeal.nD Cert.WupRefIdeal.τ).loc Cert.WupRefIdeal.main_arg0)
      ∧ r.2.mem ((c.tc : Thread Cert.WupRefIdeal.nD Cert.WupRefIdeal.τ).loc Cert.WupRefIdeal.main_arg1) = m ((c.tc : Thread Cert.WupRefIdeal.nD Cert.WupRefIdeal.τ).loc Cert.WupRefIdeal.main_arg1)
      ∧ r.2.mem ((c.tc : Thread Cert.WupRefIdeal.nD Cert.WupRefIdeal.τ).loc Cert.WupRefIdeal.main_arg2) = m ((c.tc : Thread Cert.WupRefIdeal.nD Cert.WupRefIdeal.τ).loc Cert.WupRefIdeal.main_arg2))
      ∧ r.2.sem = fun _ => 0)

def quiescent_Wdown [hWdown : Cert.Wdown.Facts] : Prop :=
  ∀ (m : (ℓ : Loc Cert.Wdown.nD Cert.Wdown.τ Cert.Wdown.sig) → Buf (Elt Bits) ℓ) (g : Dev Cert.Wdown.nD → PrngReg), Pre_Wdown m →
    θ_run (Cert.Wdown.defs (F := Bits)) (onTc (τ := Cert.Wdown.τ) (Cert.Wdown.main (F := Bits))) ⟨m, fun _ => 0, g⟩ (fun r => (∀ c : Dev Cert.Wdown.nD,
      r.2.mem ((c.tc : Thread Cert.Wdown.nD Cert.Wdown.τ).loc Cert.Wdown.main_arg0) = m ((c.tc : Thread Cert.Wdown.nD Cert.Wdown.τ).loc Cert.Wdown.main_arg0)
      ∧ r.2.mem ((c.tc : Thread Cert.Wdown.nD Cert.Wdown.τ).loc Cert.Wdown.main_arg1) = m ((c.tc : Thread Cert.Wdown.nD Cert.Wdown.τ).loc Cert.Wdown.main_arg1))
      ∧ r.2.sem = fun _ => 0)

def quiescent_WdownIdeal [hWdownIdeal : Cert.WdownIdeal.Facts] : Prop :=
  ∀ (m : (ℓ : Loc Cert.WdownIdeal.nD Cert.WdownIdeal.τ Cert.WdownIdeal.sig) → Buf (Elt Ideal) ℓ) (g : Dev Cert.WdownIdeal.nD → PrngReg), Pre_WdownIdeal m →
    θ_run (Cert.WdownIdeal.defs (F := Ideal)) (onTc (τ := Cert.WdownIdeal.τ) (Cert.WdownIdeal.main (F := Ideal))) ⟨m, fun _ => 0, g⟩ (fun r => (∀ c : Dev Cert.WdownIdeal.nD,
      r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
      ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1))
      ∧ r.2.sem = fun _ => 0)

def quiescent_WdownRefIdeal [hWdownRefIdeal : Cert.WdownRefIdeal.Facts] : Prop :=
  ∀ (m : (ℓ : Loc Cert.WdownRefIdeal.nD Cert.WdownRefIdeal.τ Cert.WdownRefIdeal.sig) → Buf (Elt Ideal) ℓ) (g : Dev Cert.WdownRefIdeal.nD → PrngReg), Pre_WdownRefIdeal m →
    θ_run (Cert.WdownRefIdeal.defs (F := Ideal)) (onTc (τ := Cert.WdownRefIdeal.τ) (Cert.WdownRefIdeal.main (F := Ideal))) ⟨m, fun _ => 0, g⟩ (fun r => (∀ c : Dev Cert.WdownRefIdeal.nD,
      r.2.mem ((c.tc : Thread Cert.WdownRefIdeal.nD Cert.WdownRefIdeal.τ).loc Cert.WdownRefIdeal.main_arg0) = m ((c.tc : Thread Cert.WdownRefIdeal.nD Cert.WdownRefIdeal.τ).loc Cert.WdownRefIdeal.main_arg0)
      ∧ r.2.mem ((c.tc : Thread Cert.WdownRefIdeal.nD Cert.WdownRefIdeal.τ).loc Cert.WdownRefIdeal.main_arg1) = m ((c.tc : Thread Cert.WdownRefIdeal.nD Cert.WdownRefIdeal.τ).loc Cert.WdownRefIdeal.main_arg1))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1)
      ∧ r.2.mem ((c.tc : Thread Cert.Wout.nD Cert.Wout.τ).loc Cert.Wout.main_arg2) = m ((c.tc : Thread Cert.Wout.nD Cert.Wout.τ).loc Cert.Wout.main_arg2)
      ∧ r.2.mem ((c.tc : Thread Cert.Wout.nD Cert.Wout.τ).loc Cert.Wout.main_arg3) = m ((c.tc : Thread Cert.Wout.nD Cert.Wout.τ).loc Cert.Wout.main_arg3)
      ∧ r.2.mem ((c.tc : Thread Cert.Wout.nD Cert.Wout.τ).loc Cert.Wout.main_arg4) = m ((c.tc : Thread Cert.Wout.nD Cert.Wout.τ).loc Cert.Wout.main_arg4)
      ∧ r.2.mem ((c.tc : Thread Cert.Wout.nD Cert.Wout.τ).loc Cert.Wout.main_arg5) = m ((c.tc : Thread Cert.Wout.nD Cert.Wout.τ).loc Cert.Wout.main_arg5))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
      ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2)
      ∧ r.2.mem ((c.tc : Thread Cert.WoutIdeal.nD Cert.WoutIdeal.τ).loc Cert.WoutIdeal.main_arg3) = m ((c.tc : Thread Cert.WoutIdeal.nD Cert.WoutIdeal.τ).loc Cert.WoutIdeal.main_arg3)
      ∧ r.2.mem ((c.tc : Thread Cert.WoutIdeal.nD Cert.WoutIdeal.τ).loc Cert.WoutIdeal.main_arg4) = m ((c.tc : Thread Cert.WoutIdeal.nD Cert.WoutIdeal.τ).loc Cert.WoutIdeal.main_arg4)
      ∧ r.2.mem ((c.tc : Thread Cert.WoutIdeal.nD Cert.WoutIdeal.τ).loc Cert.WoutIdeal.main_arg5) = m ((c.tc : Thread Cert.WoutIdeal.nD Cert.WoutIdeal.τ).loc Cert.WoutIdeal.main_arg5))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1)
      ∧ r.2.mem ((c.tc : Thread Cert.WoutRefIdeal.nD Cert.WoutRefIdeal.τ).loc Cert.WoutRefIdeal.main_arg2) = m ((c.tc : Thread Cert.WoutRefIdeal.nD Cert.WoutRefIdeal.τ).loc Cert.WoutRefIdeal.main_arg2)
      ∧ r.2.mem ((c.tc : Thread Cert.WoutRefIdeal.nD Cert.WoutRefIdeal.τ).loc Cert.WoutRefIdeal.main_arg3) = m ((c.tc : Thread Cert.WoutRefIdeal.nD Cert.WoutRefIdeal.τ).loc Cert.WoutRefIdeal.main_arg3)
      ∧ r.2.mem ((c.tc : Thread Cert.WoutRefIdeal.nD Cert.WoutRefIdeal.τ).loc Cert.WoutRefIdeal.main_arg4) = m ((c.tc : Thread Cert.WoutRefIdeal.nD Cert.WoutRefIdeal.τ).loc Cert.WoutRefIdeal.main_arg4)
      ∧ r.2.mem ((c.tc : Thread Cert.WoutRefIdeal.nD Cert.WoutRefIdeal.τ).loc Cert.WoutRefIdeal.main_arg5) = m ((c.tc : Thread Cert.WoutRefIdeal.nD Cert.WoutRefIdeal.τ).loc Cert.WoutRefIdeal.main_arg5))
      ∧ r.2.sem = fun _ => 0)

def quiescent_Wple [hWple : Cert.Wple.Facts] : Prop :=
  ∀ (m : (ℓ : Loc Cert.Wple.nD Cert.Wple.τ Cert.Wple.sig) → Buf (Elt Bits) ℓ) (g : Dev Cert.Wple.nD → PrngReg), Pre_Wple m →
    θ_run (Cert.Wple.defs (F := Bits)) (onTc (τ := Cert.Wple.τ) (Cert.Wple.main (F := Bits))) ⟨m, fun _ => 0, g⟩ (fun r => (∀ c : Dev Cert.Wple.nD,
      r.2.mem ((c.tc : Thread Cert.Wple.nD Cert.Wple.τ).loc Cert.Wple.main_arg0) = m ((c.tc : Thread Cert.Wple.nD Cert.Wple.τ).loc Cert.Wple.main_arg0)
      ∧ r.2.mem ((c.tc : Thread Cert.Wple.nD Cert.Wple.τ).loc Cert.Wple.main_arg1) = m ((c.tc : Thread Cert.Wple.nD Cert.Wple.τ).loc Cert.Wple.main_arg1)
      ∧ r.2.mem ((c.tc : Thread Cert.Wple.nD Cert.Wple.τ).loc Cert.Wple.main_arg2) = m ((c.tc : Thread Cert.Wple.nD Cert.Wple.τ).loc Cert.Wple.main_arg2)
      ∧ r.2.mem ((c.tc : Thread Cert.Wple.nD Cert.Wple.τ).loc Cert.Wple.main_arg3) = m ((c.tc : Thread Cert.Wple.nD Cert.Wple.τ).loc Cert.Wple.main_arg3))
      ∧ r.2.sem = fun _ => 0)

def quiescent_WpleIdeal [hWpleIdeal : Cert.WpleIdeal.Facts] : Prop :=
  ∀ (m : (ℓ : Loc Cert.WpleIdeal.nD Cert.WpleIdeal.τ Cert.WpleIdeal.sig) → Buf (Elt Ideal) ℓ) (g : Dev Cert.WpleIdeal.nD → PrngReg), Pre_WpleIdeal m →
    θ_run (Cert.WpleIdeal.defs (F := Ideal)) (onTc (τ := Cert.WpleIdeal.τ) (Cert.WpleIdeal.main (F := Ideal))) ⟨m, fun _ => 0, g⟩ (fun r => (∀ c : Dev Cert.WpleIdeal.nD,
      r.2.mem ((c.tc : Thread Cert.WpleIdeal.nD Cert.WpleIdeal.τ).loc Cert.WpleIdeal.main_arg0) = m ((c.tc : Thread Cert.WpleIdeal.nD Cert.WpleIdeal.τ).loc Cert.WpleIdeal.main_arg0)
      ∧ r.2.mem ((c.tc : Thread Cert.WpleIdeal.nD Cert.WpleIdeal.τ).loc Cert.WpleIdeal.main_arg1) = m ((c.tc : Thread Cert.WpleIdeal.nD Cert.WpleIdeal.τ).loc Cert.WpleIdeal.main_arg1)
      ∧ r.2.mem ((c.tc : Thread Cert.WpleIdeal.nD Cert.WpleIdeal.τ).loc Cert.WpleIdeal.main_arg2) = m ((c.tc : Thread Cert.WpleIdeal.nD Cert.WpleIdeal.τ).loc Cert.WpleIdeal.main_arg2)
      ∧ r.2.mem ((c.tc : Thread Cert.WpleIdeal.nD Cert.WpleIdeal.τ).loc Cert.WpleIdeal.main_arg3) = m ((c.tc : Thread Cert.WpleIdeal.nD Cert.WpleIdeal.τ).loc Cert.WpleIdeal.main_arg3))
      ∧ r.2.sem = fun _ => 0)

def quiescent_WpleRefIdeal [hWpleRefIdeal : Cert.WpleRefIdeal.Facts] : Prop :=
  ∀ (m : (ℓ : Loc Cert.WpleRefIdeal.nD Cert.WpleRefIdeal.τ Cert.WpleRefIdeal.sig) → Buf (Elt Ideal) ℓ) (g : Dev Cert.WpleRefIdeal.nD → PrngReg), Pre_WpleRefIdeal m →
    θ_run (Cert.WpleRefIdeal.defs (F := Ideal)) (onTc (τ := Cert.WpleRefIdeal.τ) (Cert.WpleRefIdeal.main (F := Ideal))) ⟨m, fun _ => 0, g⟩ (fun r => (∀ c : Dev Cert.WpleRefIdeal.nD,
      r.2.mem ((c.tc : Thread Cert.WpleRefIdeal.nD Cert.WpleRefIdeal.τ).loc Cert.WpleRefIdeal.main_arg0) = m ((c.tc : Thread Cert.WpleRefIdeal.nD Cert.WpleRefIdeal.τ).loc Cert.WpleRefIdeal.main_arg0)
      ∧ r.2.mem ((c.tc : Thread Cert.WpleRefIdeal.nD Cert.WpleRefIdeal.τ).loc Cert.WpleRefIdeal.main_arg1) = m ((c.tc : Thread Cert.WpleRefIdeal.nD Cert.WpleRefIdeal.τ).loc Cert.WpleRefIdeal.main_arg1)
      ∧ r.2.mem ((c.tc : Thread Cert.WpleRefIdeal.nD Cert.WpleRefIdeal.τ).loc Cert.WpleRefIdeal.main_arg2) = m ((c.tc : Thread Cert.WpleRefIdeal.nD Cert.WpleRefIdeal.τ).loc Cert.WpleRefIdeal.main_arg2)
      ∧ r.2.mem ((c.tc : Thread Cert.WpleRefIdeal.nD Cert.WpleRefIdeal.τ).loc Cert.WpleRefIdeal.main_arg3) = m ((c.tc : Thread Cert.WpleRefIdeal.nD Cert.WpleRefIdeal.τ).loc Cert.WpleRefIdeal.main_arg3))
      ∧ r.2.sem = fun _ => 0)

def quiescent_Aout [hAout : Cert.Aout.Facts] : Prop :=
  ∀ (m : (ℓ : Loc Cert.Aout.nD Cert.Aout.τ Cert.Aout.sig) → Buf (Elt Bits) ℓ) (g : Dev Cert.Aout.nD → PrngReg), Pre_Aout m →
    θ_run (Cert.Aout.defs (F := Bits)) (onTc (τ := Cert.Aout.τ) (Cert.Aout.main (F := Bits))) ⟨m, fun _ => 0, g⟩ (fun r => (∀ c : Dev Cert.Aout.nD,
      r.2.mem ((c.tc : Thread Cert.Aout.nD Cert.Aout.τ).loc Cert.Aout.main_arg0) = m ((c.tc : Thread Cert.Aout.nD Cert.Aout.τ).loc Cert.Aout.main_arg0)
      ∧ r.2.mem ((c.tc : Thread Cert.Aout.nD Cert.Aout.τ).loc Cert.Aout.main_arg1) = m ((c.tc : Thread Cert.Aout.nD Cert.Aout.τ).loc Cert.Aout.main_arg1))
      ∧ r.2.sem = fun _ => 0)

def quiescent_AoutIdeal [hAoutIdeal : Cert.AoutIdeal.Facts] : Prop :=
  ∀ (m : (ℓ : Loc Cert.AoutIdeal.nD Cert.AoutIdeal.τ Cert.AoutIdeal.sig) → Buf (Elt Ideal) ℓ) (g : Dev Cert.AoutIdeal.nD → PrngReg), Pre_AoutIdeal m →
    θ_run (Cert.AoutIdeal.defs (F := Ideal)) (onTc (τ := Cert.AoutIdeal.τ) (Cert.AoutIdeal.main (F := Ideal))) ⟨m, fun _ => 0, g⟩ (fun r => (∀ c : Dev Cert.AoutIdeal.nD,
      r.2.mem ((c.tc : Thread Cert.AoutIdeal.nD Cert.AoutIdeal.τ).loc Cert.AoutIdeal.main_arg0) = m ((c.tc : Thread Cert.AoutIdeal.nD Cert.AoutIdeal.τ).loc Cert.AoutIdeal.main_arg0)
      ∧ r.2.mem ((c.tc : Thread Cert.AoutIdeal.nD Cert.AoutIdeal.τ).loc Cert.AoutIdeal.main_arg1) = m ((c.tc : Thread Cert.AoutIdeal.nD Cert.AoutIdeal.τ).loc Cert.AoutIdeal.main_arg1))
      ∧ r.2.sem = fun _ => 0)

def quiescent_AoutRefIdeal [hAoutRefIdeal : Cert.AoutRefIdeal.Facts] : Prop :=
  ∀ (m : (ℓ : Loc Cert.AoutRefIdeal.nD Cert.AoutRefIdeal.τ Cert.AoutRefIdeal.sig) → Buf (Elt Ideal) ℓ) (g : Dev Cert.AoutRefIdeal.nD → PrngReg), Pre_AoutRefIdeal m →
    θ_run (Cert.AoutRefIdeal.defs (F := Ideal)) (onTc (τ := Cert.AoutRefIdeal.τ) (Cert.AoutRefIdeal.main (F := Ideal))) ⟨m, fun _ => 0, g⟩ (fun r => (∀ c : Dev Cert.AoutRefIdeal.nD,
      r.2.mem ((c.tc : Thread Cert.AoutRefIdeal.nD Cert.AoutRefIdeal.τ).loc Cert.AoutRefIdeal.main_arg0) = m ((c.tc : Thread Cert.AoutRefIdeal.nD Cert.AoutRefIdeal.τ).loc Cert.AoutRefIdeal.main_arg0)
      ∧ r.2.mem ((c.tc : Thread Cert.AoutRefIdeal.nD Cert.AoutRefIdeal.τ).loc Cert.AoutRefIdeal.main_arg1) = m ((c.tc : Thread Cert.AoutRefIdeal.nD Cert.AoutRefIdeal.τ).loc Cert.AoutRefIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2)
      ∧ r.2.mem ((c.tc : Thread Cert.DownFwd.nD Cert.DownFwd.τ).loc Cert.DownFwd.main_arg3) = m ((c.tc : Thread Cert.DownFwd.nD Cert.DownFwd.τ).loc Cert.DownFwd.main_arg3)
      ∧ r.2.mem ((c.tc : Thread Cert.DownFwd.nD Cert.DownFwd.τ).loc Cert.DownFwd.main_arg4) = m ((c.tc : Thread Cert.DownFwd.nD Cert.DownFwd.τ).loc Cert.DownFwd.main_arg4)
      ∧ r.2.mem ((c.tc : Thread Cert.DownFwd.nD Cert.DownFwd.τ).loc Cert.DownFwd.main_arg5) = m ((c.tc : Thread Cert.DownFwd.nD Cert.DownFwd.τ).loc Cert.DownFwd.main_arg5)
      ∧ r.2.mem ((c.tc : Thread Cert.DownFwd.nD Cert.DownFwd.τ).loc Cert.DownFwd.main_arg6) = m ((c.tc : Thread Cert.DownFwd.nD Cert.DownFwd.τ).loc Cert.DownFwd.main_arg6)
      ∧ r.2.mem ((c.tc : Thread Cert.DownFwd.nD Cert.DownFwd.τ).loc Cert.DownFwd.main_arg7) = m ((c.tc : Thread Cert.DownFwd.nD Cert.DownFwd.τ).loc Cert.DownFwd.main_arg7)
      ∧ r.2.mem ((c.tc : Thread Cert.DownFwd.nD Cert.DownFwd.τ).loc Cert.DownFwd.main_arg8) = m ((c.tc : Thread Cert.DownFwd.nD Cert.DownFwd.τ).loc Cert.DownFwd.main_arg8))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
      ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3)
      ∧ r.2.mem ((c.tc : Thread Cert.DownFwdIdeal.nD Cert.DownFwdIdeal.τ).loc Cert.DownFwdIdeal.main_arg4) = m ((c.tc : Thread Cert.DownFwdIdeal.nD Cert.DownFwdIdeal.τ).loc Cert.DownFwdIdeal.main_arg4)
      ∧ r.2.mem ((c.tc : Thread Cert.DownFwdIdeal.nD Cert.DownFwdIdeal.τ).loc Cert.DownFwdIdeal.main_arg5) = m ((c.tc : Thread Cert.DownFwdIdeal.nD Cert.DownFwdIdeal.τ).loc Cert.DownFwdIdeal.main_arg5)
      ∧ r.2.mem ((c.tc : Thread Cert.DownFwdIdeal.nD Cert.DownFwdIdeal.τ).loc Cert.DownFwdIdeal.main_arg6) = m ((c.tc : Thread Cert.DownFwdIdeal.nD Cert.DownFwdIdeal.τ).loc Cert.DownFwdIdeal.main_arg6)
      ∧ r.2.mem ((c.tc : Thread Cert.DownFwdIdeal.nD Cert.DownFwdIdeal.τ).loc Cert.DownFwdIdeal.main_arg7) = m ((c.tc : Thread Cert.DownFwdIdeal.nD Cert.DownFwdIdeal.τ).loc Cert.DownFwdIdeal.main_arg7)
      ∧ r.2.mem ((c.tc : Thread Cert.DownFwdIdeal.nD Cert.DownFwdIdeal.τ).loc Cert.DownFwdIdeal.main_arg8) = m ((c.tc : Thread Cert.DownFwdIdeal.nD Cert.DownFwdIdeal.τ).loc Cert.DownFwdIdeal.main_arg8))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2)
      ∧ r.2.mem ((c.tc : Thread Cert.DownFwdRefIdeal.nD Cert.DownFwdRefIdeal.τ).loc Cert.DownFwdRefIdeal.main_arg3) = m ((c.tc : Thread Cert.DownFwdRefIdeal.nD Cert.DownFwdRefIdeal.τ).loc Cert.DownFwdRefIdeal.main_arg3)
      ∧ r.2.mem ((c.tc : Thread Cert.DownFwdRefIdeal.nD Cert.DownFwdRefIdeal.τ).loc Cert.DownFwdRefIdeal.main_arg4) = m ((c.tc : Thread Cert.DownFwdRefIdeal.nD Cert.DownFwdRefIdeal.τ).loc Cert.DownFwdRefIdeal.main_arg4)
      ∧ r.2.mem ((c.tc : Thread Cert.DownFwdRefIdeal.nD Cert.DownFwdRefIdeal.τ).loc Cert.DownFwdRefIdeal.main_arg5) = m ((c.tc : Thread Cert.DownFwdRefIdeal.nD Cert.DownFwdRefIdeal.τ).loc Cert.DownFwdRefIdeal.main_arg5)
      ∧ r.2.mem ((c.tc : Thread Cert.DownFwdRefIdeal.nD Cert.DownFwdRefIdeal.τ).loc Cert.DownFwdRefIdeal.main_arg6) = m ((c.tc : Thread Cert.DownFwdRefIdeal.nD Cert.DownFwdRefIdeal.τ).loc Cert.DownFwdRefIdeal.main_arg6)
      ∧ r.2.mem ((c.tc : Thread Cert.DownFwdRefIdeal.nD Cert.DownFwdRefIdeal.τ).loc Cert.DownFwdRefIdeal.main_arg7) = m ((c.tc : Thread Cert.DownFwdRefIdeal.nD Cert.DownFwdRefIdeal.τ).loc Cert.DownFwdRefIdeal.main_arg7)
      ∧ r.2.mem ((c.tc : Thread Cert.DownFwdRefIdeal.nD Cert.DownFwdRefIdeal.τ).loc Cert.DownFwdRefIdeal.main_arg8) = m ((c.tc : Thread Cert.DownFwdRefIdeal.nD Cert.DownFwdRefIdeal.τ).loc Cert.DownFwdRefIdeal.main_arg8))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v1_0)) (v1 : (c : Dev Cert.MergeIdeal.nD) → Buf (Elt Ideal) ((c.tc : Thread Cert.MergeIdeal.nD Cert.MergeIdeal.τ).loc Cert.MergeIdeal.main_v1_1)) (v2 : (c : Dev Cert.MergeIdeal.nD) → Buf (Elt Ideal) ((c.tc : Thread Cert.MergeIdeal.nD Cert.MergeIdeal.τ).loc Cert.MergeIdeal.main_v1_2)) (v3 : (c : Dev Cert.MergeIdeal.nD) → Buf (Elt Ideal) ((c.tc : Thread Cert.MergeIdeal.nD Cert.MergeIdeal.τ).loc Cert.MergeIdeal.main_v1_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1_0) = v0 c
          ∧ r.2.mem ((c.tc : Thread Cert.MergeIdeal.nD Cert.MergeIdeal.τ).loc Cert.MergeIdeal.main_v1_1) = v1 c
          ∧ r.2.mem ((c.tc : Thread Cert.MergeIdeal.nD Cert.MergeIdeal.τ).loc Cert.MergeIdeal.main_v1_2) = v2 c
          ∧ r.2.mem ((c.tc : Thread Cert.MergeIdeal.nD Cert.MergeIdeal.τ).loc Cert.MergeIdeal.main_v1_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v37) = v0 c
          ∧ r.2.mem ((c.tc : Thread Cert.MergeRefIdeal.nD Cert.MergeRefIdeal.τ).loc Cert.MergeRefIdeal.main_v38) = v1 c
          ∧ r.2.mem ((c.tc : Thread Cert.MergeRefIdeal.nD Cert.MergeRefIdeal.τ).loc Cert.MergeRefIdeal.main_v39) = v2 c
          ∧ r.2.mem ((c.tc : Thread Cert.MergeRefIdeal.nD Cert.MergeRefIdeal.τ).loc Cert.MergeRefIdeal.main_v40) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Ln2_Ln2Ideal : Prop :=
  True

def algebraic_Ln2Ideal_Ln2RefIdeal_pre_finite_ln2 [hLn2Ideal : Cert.Ln2Ideal.Facts] [hLn2RefIdeal : Cert.Ln2RefIdeal.Facts] [hPre_finite_ln2 : Cert.Pre_finite_ln2.Facts] : Prop :=
  ∀ (m : (ℓ : Loc Cert.Ln2Ideal.nD Cert.Ln2Ideal.τ Cert.Ln2Ideal.sig) → Buf (Elt Ideal) ℓ) (g : Dev Cert.Ln2Ideal.nD → PrngReg)
    (m' : (ℓ : Loc Cert.Ln2RefIdeal.nD Cert.Ln2RefIdeal.τ Cert.Ln2RefIdeal.sig) → Buf (Elt Ideal) ℓ) (g' : Dev Cert.Ln2RefIdeal.nD → PrngReg), Pre_Ln2Ideal_finite_ln2 m →
    (∀ c : Dev Cert.Ln2Ideal.nD,
      m' ((c.tc : Thread Cert.Ln2RefIdeal.nD Cert.Ln2RefIdeal.τ).loc Cert.Ln2RefIdeal.main_arg0) = m ((c.tc : Thread Cert.Ln2Ideal.nD Cert.Ln2Ideal.τ).loc Cert.Ln2Ideal.main_arg0)
      ∧ m' ((c.tc : Thread Cert.Ln2RefIdeal.nD Cert.Ln2RefIdeal.τ).loc Cert.Ln2RefIdeal.main_arg1) = m ((c.tc : Thread Cert.Ln2Ideal.nD Cert.Ln2Ideal.τ).loc Cert.Ln2Ideal.main_arg1)
      ∧ m' ((c.tc : Thread Cert.Ln2RefIdeal.nD Cert.Ln2RefIdeal.τ).loc Cert.Ln2RefIdeal.main_arg2) = m ((c.tc : Thread Cert.Ln2Ideal.nD Cert.Ln2Ideal.τ).loc Cert.Ln2Ideal.main_arg2)
      ∧ m' ((c.tc : Thread Cert.Ln2RefIdeal.nD Cert.Ln2RefIdeal.τ).loc Cert.Ln2RefIdeal.main_arg3) = m ((c.tc : Thread Cert.Ln2Ideal.nD Cert.Ln2Ideal.τ).loc Cert.Ln2Ideal.main_arg3)
      ∧ m' ((c.tc : Thread Cert.Ln2RefIdeal.nD Cert.Ln2RefIdeal.τ).loc Cert.Ln2RefIdeal.main_arg4) = m ((c.tc : Thread Cert.Ln2Ideal.nD Cert.Ln2Ideal.τ).loc Cert.Ln2Ideal.main_arg4)) →
    ∃ (v0 : (c : Dev Cert.Ln2Ideal.nD) → Buf (Elt Ideal) ((c.tc : Thread Cert.Ln2Ideal.nD Cert.Ln2Ideal.τ).loc Cert.Ln2Ideal.main_v1_0)) (v1 : (c : Dev Cert.Ln2Ideal.nD) → Buf (Elt Ideal) ((c.tc : Thread Cert.Ln2Ideal.nD Cert.Ln2Ideal.τ).loc Cert.Ln2Ideal.main_v1_1)) (v2 : (c : Dev Cert.Ln2Ideal.nD) → Buf (Elt Ideal) ((c.tc : Thread Cert.Ln2Ideal.nD Cert.Ln2Ideal.τ).loc Cert.Ln2Ideal.main_v1_2)) (v3 : (c : Dev Cert.Ln2Ideal.nD) → Buf (Elt Ideal) ((c.tc : Thread Cert.Ln2Ideal.nD Cert.Ln2Ideal.τ).loc Cert.Ln2Ideal.main_v1_3)) (v4 : (c : Dev Cert.Ln2Ideal.nD) → Buf (Elt Ideal) ((c.tc : Thread Cert.Ln2Ideal.nD Cert.Ln2Ideal.τ).loc Cert.Ln2Ideal.main_v1_4)) (v5 : (c : Dev Cert.Ln2Ideal.nD) → Buf (Elt Ideal) ((c.tc : Thread Cert.Ln2Ideal.nD Cert.Ln2Ideal.τ).loc Cert.Ln2Ideal.main_v1_5)),
      θ_run (Cert.Ln2Ideal.defs (F := Ideal)) (onTc (τ := Cert.Ln2Ideal.τ) (Cert.Ln2Ideal.main (F := Ideal))) ⟨m, fun _ => 0, g⟩ (fun r => ∀ c : Dev Cert.Ln2Ideal.nD,
          r.2.mem ((c.tc : Thread Cert.Ln2Ideal.nD Cert.Ln2Ideal.τ).loc Cert.Ln2Ideal.main_v1_0) = v0 c
          ∧ r.2.mem ((c.tc : Thread Cert.Ln2Ideal.nD Cert.Ln2Ideal.τ).loc Cert.Ln2Ideal.main_v1_1) = v1 c
          ∧ r.2.mem ((c.tc : Thread Cert.Ln2Ideal.nD Cert.Ln2Ideal.τ).loc Cert.Ln2Ideal.main_v1_2) = v2 c
          ∧ r.2.mem ((c.tc : Thread Cert.Ln2Ideal.nD Cert.Ln2Ideal.τ).loc Cert.Ln2Ideal.main_v1_3) = v3 c
          ∧ r.2.mem ((c.tc : Thread Cert.Ln2Ideal.nD Cert.Ln2Ideal.τ).loc Cert.Ln2Ideal.main_v1_4) = v4 c
          ∧ r.2.mem ((c.tc : Thread Cert.Ln2Ideal.nD Cert.Ln2Ideal.τ).loc Cert.Ln2Ideal.main_v1_5) = v5 c
          ∧ r.2.mem ((c.tc : Thread Cert.Ln2Ideal.nD Cert.Ln2Ideal.τ).loc Cert.Ln2Ideal.main_arg0) = m ((c.tc : Thread Cert.Ln2Ideal.nD Cert.Ln2Ideal.τ).loc Cert.Ln2Ideal.main_arg0)
          ∧ r.2.mem ((c.tc : Thread Cert.Ln2Ideal.nD Cert.Ln2Ideal.τ).loc Cert.Ln2Ideal.main_arg1) = m ((c.tc : Thread Cert.Ln2Ideal.nD Cert.Ln2Ideal.τ).loc Cert.Ln2Ideal.main_arg1)
          ∧ r.2.mem ((c.tc : Thread Cert.Ln2Ideal.nD Cert.Ln2Ideal.τ).loc Cert.Ln2Ideal.main_arg2) = m ((c.tc : Thread Cert.Ln2Ideal.nD Cert.Ln2Ideal.τ).loc Cert.Ln2Ideal.main_arg2)
          ∧ r.2.mem ((c.tc : Thread Cert.Ln2Ideal.nD Cert.Ln2Ideal.τ).loc Cert.Ln2Ideal.main_arg3) = m ((c.tc : Thread Cert.Ln2Ideal.nD Cert.Ln2Ideal.τ).loc Cert.Ln2Ideal.main_arg3)
          ∧ r.2.mem ((c.tc : Thread Cert.Ln2Ideal.nD Cert.Ln2Ideal.τ).loc Cert.Ln2Ideal.main_arg4) = m ((c.tc : Thread Cert.Ln2Ideal.nD Cert.Ln2Ideal.τ).loc Cert.Ln2Ideal.main_arg4))
      ∧ θ_run (Cert.Ln2RefIdeal.defs (F := Ideal)) (onTc (τ := Cert.Ln2RefIdeal.τ) (Cert.Ln2RefIdeal.main (F := Ideal))) ⟨m', fun _ => 0, g'⟩ (fun r => ∀ c : Dev Cert.Ln2RefIdeal.nD,
          r.2.mem ((c.tc : Thread Cert.Ln2RefIdeal.nD Cert.Ln2RefIdeal.τ).loc Cert.Ln2RefIdeal.main_v59) = v0 c
          ∧ r.2.mem ((c.tc : Thread Cert.Ln2RefIdeal.nD Cert.Ln2RefIdeal.τ).loc Cert.Ln2RefIdeal.main_v73) = v1 c
          ∧ r.2.mem ((c.tc : Thread Cert.Ln2RefIdeal.nD Cert.Ln2RefIdeal.τ).loc Cert.Ln2RefIdeal.main_v74) = v2 c
          ∧ r.2.mem ((c.tc : Thread Cert.Ln2RefIdeal.nD Cert.Ln2RefIdeal.τ).loc Cert.Ln2RefIdeal.main_v75) = v3 c
          ∧ r.2.mem ((c.tc : Thread Cert.Ln2RefIdeal.nD Cert.Ln2RefIdeal.τ).loc Cert.Ln2RefIdeal.main_v76) = v4 c
          ∧ r.2.mem ((c.tc : Thread Cert.Ln2RefIdeal.nD Cert.Ln2RefIdeal.τ).loc Cert.Ln2RefIdeal.main_v77) = v5 c
          ∧ r.2.mem ((c.tc : Thread Cert.Ln2RefIdeal.nD Cert.Ln2RefIdeal.τ).loc Cert.Ln2RefIdeal.main_arg0) = m' ((c.tc : Thread Cert.Ln2RefIdeal.nD Cert.Ln2RefIdeal.τ).loc Cert.Ln2RefIdeal.main_arg0)
          ∧ r.2.mem ((c.tc : Thread Cert.Ln2RefIdeal.nD Cert.Ln2RefIdeal.τ).loc Cert.Ln2RefIdeal.main_arg1) = m' ((c.tc : Thread Cert.Ln2RefIdeal.nD Cert.Ln2RefIdeal.τ).loc Cert.Ln2RefIdeal.main_arg1)
          ∧ r.2.mem ((c.tc : Thread Cert.Ln2RefIdeal.nD Cert.Ln2RefIdeal.τ).loc Cert.Ln2RefIdeal.main_arg2) = m' ((c.tc : Thread Cert.Ln2RefIdeal.nD Cert.Ln2RefIdeal.τ).loc Cert.Ln2RefIdeal.main_arg2)
          ∧ r.2.mem ((c.tc : Thread Cert.Ln2RefIdeal.nD Cert.Ln2RefIdeal.τ).loc Cert.Ln2RefIdeal.main_arg3) = m' ((c.tc : Thread Cert.Ln2RefIdeal.nD Cert.Ln2RefIdeal.τ).loc Cert.Ln2RefIdeal.main_arg3)
          ∧ r.2.mem ((c.tc : Thread Cert.Ln2RefIdeal.nD Cert.Ln2RefIdeal.τ).loc Cert.Ln2RefIdeal.main_arg4) = m' ((c.tc : Thread Cert.Ln2RefIdeal.nD Cert.Ln2RefIdeal.τ).loc Cert.Ln2RefIdeal.main_arg4))

def preserves_Ln1_Ln1Ideal : Prop :=
  True

def algebraic_Ln1Ideal_Ln1RefIdeal_pre_finite_ln1 [hLn1Ideal : Cert.Ln1Ideal.Facts] [hLn1RefIdeal : Cert.Ln1RefIdeal.Facts] [hPre_finite_ln1 : Cert.Pre_finite_ln1.Facts] : Prop :=
  ∀ (m : (ℓ : Loc Cert.Ln1Ideal.nD Cert.Ln1Ideal.τ Cert.Ln1Ideal.sig) → Buf (Elt Ideal) ℓ) (g : Dev Cert.Ln1Ideal.nD → PrngReg)
    (m' : (ℓ : Loc Cert.Ln1RefIdeal.nD Cert.Ln1RefIdeal.τ Cert.Ln1RefIdeal.sig) → Buf (Elt Ideal) ℓ) (g' : Dev Cert.Ln1RefIdeal.nD → PrngReg), Pre_Ln1Ideal_finite_ln1 m →
    (∀ c : Dev Cert.Ln1Ideal.nD,
      m' ((c.tc : Thread Cert.Ln1RefIdeal.nD Cert.Ln1RefIdeal.τ).loc Cert.Ln1RefIdeal.main_arg0) = m ((c.tc : Thread Cert.Ln1Ideal.nD Cert.Ln1Ideal.τ).loc Cert.Ln1Ideal.main_arg0)
      ∧ m' ((c.tc : Thread Cert.Ln1RefIdeal.nD Cert.Ln1RefIdeal.τ).loc Cert.Ln1RefIdeal.main_arg1) = m ((c.tc : Thread Cert.Ln1Ideal.nD Cert.Ln1Ideal.τ).loc Cert.Ln1Ideal.main_arg1)
      ∧ m' ((c.tc : Thread Cert.Ln1RefIdeal.nD Cert.Ln1RefIdeal.τ).loc Cert.Ln1RefIdeal.main_arg2) = m ((c.tc : Thread Cert.Ln1Ideal.nD Cert.Ln1Ideal.τ).loc Cert.Ln1Ideal.main_arg2)
      ∧ m' ((c.tc : Thread Cert.Ln1RefIdeal.nD Cert.Ln1RefIdeal.τ).loc Cert.Ln1RefIdeal.main_arg3) = m ((c.tc : Thread Cert.Ln1Ideal.nD Cert.Ln1Ideal.τ).loc Cert.Ln1Ideal.main_arg3)
      ∧ m' ((c.tc : Thread Cert.Ln1RefIdeal.nD Cert.Ln1RefIdeal.τ).loc Cert.Ln1RefIdeal.main_arg4) = m ((c.tc : Thread Cert.Ln1Ideal.nD Cert.Ln1Ideal.τ).loc Cert.Ln1Ideal.main_arg4)
      ∧ m' ((c.tc : Thread Cert.Ln1RefIdeal.nD Cert.Ln1RefIdeal.τ).loc Cert.Ln1RefIdeal.main_arg5) = m ((c.tc : Thread Cert.Ln1Ideal.nD Cert.Ln1Ideal.τ).loc Cert.Ln1Ideal.main_arg5)
      ∧ m' ((c.tc : Thread Cert.Ln1RefIdeal.nD Cert.Ln1RefIdeal.τ).loc Cert.Ln1RefIdeal.main_arg6) = m ((c.tc : Thread Cert.Ln1Ideal.nD Cert.Ln1Ideal.τ).loc Cert.Ln1Ideal.main_arg6)
      ∧ m' ((c.tc : Thread Cert.Ln1RefIdeal.nD Cert.Ln1RefIdeal.τ).loc Cert.Ln1RefIdeal.main_arg7) = m ((c.tc : Thread Cert.Ln1Ideal.nD Cert.Ln1Ideal.τ).loc Cert.Ln1Ideal.main_arg7)) →
    ∃ (v0 : (c : Dev Cert.Ln1Ideal.nD) → Buf (Elt Ideal) ((c.tc : Thread Cert.Ln1Ideal.nD Cert.Ln1Ideal.τ).loc Cert.Ln1Ideal.main_v8_0)) (v1 : (c : Dev Cert.Ln1Ideal.nD) → Buf (Elt Ideal) ((c.tc : Thread Cert.Ln1Ideal.nD Cert.Ln1Ideal.τ).loc Cert.Ln1Ideal.main_v8_1)) (v2 : (c : Dev Cert.Ln1Ideal.nD) → Buf (Elt Ideal) ((c.tc : Thread Cert.Ln1Ideal.nD Cert.Ln1Ideal.τ).loc Cert.Ln1Ideal.main_v8_2)) (v3 : (c : Dev Cert.Ln1Ideal.nD) → Buf (Elt Ideal) ((c.tc : Thread Cert.Ln1Ideal.nD Cert.Ln1Ideal.τ).loc Cert.Ln1Ideal.main_v8_3)),
      θ_run (Cert.Ln1Ideal.defs (F := Ideal)) (onTc (τ := Cert.Ln1Ideal.τ) (Cert.Ln1Ideal.main (F := Ideal))) ⟨m, fun _ => 0, g⟩ (fun r => ∀ c : Dev Cert.Ln1Ideal.nD,
          r.2.mem ((c.tc : Thread Cert.Ln1Ideal.nD Cert.Ln1Ideal.τ).loc Cert.Ln1Ideal.main_v8_0) = v0 c
          ∧ r.2.mem ((c.tc : Thread Cert.Ln1Ideal.nD Cert.Ln1Ideal.τ).loc Cert.Ln1Ideal.main_v8_1) = v1 c
          ∧ r.2.mem ((c.tc : Thread Cert.Ln1Ideal.nD Cert.Ln1Ideal.τ).loc Cert.Ln1Ideal.main_v8_2) = v2 c
          ∧ r.2.mem ((c.tc : Thread Cert.Ln1Ideal.nD Cert.Ln1Ideal.τ).loc Cert.Ln1Ideal.main_v8_3) = v3 c
          ∧ r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
          ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1)
          ∧ r.2.mem ((c.tc : Thread Cert.Ln1Ideal.nD Cert.Ln1Ideal.τ).loc Cert.Ln1Ideal.main_arg2) = m ((c.tc : Thread Cert.Ln1Ideal.nD Cert.Ln1Ideal.τ).loc Cert.Ln1Ideal.main_arg2)
          ∧ r.2.mem ((c.tc : Thread Cert.Ln1Ideal.nD Cert.Ln1Ideal.τ).loc Cert.Ln1Ideal.main_arg3) = m ((c.tc : Thread Cert.Ln1Ideal.nD Cert.Ln1Ideal.τ).loc Cert.Ln1Ideal.main_arg3)
          ∧ r.2.mem ((c.tc : Thread Cert.Ln1Ideal.nD Cert.Ln1Ideal.τ).loc Cert.Ln1Ideal.main_arg4) = m ((c.tc : Thread Cert.Ln1Ideal.nD Cert.Ln1Ideal.τ).loc Cert.Ln1Ideal.main_arg4)
          ∧ r.2.mem ((c.tc : Thread Cert.Ln1Ideal.nD Cert.Ln1Ideal.τ).loc Cert.Ln1Ideal.main_arg5) = m ((c.tc : Thread Cert.Ln1Ideal.nD Cert.Ln1Ideal.τ).loc Cert.Ln1Ideal.main_arg5)
          ∧ r.2.mem ((c.tc : Thread Cert.Ln1Ideal.nD Cert.Ln1Ideal.τ).loc Cert.Ln1Ideal.main_arg6) = m ((c.tc : Thread Cert.Ln1Ideal.nD Cert.Ln1Ideal.τ).loc Cert.Ln1Ideal.main_arg6)
          ∧ r.2.mem ((c.tc : Thread Cert.Ln1Ideal.nD Cert.Ln1Ideal.τ).loc Cert.Ln1Ideal.main_arg7) = m ((c.tc : Thread Cert.Ln1Ideal.nD Cert.Ln1Ideal.τ).loc Cert.Ln1Ideal.main_arg7))
      ∧ θ_run (Cert.Ln1RefIdeal.defs (F := Ideal)) (onTc (τ := Cert.Ln1RefIdeal.τ) (Cert.Ln1RefIdeal.main (F := Ideal))) ⟨m', fun _ => 0, g'⟩ (fun r => ∀ c : Dev Cert.Ln1RefIdeal.nD,
          r.2.mem ((c.tc : Thread Cert.Ln1RefIdeal.nD Cert.Ln1RefIdeal.τ).loc Cert.Ln1RefIdeal.main_v74) = v0 c
          ∧ r.2.mem ((c.tc : Thread Cert.Ln1RefIdeal.nD Cert.Ln1RefIdeal.τ).loc Cert.Ln1RefIdeal.main_v75) = v1 c
          ∧ r.2.mem ((c.tc : Thread Cert.Ln1RefIdeal.nD Cert.Ln1RefIdeal.τ).loc Cert.Ln1RefIdeal.main_v76) = v2 c
          ∧ r.2.mem ((c.tc : Thread Cert.Ln1RefIdeal.nD Cert.Ln1RefIdeal.τ).loc Cert.Ln1RefIdeal.main_v77) = v3 c
          ∧ r.2.mem ((c.tc : Thread Cert.Ln1RefIdeal.nD Cert.Ln1RefIdeal.τ).loc Cert.Ln1RefIdeal.main_arg0) = m' ((c.tc : Thread Cert.Ln1RefIdeal.nD Cert.Ln1RefIdeal.τ).loc Cert.Ln1RefIdeal.main_arg0)
          ∧ r.2.mem ((c.tc : Thread Cert.Ln1RefIdeal.nD Cert.Ln1RefIdeal.τ).loc Cert.Ln1RefIdeal.main_arg1) = m' ((c.tc : Thread Cert.Ln1RefIdeal.nD Cert.Ln1RefIdeal.τ).loc Cert.Ln1RefIdeal.main_arg1)
          ∧ r.2.mem ((c.tc : Thread Cert.Ln1RefIdeal.nD Cert.Ln1RefIdeal.τ).loc Cert.Ln1RefIdeal.main_arg2) = m' ((c.tc : Thread Cert.Ln1RefIdeal.nD Cert.Ln1RefIdeal.τ).loc Cert.Ln1RefIdeal.main_arg2)
          ∧ r.2.mem ((c.tc : Thread Cert.Ln1RefIdeal.nD Cert.Ln1RefIdeal.τ).loc Cert.Ln1RefIdeal.main_arg3) = m' ((c.tc : Thread Cert.Ln1RefIdeal.nD Cert.Ln1RefIdeal.τ).loc Cert.Ln1RefIdeal.main_arg3)
          ∧ r.2.mem ((c.tc : Thread Cert.Ln1RefIdeal.nD Cert.Ln1RefIdeal.τ).loc Cert.Ln1RefIdeal.main_arg4) = m' ((c.tc : Thread Cert.Ln1RefIdeal.nD Cert.Ln1RefIdeal.τ).loc Cert.Ln1RefIdeal.main_arg4)
          ∧ r.2.mem ((c.tc : Thread Cert.Ln1RefIdeal.nD Cert.Ln1RefIdeal.τ).loc Cert.Ln1RefIdeal.main_arg5) = m' ((c.tc : Thread Cert.Ln1RefIdeal.nD Cert.Ln1RefIdeal.τ).loc Cert.Ln1RefIdeal.main_arg5)
          ∧ r.2.mem ((c.tc : Thread Cert.Ln1RefIdeal.nD Cert.Ln1RefIdeal.τ).loc Cert.Ln1RefIdeal.main_arg6) = m' ((c.tc : Thread Cert.Ln1RefIdeal.nD Cert.Ln1RefIdeal.τ).loc Cert.Ln1RefIdeal.main_arg6)
          ∧ r.2.mem ((c.tc : Thread Cert.Ln1RefIdeal.nD Cert.Ln1RefIdeal.τ).loc Cert.Ln1RefIdeal.main_arg7) = m' ((c.tc : Thread Cert.Ln1RefIdeal.nD Cert.Ln1RefIdeal.τ).loc Cert.Ln1RefIdeal.main_arg7))

def preserves_Dh0_Dh0Ideal : Prop :=
  True

def algebraic_Dh0Ideal_Dh0RefIdeal [hDh0Ideal : Cert.Dh0Ideal.Facts] [hDh0RefIdeal : Cert.Dh0RefIdeal.Facts] : Prop :=
  ∀ (m : (ℓ : Loc Cert.Dh0Ideal.nD Cert.Dh0Ideal.τ Cert.Dh0Ideal.sig) → Buf (Elt Ideal) ℓ) (g : Dev Cert.Dh0Ideal.nD → PrngReg)
    (m' : (ℓ : Loc Cert.Dh0RefIdeal.nD Cert.Dh0RefIdeal.τ Cert.Dh0RefIdeal.sig) → Buf (Elt Ideal) ℓ) (g' : Dev Cert.Dh0RefIdeal.nD → PrngReg), Pre_Dh0Ideal m →
    (∀ c : Dev Cert.Dh0Ideal.nD,
      m' ((c.tc : Thread Cert.Dh0RefIdeal.nD Cert.Dh0RefIdeal.τ).loc Cert.Dh0RefIdeal.main_arg0) = m ((c.tc : Thread Cert.Dh0Ideal.nD Cert.Dh0Ideal.τ).loc Cert.Dh0Ideal.main_arg0)
      ∧ m' ((c.tc : Thread Cert.Dh0RefIdeal.nD Cert.Dh0RefIdeal.τ).loc Cert.Dh0RefIdeal.main_arg1) = m ((c.tc : Thread Cert.Dh0Ideal.nD Cert.Dh0Ideal.τ).loc Cert.Dh0Ideal.main_arg1)
      ∧ m' ((c.tc : Thread Cert.Dh0RefIdeal.nD Cert.Dh0RefIdeal.τ).loc Cert.Dh0RefIdeal.main_arg2) = m ((c.tc : Thread Cert.Dh0Ideal.nD Cert.Dh0Ideal.τ).loc Cert.Dh0Ideal.main_arg2)
      ∧ m' ((c.tc : Thread Cert.Dh0RefIdeal.nD Cert.Dh0RefIdeal.τ).loc Cert.Dh0RefIdeal.main_arg3) = m ((c.tc : Thread Cert.Dh0Ideal.nD Cert.Dh0Ideal.τ).loc Cert.Dh0Ideal.main_arg3)
      ∧ m' ((c.tc : Thread Cert.Dh0RefIdeal.nD Cert.Dh0RefIdeal.τ).loc Cert.Dh0RefIdeal.main_arg4) = m ((c.tc : Thread Cert.Dh0Ideal.nD Cert.Dh0Ideal.τ).loc Cert.Dh0Ideal.main_arg4)
      ∧ m' ((c.tc : Thread Cert.Dh0RefIdeal.nD Cert.Dh0RefIdeal.τ).loc Cert.Dh0RefIdeal.main_arg5) = m ((c.tc : Thread Cert.Dh0Ideal.nD Cert.Dh0Ideal.τ).loc Cert.Dh0Ideal.main_arg5)
      ∧ m' ((c.tc : Thread Cert.Dh0RefIdeal.nD Cert.Dh0RefIdeal.τ).loc Cert.Dh0RefIdeal.main_arg6) = m ((c.tc : Thread Cert.Dh0Ideal.nD Cert.Dh0Ideal.τ).loc Cert.Dh0Ideal.main_arg6)
      ∧ m' ((c.tc : Thread Cert.Dh0RefIdeal.nD Cert.Dh0RefIdeal.τ).loc Cert.Dh0RefIdeal.main_arg7) = m ((c.tc : Thread Cert.Dh0Ideal.nD Cert.Dh0Ideal.τ).loc Cert.Dh0Ideal.main_arg7)) →
    ∃ (v0 : (c : Dev Cert.Dh0Ideal.nD) → Buf (Elt Ideal) ((c.tc : Thread Cert.Dh0Ideal.nD Cert.Dh0Ideal.τ).loc Cert.Dh0Ideal.main_v2)),
      θ_run (Cert.Dh0Ideal.defs (F := Ideal)) (onTc (τ := Cert.Dh0Ideal.τ) (Cert.Dh0Ideal.main (F := Ideal))) ⟨m, fun _ => 0, g⟩ (fun r => ∀ c : Dev Cert.Dh0Ideal.nD,
          r.2.mem ((c.tc : Thread Cert.Dh0Ideal.nD Cert.Dh0Ideal.τ).loc Cert.Dh0Ideal.main_v2) = v0 c
          ∧ r.2.mem ((c.tc : Thread Cert.Dh0Ideal.nD Cert.Dh0Ideal.τ).loc Cert.Dh0Ideal.main_arg0) = m ((c.tc : Thread Cert.Dh0Ideal.nD Cert.Dh0Ideal.τ).loc Cert.Dh0Ideal.main_arg0)
          ∧ r.2.mem ((c.tc : Thread Cert.Dh0Ideal.nD Cert.Dh0Ideal.τ).loc Cert.Dh0Ideal.main_arg1) = m ((c.tc : Thread Cert.Dh0Ideal.nD Cert.Dh0Ideal.τ).loc Cert.Dh0Ideal.main_arg1)
          ∧ r.2.mem ((c.tc : Thread Cert.Dh0Ideal.nD Cert.Dh0Ideal.τ).loc Cert.Dh0Ideal.main_arg2) = m ((c.tc : Thread Cert.Dh0Ideal.nD Cert.Dh0Ideal.τ).loc Cert.Dh0Ideal.main_arg2)
          ∧ r.2.mem ((c.tc : Thread Cert.Dh0Ideal.nD Cert.Dh0Ideal.τ).loc Cert.Dh0Ideal.main_arg3) = m ((c.tc : Thread Cert.Dh0Ideal.nD Cert.Dh0Ideal.τ).loc Cert.Dh0Ideal.main_arg3)
          ∧ r.2.mem ((c.tc : Thread Cert.Dh0Ideal.nD Cert.Dh0Ideal.τ).loc Cert.Dh0Ideal.main_arg4) = m ((c.tc : Thread Cert.Dh0Ideal.nD Cert.Dh0Ideal.τ).loc Cert.Dh0Ideal.main_arg4)
          ∧ r.2.mem ((c.tc : Thread Cert.Dh0Ideal.nD Cert.Dh0Ideal.τ).loc Cert.Dh0Ideal.main_arg5) = m ((c.tc : Thread Cert.Dh0Ideal.nD Cert.Dh0Ideal.τ).loc Cert.Dh0Ideal.main_arg5)
          ∧ r.2.mem ((c.tc : Thread Cert.Dh0Ideal.nD Cert.Dh0Ideal.τ).loc Cert.Dh0Ideal.main_arg6) = m ((c.tc : Thread Cert.Dh0Ideal.nD Cert.Dh0Ideal.τ).loc Cert.Dh0Ideal.main_arg6)
          ∧ r.2.mem ((c.tc : Thread Cert.Dh0Ideal.nD Cert.Dh0Ideal.τ).loc Cert.Dh0Ideal.main_arg7) = m ((c.tc : Thread Cert.Dh0Ideal.nD Cert.Dh0Ideal.τ).loc Cert.Dh0Ideal.main_arg7))
      ∧ θ_run (Cert.Dh0RefIdeal.defs (F := Ideal)) (onTc (τ := Cert.Dh0RefIdeal.τ) (Cert.Dh0RefIdeal.main (F := Ideal))) ⟨m', fun _ => 0, g'⟩ (fun r => ∀ c : Dev Cert.Dh0RefIdeal.nD,
          r.2.mem ((c.tc : Thread Cert.Dh0RefIdeal.nD Cert.Dh0RefIdeal.τ).loc Cert.Dh0RefIdeal.main_v21) = v0 c
          ∧ r.2.mem ((c.tc : Thread Cert.Dh0RefIdeal.nD Cert.Dh0RefIdeal.τ).loc Cert.Dh0RefIdeal.main_arg0) = m' ((c.tc : Thread Cert.Dh0RefIdeal.nD Cert.Dh0RefIdeal.τ).loc Cert.Dh0RefIdeal.main_arg0)
          ∧ r.2.mem ((c.tc : Thread Cert.Dh0RefIdeal.nD Cert.Dh0RefIdeal.τ).loc Cert.Dh0RefIdeal.main_arg1) = m' ((c.tc : Thread Cert.Dh0RefIdeal.nD Cert.Dh0RefIdeal.τ).loc Cert.Dh0RefIdeal.main_arg1)
          ∧ r.2.mem ((c.tc : Thread Cert.Dh0RefIdeal.nD Cert.Dh0RefIdeal.τ).loc Cert.Dh0RefIdeal.main_arg2) = m' ((c.tc : Thread Cert.Dh0RefIdeal.nD Cert.Dh0RefIdeal.τ).loc Cert.Dh0RefIdeal.main_arg2)
          ∧ r.2.mem ((c.tc : Thread Cert.Dh0RefIdeal.nD Cert.Dh0RefIdeal.τ).loc Cert.Dh0RefIdeal.main_arg3) = m' ((c.tc : Thread Cert.Dh0RefIdeal.nD Cert.Dh0RefIdeal.τ).loc Cert.Dh0RefIdeal.main_arg3)
          ∧ r.2.mem ((c.tc : Thread Cert.Dh0RefIdeal.nD Cert.Dh0RefIdeal.τ).loc Cert.Dh0RefIdeal.main_arg4) = m' ((c.tc : Thread Cert.Dh0RefIdeal.nD Cert.Dh0RefIdeal.τ).loc Cert.Dh0RefIdeal.main_arg4)
          ∧ r.2.mem ((c.tc : Thread Cert.Dh0RefIdeal.nD Cert.Dh0RefIdeal.τ).loc Cert.Dh0RefIdeal.main_arg5) = m' ((c.tc : Thread Cert.Dh0RefIdeal.nD Cert.Dh0RefIdeal.τ).loc Cert.Dh0RefIdeal.main_arg5)
          ∧ r.2.mem ((c.tc : Thread Cert.Dh0RefIdeal.nD Cert.Dh0RefIdeal.τ).loc Cert.Dh0RefIdeal.main_arg6) = m' ((c.tc : Thread Cert.Dh0RefIdeal.nD Cert.Dh0RefIdeal.τ).loc Cert.Dh0RefIdeal.main_arg6)
          ∧ r.2.mem ((c.tc : Thread Cert.Dh0RefIdeal.nD Cert.Dh0RefIdeal.τ).loc Cert.Dh0RefIdeal.main_arg7) = m' ((c.tc : Thread Cert.Dh0RefIdeal.nD Cert.Dh0RefIdeal.τ).loc Cert.Dh0RefIdeal.main_arg7))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)
      ∧ m' ((c.tc : Thread Cert.WinRefIdeal.nD Cert.WinRefIdeal.τ).loc Cert.WinRefIdeal.main_arg3) = m ((c.tc : Thread Cert.WinIdeal.nD Cert.WinIdeal.τ).loc Cert.WinIdeal.main_arg3)
      ∧ m' ((c.tc : Thread Cert.WinRefIdeal.nD Cert.WinRefIdeal.τ).loc Cert.WinRefIdeal.main_arg4) = m ((c.tc : Thread Cert.WinIdeal.nD Cert.WinIdeal.τ).loc Cert.WinIdeal.main_arg4)
      ∧ m' ((c.tc : Thread Cert.WinRefIdeal.nD Cert.WinRefIdeal.τ).loc Cert.WinRefIdeal.main_arg5) = m ((c.tc : Thread Cert.WinIdeal.nD Cert.WinIdeal.τ).loc Cert.WinIdeal.main_arg5)
      ∧ m' ((c.tc : Thread Cert.WinRefIdeal.nD Cert.WinRefIdeal.τ).loc Cert.WinRefIdeal.main_arg6) = m ((c.tc : Thread Cert.WinIdeal.nD Cert.WinIdeal.τ).loc Cert.WinIdeal.main_arg6)) →
    ∃ (v0 : (c : Dev Cert.WinIdeal.nD) → Buf (Elt Ideal) ((c.tc : Thread Cert.WinIdeal.nD Cert.WinIdeal.τ).loc Cert.WinIdeal.main_v0_0)) (v1 : (c : Dev Cert.WinIdeal.nD) → Buf (Elt Ideal) ((c.tc : Thread Cert.WinIdeal.nD Cert.WinIdeal.τ).loc Cert.WinIdeal.main_v0_1)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v0_0) = v0 c
          ∧ r.2.mem ((c.tc : Thread Cert.WinIdeal.nD Cert.WinIdeal.τ).loc Cert.WinIdeal.main_v0_1) = v1 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
          ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
          ∧ r.2.mem ((c.tc : Thread Cert.WinIdeal.nD Cert.WinIdeal.τ).loc Cert.WinIdeal.main_arg4) = m ((c.tc : Thread Cert.WinIdeal.nD Cert.WinIdeal.τ).loc Cert.WinIdeal.main_arg4)
          ∧ r.2.mem ((c.tc : Thread Cert.WinIdeal.nD Cert.WinIdeal.τ).loc Cert.WinIdeal.main_arg5) = m ((c.tc : Thread Cert.WinIdeal.nD Cert.WinIdeal.τ).loc Cert.WinIdeal.main_arg5)
          ∧ r.2.mem ((c.tc : Thread Cert.WinIdeal.nD Cert.WinIdeal.τ).loc Cert.WinIdeal.main_arg6) = m ((c.tc : Thread Cert.WinIdeal.nD Cert.WinIdeal.τ).loc Cert.WinIdeal.main_arg6))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v27) = v0 c
          ∧ r.2.mem ((c.tc : Thread Cert.WinRefIdeal.nD Cert.WinRefIdeal.τ).loc Cert.WinRefIdeal.main_v28) = v1 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2)
          ∧ r.2.mem ((c.tc : Thread Cert.WinRefIdeal.nD Cert.WinRefIdeal.τ).loc Cert.WinRefIdeal.main_arg3) = m' ((c.tc : Thread Cert.WinRefIdeal.nD Cert.WinRefIdeal.τ).loc Cert.WinRefIdeal.main_arg3)
          ∧ r.2.mem ((c.tc : Thread Cert.WinRefIdeal.nD Cert.WinRefIdeal.τ).loc Cert.WinRefIdeal.main_arg4) = m' ((c.tc : Thread Cert.WinRefIdeal.nD Cert.WinRefIdeal.τ).loc Cert.WinRefIdeal.main_arg4)
          ∧ r.2.mem ((c.tc : Thread Cert.WinRefIdeal.nD Cert.WinRefIdeal.τ).loc Cert.WinRefIdeal.main_arg5) = m' ((c.tc : Thread Cert.WinRefIdeal.nD Cert.WinRefIdeal.τ).loc Cert.WinRefIdeal.main_arg5)
          ∧ r.2.mem ((c.tc : Thread Cert.WinRefIdeal.nD Cert.WinRefIdeal.τ).loc Cert.WinRefIdeal.main_arg6) = m' ((c.tc : Thread Cert.WinRefIdeal.nD Cert.WinRefIdeal.τ).loc Cert.WinRefIdeal.main_arg6))

def preserves_Wup_WupIdeal : Prop :=
  True

def algebraic_WupIdeal_WupRefIdeal [hWupIdeal : Cert.WupIdeal.Facts] [hWupRefIdeal : Cert.WupRefIdeal.Facts] : Prop :=
  ∀ (m : (ℓ : Loc Cert.WupIdeal.nD Cert.WupIdeal.τ Cert.WupIdeal.sig) → Buf (Elt Ideal) ℓ) (g : Dev Cert.WupIdeal.nD → PrngReg)
    (m' : (ℓ : Loc Cert.WupRefIdeal.nD Cert.WupRefIdeal.τ Cert.WupRefIdeal.sig) → Buf (Elt Ideal) ℓ) (g' : Dev Cert.WupRefIdeal.nD → PrngReg), Pre_WupIdeal m →
    (∀ c : Dev Cert.WupIdeal.nD,
      m' ((c.tc : Thread Cert.WupRefIdeal.nD Cert.WupRefIdeal.τ).loc Cert.WupRefIdeal.main_arg0) = m ((c.tc : Thread Cert.WupIdeal.nD Cert.WupIdeal.τ).loc Cert.WupIdeal.main_arg0)
      ∧ m' ((c.tc : Thread Cert.WupRefIdeal.nD Cert.WupRefIdeal.τ).loc Cert.WupRefIdeal.main_arg1) = m ((c.tc : Thread Cert.WupIdeal.nD Cert.WupIdeal.τ).loc Cert.WupIdeal.main_arg1)
      ∧ m' ((c.tc : Thread Cert.WupRefIdeal.nD Cert.WupRefIdeal.τ).loc Cert.WupRefIdeal.main_arg2) = m ((c.tc : Thread Cert.WupIdeal.nD Cert.WupIdeal.τ).loc Cert.WupIdeal.main_arg2)) →
    ∃ (v0 : (c : Dev Cert.WupIdeal.nD) → Buf (Elt Ideal) ((c.tc : Thread Cert.WupIdeal.nD Cert.WupIdeal.τ).loc Cert.WupIdeal.main_v4)),
      θ_run (Cert.WupIdeal.defs (F := Ideal)) (onTc (τ := Cert.WupIdeal.τ) (Cert.WupIdeal.main (F := Ideal))) ⟨m, fun _ => 0, g⟩ (fun r => ∀ c : Dev Cert.WupIdeal.nD,
          r.2.mem ((c.tc : Thread Cert.WupIdeal.nD Cert.WupIdeal.τ).loc Cert.WupIdeal.main_v4) = v0 c
          ∧ r.2.mem ((c.tc : Thread Cert.WupIdeal.nD Cert.WupIdeal.τ).loc Cert.WupIdeal.main_arg0) = m ((c.tc : Thread Cert.WupIdeal.nD Cert.WupIdeal.τ).loc Cert.WupIdeal.main_arg0)
          ∧ r.2.mem ((c.tc : Thread Cert.WupIdeal.nD Cert.WupIdeal.τ).loc Cert.WupIdeal.main_arg1) = m ((c.tc : Thread Cert.WupIdeal.nD Cert.WupIdeal.τ).loc Cert.WupIdeal.main_arg1)
          ∧ r.2.mem ((c.tc : Thread Cert.WupIdeal.nD Cert.WupIdeal.τ).loc Cert.WupIdeal.main_arg2) = m ((c.tc : Thread Cert.WupIdeal.nD Cert.WupIdeal.τ).loc Cert.WupIdeal.main_arg2))
      ∧ θ_run (Cert.WupRefIdeal.defs (F := Ideal)) (onTc (τ := Cert.WupRefIdeal.τ) (Cert.WupRefIdeal.main (F := Ideal))) ⟨m', fun _ => 0, g'⟩ (fun r => ∀ c : Dev Cert.WupRefIdeal.nD,
          r.2.mem ((c.tc : Thread Cert.WupRefIdeal.nD Cert.WupRefIdeal.τ).loc Cert.WupRefIdeal.main_v12) = v0 c
          ∧ r.2.mem ((c.tc : Thread Cert.WupRefIdeal.nD Cert.WupRefIdeal.τ).loc Cert.WupRefIdeal.main_arg0) = m' ((c.tc : Thread Cert.WupRefIdeal.nD Cert.WupRefIdeal.τ).loc Cert.WupRefIdeal.main_arg0)
          ∧ r.2.mem ((c.tc : Thread Cert.WupRefIdeal.nD Cert.WupRefIdeal.τ).loc Cert.WupRefIdeal.main_arg1) = m' ((c.tc : Thread Cert.WupRefIdeal.nD Cert.WupRefIdeal.τ).loc Cert.WupRefIdeal.main_arg1)
          ∧ r.2.mem ((c.tc : Thread Cert.WupRefIdeal.nD Cert.WupRefIdeal.τ).loc Cert.WupRefIdeal.main_arg2) = m' ((c.tc : Thread Cert.WupRefIdeal.nD Cert.WupRefIdeal.τ).loc Cert.WupRefIdeal.main_arg2))

def preserves_Wdown_WdownIdeal : Prop :=
  True

def algebraic_WdownIdeal_WdownRefIdeal [hWdownIdeal : Cert.WdownIdeal.Facts] [hWdownRefIdeal : Cert.WdownRefIdeal.Facts] : Prop :=
  ∀ (m : (ℓ : Loc Cert.WdownIdeal.nD Cert.WdownIdeal.τ Cert.WdownIdeal.sig) → Buf (Elt Ideal) ℓ) (g : Dev Cert.WdownIdeal.nD → PrngReg)
    (m' : (ℓ : Loc Cert.WdownRefIdeal.nD Cert.WdownRefIdeal.τ Cert.WdownRefIdeal.sig) → Buf (Elt Ideal) ℓ) (g' : Dev Cert.WdownRefIdeal.nD → PrngReg), Pre_WdownIdeal m →
    (∀ c : Dev Cert.WdownIdeal.nD,
      m' ((c.tc : Thread Cert.WdownRefIdeal.nD Cert.WdownRefIdeal.τ).loc Cert.WdownRefIdeal.main_arg0) = m ((c.tc : Thread Cert.WdownIdeal.nD Cert.WdownIdeal.τ).loc Cert.WdownIdeal.main_arg0)
      ∧ m' ((c.tc : Thread Cert.WdownRefIdeal.nD Cert.WdownRefIdeal.τ).loc Cert.WdownRefIdeal.main_arg1) = m ((c.tc : Thread Cert.WdownIdeal.nD Cert.WdownIdeal.τ).loc Cert.WdownIdeal.main_arg1)) →
    ∃ (v0 : (c : Dev Cert.WdownIdeal.nD) → Buf (Elt Ideal) ((c.tc : Thread Cert.WdownIdeal.nD Cert.WdownIdeal.τ).loc Cert.WdownIdeal.main_v2)),
      θ_run (Cert.WdownIdeal.defs (F := Ideal)) (onTc (τ := Cert.WdownIdeal.τ) (Cert.WdownIdeal.main (F := Ideal))) ⟨m, fun _ => 0, g⟩ (fun r => ∀ c : Dev Cert.WdownIdeal.nD,
          r.2.mem ((c.tc : Thread Cert.WdownIdeal.nD Cert.WdownIdeal.τ).loc Cert.WdownIdeal.main_v2) = v0 c
          ∧ r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
          ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1))
      ∧ θ_run (Cert.WdownRefIdeal.defs (F := Ideal)) (onTc (τ := Cert.WdownRefIdeal.τ) (Cert.WdownRefIdeal.main (F := Ideal))) ⟨m', fun _ => 0, g'⟩ (fun r => ∀ c : Dev Cert.WdownRefIdeal.nD,
          r.2.mem ((c.tc : Thread Cert.WdownRefIdeal.nD Cert.WdownRefIdeal.τ).loc Cert.WdownRefIdeal.main_v7) = v0 c
          ∧ r.2.mem ((c.tc : Thread Cert.WdownRefIdeal.nD Cert.WdownRefIdeal.τ).loc Cert.WdownRefIdeal.main_arg0) = m' ((c.tc : Thread Cert.WdownRefIdeal.nD Cert.WdownRefIdeal.τ).loc Cert.WdownRefIdeal.main_arg0)
          ∧ r.2.mem ((c.tc : Thread Cert.WdownRefIdeal.nD Cert.WdownRefIdeal.τ).loc Cert.WdownRefIdeal.main_arg1) = m' ((c.tc : Thread Cert.WdownRefIdeal.nD Cert.WdownRefIdeal.τ).loc Cert.WdownRefIdeal.main_arg1))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)
      ∧ m' ((c.tc : Thread Cert.WoutRefIdeal.nD Cert.WoutRefIdeal.τ).loc Cert.WoutRefIdeal.main_arg2) = m ((c.tc : Thread Cert.WoutIdeal.nD Cert.WoutIdeal.τ).loc Cert.WoutIdeal.main_arg2)
      ∧ m' ((c.tc : Thread Cert.WoutRefIdeal.nD Cert.WoutRefIdeal.τ).loc Cert.WoutRefIdeal.main_arg3) = m ((c.tc : Thread Cert.WoutIdeal.nD Cert.WoutIdeal.τ).loc Cert.WoutIdeal.main_arg3)
      ∧ m' ((c.tc : Thread Cert.WoutRefIdeal.nD Cert.WoutRefIdeal.τ).loc Cert.WoutRefIdeal.main_arg4) = m ((c.tc : Thread Cert.WoutIdeal.nD Cert.WoutIdeal.τ).loc Cert.WoutIdeal.main_arg4)
      ∧ m' ((c.tc : Thread Cert.WoutRefIdeal.nD Cert.WoutRefIdeal.τ).loc Cert.WoutRefIdeal.main_arg5) = m ((c.tc : Thread Cert.WoutIdeal.nD Cert.WoutIdeal.τ).loc Cert.WoutIdeal.main_arg5)) →
    ∃ (v0 : (c : Dev Cert.WoutIdeal.nD) → Buf (Elt Ideal) ((c.tc : Thread Cert.WoutIdeal.nD Cert.WoutIdeal.τ).loc Cert.WoutIdeal.main_v0_0)) (v1 : (c : Dev Cert.WoutIdeal.nD) → Buf (Elt Ideal) ((c.tc : Thread Cert.WoutIdeal.nD Cert.WoutIdeal.τ).loc Cert.WoutIdeal.main_v0_1)) (v2 : (c : Dev Cert.WoutIdeal.nD) → Buf (Elt Ideal) ((c.tc : Thread Cert.WoutIdeal.nD Cert.WoutIdeal.τ).loc Cert.WoutIdeal.main_v0_2)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v0_0) = v0 c
          ∧ r.2.mem ((c.tc : Thread Cert.WoutIdeal.nD Cert.WoutIdeal.τ).loc Cert.WoutIdeal.main_v0_1) = v1 c
          ∧ r.2.mem ((c.tc : Thread Cert.WoutIdeal.nD Cert.WoutIdeal.τ).loc Cert.WoutIdeal.main_v0_2) = v2 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
          ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2)
          ∧ r.2.mem ((c.tc : Thread Cert.WoutIdeal.nD Cert.WoutIdeal.τ).loc Cert.WoutIdeal.main_arg3) = m ((c.tc : Thread Cert.WoutIdeal.nD Cert.WoutIdeal.τ).loc Cert.WoutIdeal.main_arg3)
          ∧ r.2.mem ((c.tc : Thread Cert.WoutIdeal.nD Cert.WoutIdeal.τ).loc Cert.WoutIdeal.main_arg4) = m ((c.tc : Thread Cert.WoutIdeal.nD Cert.WoutIdeal.τ).loc Cert.WoutIdeal.main_arg4)
          ∧ r.2.mem ((c.tc : Thread Cert.WoutIdeal.nD Cert.WoutIdeal.τ).loc Cert.WoutIdeal.main_arg5) = m ((c.tc : Thread Cert.WoutIdeal.nD Cert.WoutIdeal.τ).loc Cert.WoutIdeal.main_arg5))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v23) = v0 c
          ∧ r.2.mem ((c.tc : Thread Cert.WoutRefIdeal.nD Cert.WoutRefIdeal.τ).loc Cert.WoutRefIdeal.main_v24) = v1 c
          ∧ r.2.mem ((c.tc : Thread Cert.WoutRefIdeal.nD Cert.WoutRefIdeal.τ).loc Cert.WoutRefIdeal.main_v25) = v2 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1)
          ∧ r.2.mem ((c.tc : Thread Cert.WoutRefIdeal.nD Cert.WoutRefIdeal.τ).loc Cert.WoutRefIdeal.main_arg2) = m' ((c.tc : Thread Cert.WoutRefIdeal.nD Cert.WoutRefIdeal.τ).loc Cert.WoutRefIdeal.main_arg2)
          ∧ r.2.mem ((c.tc : Thread Cert.WoutRefIdeal.nD Cert.WoutRefIdeal.τ).loc Cert.WoutRefIdeal.main_arg3) = m' ((c.tc : Thread Cert.WoutRefIdeal.nD Cert.WoutRefIdeal.τ).loc Cert.WoutRefIdeal.main_arg3)
          ∧ r.2.mem ((c.tc : Thread Cert.WoutRefIdeal.nD Cert.WoutRefIdeal.τ).loc Cert.WoutRefIdeal.main_arg4) = m' ((c.tc : Thread Cert.WoutRefIdeal.nD Cert.WoutRefIdeal.τ).loc Cert.WoutRefIdeal.main_arg4)
          ∧ r.2.mem ((c.tc : Thread Cert.WoutRefIdeal.nD Cert.WoutRefIdeal.τ).loc Cert.WoutRefIdeal.main_arg5) = m' ((c.tc : Thread Cert.WoutRefIdeal.nD Cert.WoutRefIdeal.τ).loc Cert.WoutRefIdeal.main_arg5))

def preserves_Wple_WpleIdeal : Prop :=
  True

def algebraic_WpleIdeal_WpleRefIdeal [hWpleIdeal : Cert.WpleIdeal.Facts] [hWpleRefIdeal : Cert.WpleRefIdeal.Facts] : Prop :=
  ∀ (m : (ℓ : Loc Cert.WpleIdeal.nD Cert.WpleIdeal.τ Cert.WpleIdeal.sig) → Buf (Elt Ideal) ℓ) (g : Dev Cert.WpleIdeal.nD → PrngReg)
    (m' : (ℓ : Loc Cert.WpleRefIdeal.nD Cert.WpleRefIdeal.τ Cert.WpleRefIdeal.sig) → Buf (Elt Ideal) ℓ) (g' : Dev Cert.WpleRefIdeal.nD → PrngReg), Pre_WpleIdeal m →
    (∀ c : Dev Cert.WpleIdeal.nD,
      m' ((c.tc : Thread Cert.WpleRefIdeal.nD Cert.WpleRefIdeal.τ).loc Cert.WpleRefIdeal.main_arg0) = m ((c.tc : Thread Cert.WpleIdeal.nD Cert.WpleIdeal.τ).loc Cert.WpleIdeal.main_arg0)
      ∧ m' ((c.tc : Thread Cert.WpleRefIdeal.nD Cert.WpleRefIdeal.τ).loc Cert.WpleRefIdeal.main_arg1) = m ((c.tc : Thread Cert.WpleIdeal.nD Cert.WpleIdeal.τ).loc Cert.WpleIdeal.main_arg1)
      ∧ m' ((c.tc : Thread Cert.WpleRefIdeal.nD Cert.WpleRefIdeal.τ).loc Cert.WpleRefIdeal.main_arg2) = m ((c.tc : Thread Cert.WpleIdeal.nD Cert.WpleIdeal.τ).loc Cert.WpleIdeal.main_arg2)
      ∧ m' ((c.tc : Thread Cert.WpleRefIdeal.nD Cert.WpleRefIdeal.τ).loc Cert.WpleRefIdeal.main_arg3) = m ((c.tc : Thread Cert.WpleIdeal.nD Cert.WpleIdeal.τ).loc Cert.WpleIdeal.main_arg3)) →
    ∃ (v0 : (c : Dev Cert.WpleIdeal.nD) → Buf (Elt Ideal) ((c.tc : Thread Cert.WpleIdeal.nD Cert.WpleIdeal.τ).loc Cert.WpleIdeal.main_v0_0)) (v1 : (c : Dev Cert.WpleIdeal.nD) → Buf (Elt Ideal) ((c.tc : Thread Cert.WpleIdeal.nD Cert.WpleIdeal.τ).loc Cert.WpleIdeal.main_v0_1)),
      θ_run (Cert.WpleIdeal.defs (F := Ideal)) (onTc (τ := Cert.WpleIdeal.τ) (Cert.WpleIdeal.main (F := Ideal))) ⟨m, fun _ => 0, g⟩ (fun r => ∀ c : Dev Cert.WpleIdeal.nD,
          r.2.mem ((c.tc : Thread Cert.WpleIdeal.nD Cert.WpleIdeal.τ).loc Cert.WpleIdeal.main_v0_0) = v0 c
          ∧ r.2.mem ((c.tc : Thread Cert.WpleIdeal.nD Cert.WpleIdeal.τ).loc Cert.WpleIdeal.main_v0_1) = v1 c
          ∧ r.2.mem ((c.tc : Thread Cert.WpleIdeal.nD Cert.WpleIdeal.τ).loc Cert.WpleIdeal.main_arg0) = m ((c.tc : Thread Cert.WpleIdeal.nD Cert.WpleIdeal.τ).loc Cert.WpleIdeal.main_arg0)
          ∧ r.2.mem ((c.tc : Thread Cert.WpleIdeal.nD Cert.WpleIdeal.τ).loc Cert.WpleIdeal.main_arg1) = m ((c.tc : Thread Cert.WpleIdeal.nD Cert.WpleIdeal.τ).loc Cert.WpleIdeal.main_arg1)
          ∧ r.2.mem ((c.tc : Thread Cert.WpleIdeal.nD Cert.WpleIdeal.τ).loc Cert.WpleIdeal.main_arg2) = m ((c.tc : Thread Cert.WpleIdeal.nD Cert.WpleIdeal.τ).loc Cert.WpleIdeal.main_arg2)
          ∧ r.2.mem ((c.tc : Thread Cert.WpleIdeal.nD Cert.WpleIdeal.τ).loc Cert.WpleIdeal.main_arg3) = m ((c.tc : Thread Cert.WpleIdeal.nD Cert.WpleIdeal.τ).loc Cert.WpleIdeal.main_arg3))
      ∧ θ_run (Cert.WpleRefIdeal.defs (F := Ideal)) (onTc (τ := Cert.WpleRefIdeal.τ) (Cert.WpleRefIdeal.main (F := Ideal))) ⟨m', fun _ => 0, g'⟩ (fun r => ∀ c : Dev Cert.WpleRefIdeal.nD,
          r.2.mem ((c.tc : Thread Cert.WpleRefIdeal.nD Cert.WpleRefIdeal.τ).loc Cert.WpleRefIdeal.main_v15) = v0 c
          ∧ r.2.mem ((c.tc : Thread Cert.WpleRefIdeal.nD Cert.WpleRefIdeal.τ).loc Cert.WpleRefIdeal.main_v16) = v1 c
          ∧ r.2.mem ((c.tc : Thread Cert.WpleRefIdeal.nD Cert.WpleRefIdeal.τ).loc Cert.WpleRefIdeal.main_arg0) = m' ((c.tc : Thread Cert.WpleRefIdeal.nD Cert.WpleRefIdeal.τ).loc Cert.WpleRefIdeal.main_arg0)
          ∧ r.2.mem ((c.tc : Thread Cert.WpleRefIdeal.nD Cert.WpleRefIdeal.τ).loc Cert.WpleRefIdeal.main_arg1) = m' ((c.tc : Thread Cert.WpleRefIdeal.nD Cert.WpleRefIdeal.τ).loc Cert.WpleRefIdeal.main_arg1)
          ∧ r.2.mem ((c.tc : Thread Cert.WpleRefIdeal.nD Cert.WpleRefIdeal.τ).loc Cert.WpleRefIdeal.main_arg2) = m' ((c.tc : Thread Cert.WpleRefIdeal.nD Cert.WpleRefIdeal.τ).loc Cert.WpleRefIdeal.main_arg2)
          ∧ r.2.mem ((c.tc : Thread Cert.WpleRefIdeal.nD Cert.WpleRefIdeal.τ).loc Cert.WpleRefIdeal.main_arg3) = m' ((c.tc : Thread Cert.WpleRefIdeal.nD Cert.WpleRefIdeal.τ).loc Cert.WpleRefIdeal.main_arg3))

def preserves_Aout_AoutIdeal : Prop :=
  True

def algebraic_AoutIdeal_AoutRefIdeal [hAoutIdeal : Cert.AoutIdeal.Facts] [hAoutRefIdeal : Cert.AoutRefIdeal.Facts] : Prop :=
  ∀ (m : (ℓ : Loc Cert.AoutIdeal.nD Cert.AoutIdeal.τ Cert.AoutIdeal.sig) → Buf (Elt Ideal) ℓ) (g : Dev Cert.AoutIdeal.nD → PrngReg)
    (m' : (ℓ : Loc Cert.AoutRefIdeal.nD Cert.AoutRefIdeal.τ Cert.AoutRefIdeal.sig) → Buf (Elt Ideal) ℓ) (g' : Dev Cert.AoutRefIdeal.nD → PrngReg), Pre_AoutIdeal m →
    (∀ c : Dev Cert.AoutIdeal.nD,
      m' ((c.tc : Thread Cert.AoutRefIdeal.nD Cert.AoutRefIdeal.τ).loc Cert.AoutRefIdeal.main_arg0) = m ((c.tc : Thread Cert.AoutIdeal.nD Cert.AoutIdeal.τ).loc Cert.AoutIdeal.main_arg0)
      ∧ m' ((c.tc : Thread Cert.AoutRefIdeal.nD Cert.AoutRefIdeal.τ).loc Cert.AoutRefIdeal.main_arg1) = m ((c.tc : Thread Cert.AoutIdeal.nD Cert.AoutIdeal.τ).loc Cert.AoutIdeal.main_arg1)) →
    ∃ (v0 : (c : Dev Cert.AoutIdeal.nD) → Buf (Elt Ideal) ((c.tc : Thread Cert.AoutIdeal.nD Cert.AoutIdeal.τ).loc Cert.AoutIdeal.main_v2)),
      θ_run (Cert.AoutIdeal.defs (F := Ideal)) (onTc (τ := Cert.AoutIdeal.τ) (Cert.AoutIdeal.main (F := Ideal))) ⟨m, fun _ => 0, g⟩ (fun r => ∀ c : Dev Cert.AoutIdeal.nD,
          r.2.mem ((c.tc : Thread Cert.AoutIdeal.nD Cert.AoutIdeal.τ).loc Cert.AoutIdeal.main_v2) = v0 c
          ∧ r.2.mem ((c.tc : Thread Cert.AoutIdeal.nD Cert.AoutIdeal.τ).loc Cert.AoutIdeal.main_arg0) = m ((c.tc : Thread Cert.AoutIdeal.nD Cert.AoutIdeal.τ).loc Cert.AoutIdeal.main_arg0)
          ∧ r.2.mem ((c.tc : Thread Cert.AoutIdeal.nD Cert.AoutIdeal.τ).loc Cert.AoutIdeal.main_arg1) = m ((c.tc : Thread Cert.AoutIdeal.nD Cert.AoutIdeal.τ).loc Cert.AoutIdeal.main_arg1))
      ∧ θ_run (Cert.AoutRefIdeal.defs (F := Ideal)) (onTc (τ := Cert.AoutRefIdeal.τ) (Cert.AoutRefIdeal.main (F := Ideal))) ⟨m', fun _ => 0, g'⟩ (fun r => ∀ c : Dev Cert.AoutRefIdeal.nD,
          r.2.mem ((c.tc : Thread Cert.AoutRefIdeal.nD Cert.AoutRefIdeal.τ).loc Cert.AoutRefIdeal.main_v5) = v0 c
          ∧ r.2.mem ((c.tc : Thread Cert.AoutRefIdeal.nD Cert.AoutRefIdeal.τ).loc Cert.AoutRefIdeal.main_arg0) = m' ((c.tc : Thread Cert.AoutRefIdeal.nD Cert.AoutRefIdeal.τ).loc Cert.AoutRefIdeal.main_arg0)
          ∧ r.2.mem ((c.tc : Thread Cert.AoutRefIdeal.nD Cert.AoutRefIdeal.τ).loc Cert.AoutRefIdeal.main_arg1) = m' ((c.tc : Thread Cert.AoutRefIdeal.nD Cert.AoutRefIdeal.τ).loc Cert.AoutRefIdeal.main_arg1))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)) →
    ∃ (v0 : (c : Dev Cert.MergeFwdIdeal.nD) → Buf (Elt Ideal) ((c.tc : Thread Cert.MergeFwdIdeal.nD Cert.MergeFwdIdeal.τ).loc Cert.MergeFwdIdeal.main_v4_0)) (v1 : (c : Dev Cert.MergeFwdIdeal.nD) → Buf (Elt Ideal) ((c.tc : Thread Cert.MergeFwdIdeal.nD Cert.MergeFwdIdeal.τ).loc Cert.MergeFwdIdeal.main_v4_1)) (v2 : (c : Dev Cert.MergeFwdIdeal.nD) → Buf (Elt Ideal) ((c.tc : Thread Cert.MergeFwdIdeal.nD Cert.MergeFwdIdeal.τ).loc Cert.MergeFwdIdeal.main_v4_2)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v4_0) = v0 c
          ∧ r.2.mem ((c.tc : Thread Cert.MergeFwdIdeal.nD Cert.MergeFwdIdeal.τ).loc Cert.MergeFwdIdeal.main_v4_1) = v1 c
          ∧ r.2.mem ((c.tc : Thread Cert.MergeFwdIdeal.nD Cert.MergeFwdIdeal.τ).loc Cert.MergeFwdIdeal.main_v4_2) = v2 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v25) = v0 c
          ∧ r.2.mem ((c.tc : Thread Cert.MergeFwdRefIdeal.nD Cert.MergeFwdRefIdeal.τ).loc Cert.MergeFwdRefIdeal.main_v26) = v1 c
          ∧ r.2.mem ((c.tc : Thread Cert.MergeFwdRefIdeal.nD Cert.MergeFwdRefIdeal.τ).loc Cert.MergeFwdRefIdeal.main_v27) = v2 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)) →
    ∃ (v0 : (c : Dev Cert.MixFwdIdeal.nD) → Buf (Elt Ideal) ((c.tc : Thread Cert.MixFwdIdeal.nD Cert.MixFwdIdeal.τ).loc Cert.MixFwdIdeal.main_v3_0)) (v1 : (c : Dev Cert.MixFwdIdeal.nD) → Buf (Elt Ideal) ((c.tc : Thread Cert.MixFwdIdeal.nD Cert.MixFwdIdeal.τ).loc Cert.MixFwdIdeal.main_v3_1)) (v2 : (c : Dev Cert.MixFwdIdeal.nD) → Buf (Elt Ideal) ((c.tc : Thread Cert.MixFwdIdeal.nD Cert.MixFwdIdeal.τ).loc Cert.MixFwdIdeal.main_v3_2)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v3_0) = v0 c
          ∧ r.2.mem ((c.tc : Thread Cert.MixFwdIdeal.nD Cert.MixFwdIdeal.τ).loc Cert.MixFwdIdeal.main_v3_1) = v1 c
          ∧ r.2.mem ((c.tc : Thread Cert.MixFwdIdeal.nD Cert.MixFwdIdeal.τ).loc Cert.MixFwdIdeal.main_v3_2) = v2 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v5) = v0 c
          ∧ r.2.mem ((c.tc : Thread Cert.MixFwdRefIdeal.nD Cert.MixFwdRefIdeal.τ).loc Cert.MixFwdRefIdeal.main_v27) = v1 c
          ∧ r.2.mem ((c.tc : Thread Cert.MixFwdRefIdeal.nD Cert.MixFwdRefIdeal.τ).loc Cert.MixFwdRefIdeal.main_v28) = v2 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v2)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v2) = v0 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v5) = v0 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)) →
    ∃ (v0 : (c : Dev Cert.FfnFwdIdeal.nD) → Buf (Elt Ideal) ((c.tc : Thread Cert.FfnFwdIdeal.nD Cert.FfnFwdIdeal.τ).loc Cert.FfnFwdIdeal.main_v6)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v6) = v0 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v37) = v0 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)
      ∧ m' ((c.tc : Thread Cert.DownFwdRefIdeal.nD Cert.DownFwdRefIdeal.τ).loc Cert.DownFwdRefIdeal.main_arg3) = m ((c.tc : Thread Cert.DownFwdIdeal.nD Cert.DownFwdIdeal.τ).loc Cert.DownFwdIdeal.main_arg3)
      ∧ m' ((c.tc : Thread Cert.DownFwdRefIdeal.nD Cert.DownFwdRefIdeal.τ).loc Cert.DownFwdRefIdeal.main_arg4) = m ((c.tc : Thread Cert.DownFwdIdeal.nD Cert.DownFwdIdeal.τ).loc Cert.DownFwdIdeal.main_arg4)
      ∧ m' ((c.tc : Thread Cert.DownFwdRefIdeal.nD Cert.DownFwdRefIdeal.τ).loc Cert.DownFwdRefIdeal.main_arg5) = m ((c.tc : Thread Cert.DownFwdIdeal.nD Cert.DownFwdIdeal.τ).loc Cert.DownFwdIdeal.main_arg5)
      ∧ m' ((c.tc : Thread Cert.DownFwdRefIdeal.nD Cert.DownFwdRefIdeal.τ).loc Cert.DownFwdRefIdeal.main_arg6) = m ((c.tc : Thread Cert.DownFwdIdeal.nD Cert.DownFwdIdeal.τ).loc Cert.DownFwdIdeal.main_arg6)
      ∧ m' ((c.tc : Thread Cert.DownFwdRefIdeal.nD Cert.DownFwdRefIdeal.τ).loc Cert.DownFwdRefIdeal.main_arg7) = m ((c.tc : Thread Cert.DownFwdIdeal.nD Cert.DownFwdIdeal.τ).loc Cert.DownFwdIdeal.main_arg7)
      ∧ m' ((c.tc : Thread Cert.DownFwdRefIdeal.nD Cert.DownFwdRefIdeal.τ).loc Cert.DownFwdRefIdeal.main_arg8) = m ((c.tc : Thread Cert.DownFwdIdeal.nD Cert.DownFwdIdeal.τ).loc Cert.DownFwdIdeal.main_arg8)) →
    ∃ (v0 : (c : Dev Cert.DownFwdIdeal.nD) → Buf (Elt Ideal) ((c.tc : Thread Cert.DownFwdIdeal.nD Cert.DownFwdIdeal.τ).loc Cert.DownFwdIdeal.main_v8_0)) (v1 : (c : Dev Cert.DownFwdIdeal.nD) → Buf (Elt Ideal) ((c.tc : Thread Cert.DownFwdIdeal.nD Cert.DownFwdIdeal.τ).loc Cert.DownFwdIdeal.main_v8_1)) (v2 : (c : Dev Cert.DownFwdIdeal.nD) → Buf (Elt Ideal) ((c.tc : Thread Cert.DownFwdIdeal.nD Cert.DownFwdIdeal.τ).loc Cert.DownFwdIdeal.main_v8_2)) (v3 : (c : Dev Cert.DownFwdIdeal.nD) → Buf (Elt Ideal) ((c.tc : Thread Cert.DownFwdIdeal.nD Cert.DownFwdIdeal.τ).loc Cert.DownFwdIdeal.main_v8_3)) (v4 : (c : Dev Cert.DownFwdIdeal.nD) → Buf (Elt Ideal) ((c.tc : Thread Cert.DownFwdIdeal.nD Cert.DownFwdIdeal.τ).loc Cert.DownFwdIdeal.main_v8_4)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v8_0) = v0 c
          ∧ r.2.mem ((c.tc : Thread Cert.DownFwdIdeal.nD Cert.DownFwdIdeal.τ).loc Cert.DownFwdIdeal.main_v8_1) = v1 c
          ∧ r.2.mem ((c.tc : Thread Cert.DownFwdIdeal.nD Cert.DownFwdIdeal.τ).loc Cert.DownFwdIdeal.main_v8_2) = v2 c
          ∧ r.2.mem ((c.tc : Thread Cert.DownFwdIdeal.nD Cert.DownFwdIdeal.τ).loc Cert.DownFwdIdeal.main_v8_3) = v3 c
          ∧ r.2.mem ((c.tc : Thread Cert.DownFwdIdeal.nD Cert.DownFwdIdeal.τ).loc Cert.DownFwdIdeal.main_v8_4) = v4 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
          ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3)
          ∧ r.2.mem ((c.tc : Thread Cert.DownFwdIdeal.nD Cert.DownFwdIdeal.τ).loc Cert.DownFwdIdeal.main_arg4) = m ((c.tc : Thread Cert.DownFwdIdeal.nD Cert.DownFwdIdeal.τ).loc Cert.DownFwdIdeal.main_arg4)
          ∧ r.2.mem ((c.tc : Thread Cert.DownFwdIdeal.nD Cert.DownFwdIdeal.τ).loc Cert.DownFwdIdeal.main_arg5) = m ((c.tc : Thread Cert.DownFwdIdeal.nD Cert.DownFwdIdeal.τ).loc Cert.DownFwdIdeal.main_arg5)
          ∧ r.2.mem ((c.tc : Thread Cert.DownFwdIdeal.nD Cert.DownFwdIdeal.τ).loc Cert.DownFwdIdeal.main_arg6) = m ((c.tc : Thread Cert.DownFwdIdeal.nD Cert.DownFwdIdeal.τ).loc Cert.DownFwdIdeal.main_arg6)
          ∧ r.2.mem ((c.tc : Thread Cert.DownFwdIdeal.nD Cert.DownFwdIdeal.τ).loc Cert.DownFwdIdeal.main_arg7) = m ((c.tc : Thread Cert.DownFwdIdeal.nD Cert.DownFwdIdeal.τ).loc Cert.DownFwdIdeal.main_arg7)
          ∧ r.2.mem ((c.tc : Thread Cert.DownFwdIdeal.nD Cert.DownFwdIdeal.τ).loc Cert.DownFwdIdeal.main_arg8) = m ((c.tc : Thread Cert.DownFwdIdeal.nD Cert.DownFwdIdeal.τ).loc Cert.DownFwdIdeal.main_arg8))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v19) = v0 c
          ∧ r.2.mem ((c.tc : Thread Cert.DownFwdRefIdeal.nD Cert.DownFwdRefIdeal.τ).loc Cert.DownFwdRefIdeal.main_v41) = v1 c
          ∧ r.2.mem ((c.tc : Thread Cert.DownFwdRefIdeal.nD Cert.DownFwdRefIdeal.τ).loc Cert.DownFwdRefIdeal.main_v42) = v2 c
          ∧ r.2.mem ((c.tc : Thread Cert.DownFwdRefIdeal.nD Cert.DownFwdRefIdeal.τ).loc Cert.DownFwdRefIdeal.main_v43) = v3 c
          ∧ r.2.mem ((c.tc : Thread Cert.DownFwdRefIdeal.nD Cert.DownFwdRefIdeal.τ).loc Cert.DownFwdRefIdeal.main_v44) = v4 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2)
          ∧ r.2.mem ((c.tc : Thread Cert.DownFwdRefIdeal.nD Cert.DownFwdRefIdeal.τ).loc Cert.DownFwdRefIdeal.main_arg3) = m' ((c.tc : Thread Cert.DownFwdRefIdeal.nD Cert.DownFwdRefIdeal.τ).loc Cert.DownFwdRefIdeal.main_arg3)
          ∧ r.2.mem ((c.tc : Thread Cert.DownFwdRefIdeal.nD Cert.DownFwdRefIdeal.τ).loc Cert.DownFwdRefIdeal.main_arg4) = m' ((c.tc : Thread Cert.DownFwdRefIdeal.nD Cert.DownFwdRefIdeal.τ).loc Cert.DownFwdRefIdeal.main_arg4)
          ∧ r.2.mem ((c.tc : Thread Cert.DownFwdRefIdeal.nD Cert.DownFwdRefIdeal.τ).loc Cert.DownFwdRefIdeal.main_arg5) = m' ((c.tc : Thread Cert.DownFwdRefIdeal.nD Cert.DownFwdRefIdeal.τ).loc Cert.DownFwdRefIdeal.main_arg5)
          ∧ r.2.mem ((c.tc : Thread Cert.DownFwdRefIdeal.nD Cert.DownFwdRefIdeal.τ).loc Cert.DownFwdRefIdeal.main_arg6) = m' ((c.tc : Thread Cert.DownFwdRefIdeal.nD Cert.DownFwdRefIdeal.τ).loc Cert.DownFwdRefIdeal.main_arg6)
          ∧ r.2.mem ((c.tc : Thread Cert.DownFwdRefIdeal.nD Cert.DownFwdRefIdeal.τ).loc Cert.DownFwdRefIdeal.main_arg7) = m' ((c.tc : Thread Cert.DownFwdRefIdeal.nD Cert.DownFwdRefIdeal.τ).loc Cert.DownFwdRefIdeal.main_arg7)
          ∧ r.2.mem ((c.tc : Thread Cert.DownFwdRefIdeal.nD Cert.DownFwdRefIdeal.τ).loc Cert.DownFwdRefIdeal.main_arg8) = m' ((c.tc : Thread Cert.DownFwdRefIdeal.nD Cert.DownFwdRefIdeal.τ).loc Cert.DownFwdRefIdeal.main_arg8))

def Claim : Prop :=
  ∃ (hMerge : Cert.Merge.Facts) (hMergeIdeal : Cert.MergeIdeal.Facts) (hMergeRefIdeal : Cert.MergeRefIdeal.Facts) (hLn2 : Cert.Ln2.Facts) (hLn2Ideal : Cert.Ln2Ideal.Facts) (hLn2RefIdeal : Cert.Ln2RefIdeal.Facts) (hLn1 : Cert.Ln1.Facts) (hLn1Ideal : Cert.Ln1Ideal.Facts) (hLn1RefIdeal : Cert.Ln1RefIdeal.Facts) (hDh0 : Cert.Dh0.Facts) (hDh0Ideal : Cert.Dh0Ideal.Facts) (hDh0RefIdeal : Cert.Dh0RefIdeal.Facts) (hWin : Cert.Win.Facts) (hWinIdeal : Cert.WinIdeal.Facts) (hWinRefIdeal : Cert.WinRefIdeal.Facts) (hWup : Cert.Wup.Facts) (hWupIdeal : Cert.WupIdeal.Facts) (hWupRefIdeal : Cert.WupRefIdeal.Facts) (hWdown : Cert.Wdown.Facts) (hWdownIdeal : Cert.WdownIdeal.Facts) (hWdownRefIdeal : Cert.WdownRefIdeal.Facts) (hWout : Cert.Wout.Facts) (hWoutIdeal : Cert.WoutIdeal.Facts) (hWoutRefIdeal : Cert.WoutRefIdeal.Facts) (hWple : Cert.Wple.Facts) (hWpleIdeal : Cert.WpleIdeal.Facts) (hWpleRefIdeal : Cert.WpleRefIdeal.Facts) (hAout : Cert.Aout.Facts) (hAoutIdeal : Cert.AoutIdeal.Facts) (hAoutRefIdeal : Cert.AoutRefIdeal.Facts) (hMergeFwd : Cert.MergeFwd.Facts) (hMergeFwdIdeal : Cert.MergeFwdIdeal.Facts) (hMergeFwdRefIdeal : Cert.MergeFwdRefIdeal.Facts) (hMixFwd : Cert.MixFwd.Facts) (hMixFwdIdeal : Cert.MixFwdIdeal.Facts) (hMixFwdRefIdeal : Cert.MixFwdRefIdeal.Facts) (hUpFwd : Cert.UpFwd.Facts) (hUpFwdIdeal : Cert.UpFwdIdeal.Facts) (hUpFwdRefIdeal : Cert.UpFwdRefIdeal.Facts) (hFfnFwd : Cert.FfnFwd.Facts) (hFfnFwdIdeal : Cert.FfnFwdIdeal.Facts) (hFfnFwdRefIdeal : Cert.FfnFwdRefIdeal.Facts) (hDownFwd : Cert.DownFwd.Facts) (hDownFwdIdeal : Cert.DownFwdIdeal.Facts) (hDownFwdRefIdeal : Cert.DownFwdRefIdeal.Facts) (hPre_finite_ln2 : Cert.Pre_finite_ln2.Facts) (hPre_finite_ln1 : Cert.Pre_finite_ln1.Facts),
    quiescent_Merge (hMerge := hMerge)
    ∧ quiescent_MergeIdeal (hMergeIdeal := hMergeIdeal)
    ∧ quiescent_MergeRefIdeal (hMergeRefIdeal := hMergeRefIdeal)
    ∧ quiescent_Ln2 (hLn2 := hLn2)
    ∧ quiescent_Ln2Ideal (hLn2Ideal := hLn2Ideal)
    ∧ quiescent_Ln2Ideal_pre_finite_ln2 (hLn2Ideal := hLn2Ideal) (hPre_finite_ln2 := hPre_finite_ln2)
    ∧ quiescent_Ln2RefIdeal (hLn2RefIdeal := hLn2RefIdeal)
    ∧ quiescent_Ln2RefIdeal_pre_finite_ln2 (hLn2RefIdeal := hLn2RefIdeal) (hPre_finite_ln2 := hPre_finite_ln2)
    ∧ quiescent_Ln1 (hLn1 := hLn1)
    ∧ quiescent_Ln1Ideal (hLn1Ideal := hLn1Ideal)
    ∧ quiescent_Ln1Ideal_pre_finite_ln1 (hLn1Ideal := hLn1Ideal) (hPre_finite_ln1 := hPre_finite_ln1)
    ∧ quiescent_Ln1RefIdeal (hLn1RefIdeal := hLn1RefIdeal)
    ∧ quiescent_Ln1RefIdeal_pre_finite_ln1 (hLn1RefIdeal := hLn1RefIdeal) (hPre_finite_ln1 := hPre_finite_ln1)
    ∧ quiescent_Dh0 (hDh0 := hDh0)
    ∧ quiescent_Dh0Ideal (hDh0Ideal := hDh0Ideal)
    ∧ quiescent_Dh0RefIdeal (hDh0RefIdeal := hDh0RefIdeal)
    ∧ quiescent_Win (hWin := hWin)
    ∧ quiescent_WinIdeal (hWinIdeal := hWinIdeal)
    ∧ quiescent_WinRefIdeal (hWinRefIdeal := hWinRefIdeal)
    ∧ quiescent_Wup (hWup := hWup)
    ∧ quiescent_WupIdeal (hWupIdeal := hWupIdeal)
    ∧ quiescent_WupRefIdeal (hWupRefIdeal := hWupRefIdeal)
    ∧ quiescent_Wdown (hWdown := hWdown)
    ∧ quiescent_WdownIdeal (hWdownIdeal := hWdownIdeal)
    ∧ quiescent_WdownRefIdeal (hWdownRefIdeal := hWdownRefIdeal)
    ∧ quiescent_Wout (hWout := hWout)
    ∧ quiescent_WoutIdeal (hWoutIdeal := hWoutIdeal)
    ∧ quiescent_WoutRefIdeal (hWoutRefIdeal := hWoutRefIdeal)
    ∧ quiescent_Wple (hWple := hWple)
    ∧ quiescent_WpleIdeal (hWpleIdeal := hWpleIdeal)
    ∧ quiescent_WpleRefIdeal (hWpleRefIdeal := hWpleRefIdeal)
    ∧ quiescent_Aout (hAout := hAout)
    ∧ quiescent_AoutIdeal (hAoutIdeal := hAoutIdeal)
    ∧ quiescent_AoutRefIdeal (hAoutRefIdeal := hAoutRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ preserves_Merge_MergeIdeal
    ∧ algebraic_MergeIdeal_MergeRefIdeal (hMergeIdeal := hMergeIdeal) (hMergeRefIdeal := hMergeRefIdeal)
    ∧ preserves_Ln2_Ln2Ideal
    ∧ algebraic_Ln2Ideal_Ln2RefIdeal_pre_finite_ln2 (hLn2Ideal := hLn2Ideal) (hLn2RefIdeal := hLn2RefIdeal) (hPre_finite_ln2 := hPre_finite_ln2)
    ∧ preserves_Ln1_Ln1Ideal
    ∧ algebraic_Ln1Ideal_Ln1RefIdeal_pre_finite_ln1 (hLn1Ideal := hLn1Ideal) (hLn1RefIdeal := hLn1RefIdeal) (hPre_finite_ln1 := hPre_finite_ln1)
    ∧ preserves_Dh0_Dh0Ideal
    ∧ algebraic_Dh0Ideal_Dh0RefIdeal (hDh0Ideal := hDh0Ideal) (hDh0RefIdeal := hDh0RefIdeal)
    ∧ preserves_Win_WinIdeal
    ∧ algebraic_WinIdeal_WinRefIdeal (hWinIdeal := hWinIdeal) (hWinRefIdeal := hWinRefIdeal)
    ∧ preserves_Wup_WupIdeal
    ∧ algebraic_WupIdeal_WupRefIdeal (hWupIdeal := hWupIdeal) (hWupRefIdeal := hWupRefIdeal)
    ∧ preserves_Wdown_WdownIdeal
    ∧ algebraic_WdownIdeal_WdownRefIdeal (hWdownIdeal := hWdownIdeal) (hWdownRefIdeal := hWdownRefIdeal)
    ∧ preserves_Wout_WoutIdeal
    ∧ algebraic_WoutIdeal_WoutRefIdeal (hWoutIdeal := hWoutIdeal) (hWoutRefIdeal := hWoutRefIdeal)
    ∧ preserves_Wple_WpleIdeal
    ∧ algebraic_WpleIdeal_WpleRefIdeal (hWpleIdeal := hWpleIdeal) (hWpleRefIdeal := hWpleRefIdeal)
    ∧ preserves_Aout_AoutIdeal
    ∧ algebraic_AoutIdeal_AoutRefIdeal (hAoutIdeal := hAoutIdeal) (hAoutRefIdeal := hAoutRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_MixFwd_MixFwdIdeal
    ∧ algebraic_MixFwdIdeal_MixFwdRefIdeal (hMixFwdIdeal := hMixFwdIdeal) (hMixFwdRefIdeal := hMixFwdRefIdeal)
    ∧ preserves_UpFwd_UpFwdIdeal
    ∧ algebraic_UpFwdIdeal_UpFwdRefIdeal (hUpFwdIdeal := hUpFwdIdeal) (hUpFwdRefIdeal := hUpFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_DownFwd_DownFwdIdeal
    ∧ algebraic_DownFwdIdeal_DownFwdRefIdeal (hDownFwdIdeal := hDownFwdIdeal) (hDownFwdRefIdeal := hDownFwdRefIdeal)
-- ==== Pre_finite_ln1.lean ====
abbrev S2048x1024 : Shape := ⟨2, ![2048, 1024]⟩
abbrev S1024x1024 : Shape := ⟨2, ![1024, 1024]⟩
abbrev S2048x2816 : Shape := ⟨2, ![2048, 2816]⟩
abbrev S1024x5632 : Shape := ⟨2, ![1024, 5632]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  bcast_S_S2048x2816 : S_.BroadcastsInDim S2048x2816 (![] : Fin 0 → Fin S2048x2816.rank)
  reducesTo_S2048x2816_S_d0_1 : S2048x2816.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_v3 : IVec S_ 1) (main_v8 : IVec S_ 1) (main_v13 : IVec S_ 1) (main_v18 : IVec S_ 1) (main_v23 : IVec S_ 1) (main_v28 : IVec S_ 1) (main_v32 : IVec S_ 1) (main_v33 : FVec F S1024 .f32) : IVec S_ 1 :=
  let main_cst_12 : FVec F S_ .f32 := constant S_ .f32 0x7F800000#32
  let main_v34 : FVec F S1024 .f32 := broadcastInDim S1024 ![] bcast_S_S1024 main_cst_12
  let main_v35 : IVec S1024 1 := cmpf .olt main_v33 main_v34
  let main_c_13 : IVec S_ 1 := constantI S_ 1 1#1
  let main_v36 : IVec S_ 1 := (fun x v => Host.reduce IntOp.andi x v reducesTo_S1024_S_d0 h_S_) main_v35 main_c_13
  let main_v37 : IVec S_ 1 := andi main_v3 main_v8
  let main_v38 : IVec S_ 1 := andi main_v37 main_v13
  let main_v39 : IVec S_ 1 := andi main_v38 main_v18
  let main_v40 : IVec S_ 1 := andi main_v39 main_v23
  let main_v41 : IVec S_ 1 := andi main_v40 main_v28
  let main_v42 : IVec S_ 1 := andi main_v41 main_v32
  let main_v43 : IVec S_ 1 := andi main_v42 main_v36
  main_v43

def fn_part1 {F : FTy → Type} [FloatOps F] (main_arg4 : FVec F S2048x2816 .bf16) (main_arg5 : FVec F S1024x5632 .bf16) (main_arg6 : FVec F S2048x1024 .f32) (main_arg7 : FVec F S1024 .f32) (main_v3 : IVec S_ 1) (main_v8 : IVec S_ 1) (main_v13 : IVec S_ 1) (main_v15 : FVec F S2048x2816 .f32) (main_v16 : FVec F S2048x2816 .f32) : IVec S_ 1 :=
  let main_v17 : IVec S2048x2816 1 := cmpf .olt main_v15 main_v16
  let main_c_5 : IVec S_ 1 := constantI S_ 1 1#1
  let main_v18 : IVec S_ 1 := (fun x v => Host.reduce IntOp.andi x v reducesTo_S2048x2816_S_d0_1 h_S_) main_v17 main_c_5
  let main_v19 : FVec F S2048x2816 .f32 := (extf .f32 · bitsLt_bf16_f32) main_arg4
  let main_v20 : FVec F S2048x2816 .f32 := Host.absf main_v19
  let main_cst_6 : FVec F S_ .f32 := constant S_ .f32 0x7F800000#32
  let main_v21 : FVec F S2048x2816 .f32 := broadcastInDim S2048x2816 ![] bcast_S_S2048x2816 main_cst_6
  let main_v22 : IVec S2048x2816 1 := cmpf .olt main_v20 main_v21
  let main_c_7 : IVec S_ 1 := constantI S_ 1 1#1
  let main_v23 : IVec S_ 1 := (fun x v => Host.reduce IntOp.andi x v reducesTo_S2048x2816_S_d0_1 h_S_) main_v22 main_c_7
  let main_v24 : FVec F S1024x5632 .f32 := (extf .f32 · bitsLt_bf16_f32) main_arg5
  let main_v25 : FVec F S1024x5632 .f32 := Host.absf main_v24
  let main_cst_8 : FVec F S_ .f32 := constant S_ .f32 0x7F800000#32
  let main_v26 : FVec F S1024x5632 .f32 := broadcastInDim S1024x5632 ![] bcast_S_S1024x5632 main_cst_8
  let main_v27 : IVec S1024x5632 1 := cmpf .olt main_v25 main_v26
  let main_c_9 : IVec S_ 1 := constantI S_ 1 1#1
  let main_v28 : IVec S_ 1 := (fun x v => Host.reduce IntOp.andi x v reducesTo_S1024x5632_S_d0_1 h_S_) main_v27 main_c_9
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : FVec F S1024 .f32 := Host.absf main_arg7
  fn_part2 (F := F) main_v3 main_v8 main_v13 main_v18 main_v23 main_v28 main_v32 main_v33

def fn {F : FTy → Type} [FloatOps F] (main_arg0 : FVec F S2048x1024 .f32) (main_arg1 : FVec F S2048x1024 .bf16) (main_arg2 : FVec F S1024x1024 .bf16) (main_arg3 : FVec F S2048x2816 .bf16) (main_arg4 : FVec F S2048x2816 .bf16) (main_arg5 : FVec F S1024x5632 .bf16) (main_arg6 : FVec F S2048x1024 .f32) (main_arg7 : FVec F S1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := (extf .f32 · bitsLt_bf16_f32) main_arg1
  let main_v5 : FVec F S2048x1024 .f32 := Host.absf main_v4
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_c_1 : IVec S_ 1 := constantI S_ 1 1#1
  let main_v8 : IVec S_ 1 := (fun x v => Host.reduce IntOp.andi x v reducesTo_S2048x1024_S_d0_1 h_S_) main_v7 main_c_1
  let main_v9 : FVec F S1024x1024 .f32 := (extf .f32 · bitsLt_bf16_f32) main_arg2
  let main_v10 : FVec F S1024x1024 .f32 := Host.absf main_v9
  let main_cst_2 : FVec F S_ .f32 := constant S_ .f32 0x7F800000#32
  let main_v11 : FVec F S1024x1024 .f32 := broadcastInDim S1024x1024 ![] bcast_S_S1024x1024 main_cst_2
  let main_v12 : IVec S1024x1024 1 := cmpf .olt main_v10 main_v11
  let main_c_3 : IVec S_ 1 := constantI S_ 1 1#1
  let main_v13 : IVec S_ 1 := (fun x v => Host.reduce IntOp.andi x v reducesTo_S1024x1024_S_d0_1 h_S_) main_v12 main_c_3
  let main_v14 : FVec F S2048x2816 .f32 := (extf .f32 · bitsLt_bf16_f32) main_arg3
  let main_v15 : FVec F S2048x2816 .f32 := Host.absf main_v14
  let main_cst_4 : FVec F S_ .f32 := constant S_ .f32 0x7F800000#32
  let main_v16 : FVec F S2048x2816 .f32 := broadcastInDim S2048x2816 ![] bcast_S_S2048x2816 main_cst_4
  fn_part1 (F := F) main_arg4 main_arg5 main_arg6 main_arg7 main_v3 main_v8 main_v13 main_v15 main_v16
-- ==== Pre_finite_ln2.lean ====
abbrev S2048x1024 : Shape := ⟨2, ![2048, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S2048x1024 .f32) (main_arg1 : FVec F S2048x1024 .f32) (main_arg2 : FVec F S1024 .f32) (main_arg3 : FVec F S2048x1024 .bf16) (main_arg4 : FVec F S2048x1024 .bf16) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : IVec S_ 1 := andi main_v3 main_v7
  let main_v13 : IVec S_ 1 := andi main_v12 main_v11
  main_v13
-- ==== Merge.lean ====
abbrev S2048x1024 : Shape := ⟨2, ![2048, 1024]⟩
abbrev S1024x1024 : Shape := ⟨2, ![1024, 1024]⟩
abbrev S2048x4096 : Shape := ⟨2, ![2048, 4096]⟩
abbrev S8x128x1024 : Shape := ⟨3, ![8, 128, 1024]⟩
abbrev S4x128x1024 : Shape := ⟨3, ![4, 128, 1024]⟩
abbrev S1024x512 : Shape := ⟨2, ![1024, 512]⟩
abbrev S512x1024 : Shape := ⟨2, ![512, 1024]⟩

abbrev nBuf : Space → Nat
  | .hbm => 10
  | .vmem => 20
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x4096, .bf16⟩
  | .hbm, ⟨3, _⟩ => ⟨S2048x1024, .bf16⟩
  | .hbm, ⟨4, _⟩ => ⟨S2048x1024, .bf16⟩
  | .hbm, ⟨5, _⟩ => ⟨S8x128x1024, .bf16⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S4x128x1024, .bf16⟩
  | .local _ .vmem, ⟨3, _⟩ => ⟨S4x128x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S2048x1024 : Shape := ⟨2, ![2048, 1024]⟩
abbrev S1024x1024 : Shape := ⟨2, ![1024, 1024]⟩
abbrev S2048x4096 : Shape := ⟨2, ![2048, 4096]⟩
abbrev S2048x2048 : Shape := ⟨2, ![2048, 2048]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x4096, .bf16⟩
  | .hbm, ⟨3, _⟩ => ⟨S2048x1024, .bf16⟩
  | .hbm, ⟨4, _⟩ => ⟨S2048x1024, .bf16⟩
  | .hbm, ⟨5, _⟩ => ⟨S2048x1024, .f32⟩
  | .hbm, ⟨6, _⟩ => ⟨S1024x1024, .f32⟩
  | .hbm, ⟨7, _⟩ => ⟨S2048x4096, .f32⟩
  | .hbm, ⟨8, _⟩ => ⟨S2048x1024, .f32⟩
  | .hbm, ⟨9, _⟩ => ⟨S2048x1024, .f32⟩
  | .hbm, ⟨10, _⟩ => ⟨S2048x2048, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .bf16⟩
  | .hbm, ⟨49, _⟩ => ⟨S2048x1024, .bf16⟩
  | .hbm, ⟨50, _⟩ => ⟨S2048x1024, .bf16⟩
  | .hbm, ⟨51, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Ln2.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S2048x1024, .bf16⟩
  | .hbm, ⟨4, _⟩ => ⟨S2048x1024, .bf16⟩
  | .hbm, ⟨5, _⟩ => ⟨S1x1024, .f32⟩
  | .hbm, ⟨6, _⟩ => ⟨S2048x1024, .f32⟩
  | .hbm, ⟨7, _⟩ => ⟨S2048x1024, .bf16⟩
  | .hbm, ⟨8, _⟩ => ⟨S2048x1024, .bf16⟩
  | .hbm, ⟨9, _⟩ => ⟨S2048x1024, .bf16⟩
  | .hbm, ⟨10, _⟩ => ⟨S1x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Ln2RefIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 103
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S2048x1024, .bf16⟩
  | .hbm, ⟨4, _⟩ => ⟨S2048x1024, .bf16⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1024, .f32⟩
  | .hbm, ⟨33, _⟩ => ⟨S2048x1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S_, .f32⟩
  | .hbm, ⟨73, _⟩ => ⟨S2048, .f32⟩
  | .hbm, ⟨74, _⟩ => ⟨S2048x1, .f32⟩
  | .hbm, ⟨75, _⟩ => ⟨S_, .f32⟩
  | .hbm, ⟨76, _⟩ => ⟨S2048x1, .f32⟩
  | .hbm, ⟨77, _⟩ => ⟨S2048x1, .f32⟩
  | .hbm, ⟨78, _⟩ => ⟨S_, .f32⟩
  | .hbm, ⟨79, _⟩ => ⟨S2048, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S_, .f32⟩
  | .hbm, ⟨85, _⟩ => ⟨S2048x1024, .f32⟩
  | .hbm, ⟨86, _⟩ => ⟨S2048x1024, .f32⟩
  | .hbm, ⟨87, _⟩ => ⟨S_, .f32⟩
  | .hbm, ⟨88, _⟩ => ⟨S2048x1024, .f32⟩
  | .hbm, ⟨89, _⟩ => ⟨S2048x1024, .f32⟩
  | .hbm, ⟨90, _⟩ => ⟨S_, .f32⟩
  | .hbm, ⟨91, _⟩ => ⟨S2048x1024, .f32⟩
  | .hbm, ⟨92, _⟩ => ⟨S2048x1024, .f32⟩
  | .hbm, ⟨93, _⟩ => ⟨S2048x1024, .f32⟩
  | .hbm, ⟨94, _⟩ => ⟨S2048x1024, .f32⟩
  | .hbm, ⟨95, _⟩ => ⟨S2048x1024, .f32⟩
  | .hbm, ⟨96, _⟩ => ⟨S2048x1024, .f32⟩
  | .hbm, ⟨97, _⟩ => ⟨S2048x1024, .f32⟩
  | .hbm, ⟨98, _⟩ => ⟨S2048x1024, .bf16⟩
  | .hbm, ⟨99, _⟩ => ⟨S2048x1024, .bf16⟩
  | .hbm, ⟨100, _⟩ => ⟨S2048x1024, .bf16⟩
  | .hbm, ⟨101, _⟩ => ⟨S1x1024, .f32⟩
  | .hbm, ⟨102, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_cst_12 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_16 : Ref sig .tc := ⟨.hbm, 84, rfl⟩
abbrev main_v62 : Ref sig .tc := ⟨.hbm, 85, rfl⟩
abbrev main_v63 : Ref sig .tc := ⟨.hbm, 86, rfl⟩
abbrev main_cst_17 : Ref sig .tc := ⟨.hbm, 87, rfl⟩
abbrev main_v64 : Ref sig .tc := ⟨.hbm, 88, rfl⟩
abbrev main_v65 : Ref sig .tc := ⟨.hbm, 89, rfl⟩
abbrev main_cst_18 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩

abbrev nD : Nat := 1
abbrev τ : Topo := Topo.v7x

variable {F : FTy → Type} [FloatOps F]
-- ==== Ln1.lean ====
abbrev S2048x1024 : Shape := ⟨2, ![2048, 1024]⟩
abbrev S1024x1024 : Shape := ⟨2, ![1024, 1024]⟩
abbrev S2048x2816 : Shape := ⟨2, ![2048, 2816]⟩
abbrev S1024x5632 : Shape := ⟨2, ![1024, 5632]⟩
abbrev S1024 : Shape := ⟨1, ![1024]⟩
abbrev S8x128x1024 : Shape := ⟨3, ![8, 128, 1024]⟩
abbrev S2048x4x704 : Shape := ⟨3, ![2048, 4, 704]⟩
abbrev S4x2048x704 : Shape := ⟨3, ![4, 2048, 704]⟩
abbrev S5632x1024 : Shape := ⟨2, ![5632, 1024]⟩
abbrev S8x704x1024 : Shape := ⟨3, ![8, 704, 1024]⟩
abbrev S1x1024 : Shape := ⟨2, ![1, 1024]⟩
abbrev S256x1024 : Shape := ⟨2, ![256, 1024]⟩
abbrev S4x256x704 : Shape := ⟨3, ![4, 256, 704]⟩
abbrev S1x256x704 : Shape := ⟨3, ![1, 256, 704]⟩
abbrev S256x704 : Shape := ⟨2, ![256, 704]⟩
abbrev S1x704x1024 : Shape := ⟨3, ![1, 704, 1024]⟩
abbrev S704x1024 : Shape := ⟨2, ![704, 1024]⟩
abbrev S256 : Shape := ⟨1, ![256]⟩
abbrev S256x1 : Shape := ⟨2, ![256, 1]⟩

abbrev nBuf : Space → Nat
  | .hbm => 20
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .bf16⟩
  | .hbm, ⟨3, _⟩ => ⟨S2048x2816, .bf16⟩
  | .hbm, ⟨4, _⟩ => ⟨S2048x2816, .bf16⟩
  | .hbm, ⟨5, _⟩ => ⟨S1024x5632, .bf16⟩
  | .hbm, ⟨6, _⟩ => ⟨S2048x1024, .f32⟩
  | .hbm, ⟨7, _⟩ => ⟨S1024, .f32⟩
  | .hbm, ⟨8, _⟩ => ⟨S8x128x1024, .bf16⟩
  | .hbm, ⟨9, _⟩ => ⟨S2048x4x704, .bf16⟩
  | .hbm, ⟨10, _⟩ => ⟨S4x2048x704, .bf16⟩
  | .hbm, ⟨11, _⟩ => ⟨S2048x4x704, .bf16⟩
  | .hbm, ⟨12, _⟩ => ⟨S4x2048x704, .bf16⟩
  | .hbm, ⟨13, _⟩ => ⟨S5632x1024, .bf16⟩
  | .hbm, ⟨14, _⟩ => ⟨S8x704x1024, .bf16⟩
  | .hbm, ⟨15, _⟩ => ⟨S1x1024, .f32⟩
  | .hbm, ⟨16, _⟩ => ⟨S2048x1024, .f32⟩
  | .hbm, ⟨17, _⟩ => ⟨S2048x1024, .bf16⟩
  | .hbm, ⟨18, _⟩ => ⟨S1x1024, .f32⟩
  | .hbm, ⟨19, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S8x128x1024, .bf16⟩
  | .local _ .vmem, ⟨5, _⟩ => ⟨S4x256x704, .bf16⟩
  | .local _ .vmem, ⟨6, _⟩ => ⟨S4x256x704, .bf16⟩
  | .local _ .vmem, ⟨7, _⟩ => ⟨S4x256x704, .bf16⟩
  | .local _ .vmem, ⟨8, _⟩ => ⟨S4x256x704, .bf16⟩
  | .local _ .vmem, ⟨9, _⟩ => ⟨S8x704x1024, .bf16⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Ln1RefIdeal.lean ====
abbrev S2048x1024 : Shape := ⟨2, ![2048, 1024]⟩
abbrev S1024x1024 : Shape := ⟨2, ![1024, 1024]⟩
abbrev S2048x2816 : Shape := ⟨2, ![2048, 2816]⟩
abbrev S1024x5632 : Shape := ⟨2, ![1024, 5632]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x5632 : Shape := ⟨2, ![2048, 5632]⟩

abbrev nBuf : Space → Nat
  | .hbm => 105
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1024x1024, .bf16⟩
  | .hbm, ⟨3, _⟩ => ⟨S2048x2816, .bf16⟩
  | .hbm, ⟨4, _⟩ => ⟨S2048x2816, .bf16⟩
  | .hbm, ⟨5, _⟩ => ⟨S1024x5632, .bf16⟩
  | .hbm, ⟨6, _⟩ => ⟨S2048x1024, .f32⟩
  | .hbm, ⟨7, _⟩ => ⟨S1024, .f32⟩
  | .hbm, ⟨8, _⟩ => ⟨S2048x1024, .f32⟩
  | .hbm, ⟨9, _⟩ => ⟨S1024x1024, .f32⟩
  | .hbm, ⟨10, _⟩ => ⟨S2048x2816, .f32⟩
  | .hbm, ⟨11, _⟩ => ⟨S2048x2816, .f32⟩
  | .hbm, ⟨12, _⟩ => ⟨S1024x5632, .f32⟩
  | .hbm, ⟨13, _⟩ => ⟨S_, .f32⟩
  | .hbm, ⟨14, _⟩ => ⟨S1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S1x1024, .f32⟩
  | .hbm, ⟨41, _⟩ => ⟨S2048x1024, .f32⟩
  | .hbm, ⟨42, _⟩ => ⟨S2048x1024, .f32⟩
  | .hbm, ⟨43, _⟩ => ⟨S1x1024, .f32⟩
  | .hbm, ⟨44, _⟩ => ⟨S2048x1024, .f32⟩
  | .hbm, ⟨45, _⟩ => ⟨S2048x1024, .f32⟩
  | .hbm, ⟨46, _⟩ => ⟨S2048x5632, .f32⟩
  | .hbm, ⟨47, _⟩ => ⟨S2048x2816, .f32⟩
  | .hbm, ⟨48, _⟩ => ⟨S2048x2816, .f32⟩
  | .hbm, ⟨49, _⟩ => ⟨S_, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x5632, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S_, .f32⟩
  | .hbm, ⟨65, _⟩ => ⟨S1024, .f32⟩
  | .hbm, ⟨66, _⟩ => ⟨S2048x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S2048x1024, .f32⟩
  | .hbm, ⟨71, _⟩ => ⟨S2048x1024, .f32⟩
  | .hbm, ⟨72, _⟩ => ⟨S_, .f32⟩
  | .hbm, ⟨73, _⟩ => ⟨S1024, .f32⟩
  | .hbm, ⟨74, _⟩ => ⟨S2048x1024, .f32⟩
  | .hbm, ⟨75, _⟩ => ⟨S_, .f32⟩
  | .hbm, ⟨76, _⟩ => ⟨S2048, .f32⟩
  | .hbm, ⟨77, _⟩ => ⟨S2048x1, .f32⟩
  | .hbm, ⟨78, _⟩ => ⟨S2048x1024, .f32⟩
  | .hbm, ⟨79, _⟩ => ⟨S2048x1024, .f32⟩
  | .hbm, ⟨80, _⟩ => ⟨S2048x1, .f32⟩
  | .hbm, ⟨81, _⟩ => ⟨S_, .f32⟩
  | .hbm, ⟨82, _⟩ => ⟨S2048x1, .f32⟩
  | .hbm, ⟨83, _⟩ => ⟨S2048x1, .f32⟩
  | .hbm, ⟨84, _⟩ => ⟨S_, .f32⟩
  | .hbm, ⟨85, _⟩ => ⟨S2048, .f32⟩
  | .hbm, ⟨86, _⟩ => ⟨S2048x1024, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S_, .f32⟩
  | .hbm, ⟨93, _⟩ => ⟨S2048, .f32⟩
  | .hbm, ⟨94, _⟩ => ⟨S2048x1, .f32⟩
  | .hbm, ⟨95, _⟩ => ⟨S_, .f32⟩
  | .hbm, ⟨96, _⟩ => ⟨S2048x1, .f32⟩
  | .hbm, ⟨97, _⟩ => ⟨S2048x1, .f32⟩
  | .hbm, ⟨98, _⟩ => ⟨S_, .f32⟩
  | .hbm, ⟨99, _⟩ => ⟨S2048, .f32⟩
  | .hbm, ⟨100, _⟩ => ⟨S2048x1024, .f32⟩
  | .hbm, ⟨101, _⟩ => ⟨S2048x1024, .f32⟩
  | .hbm, ⟨102, _⟩ => ⟨S2048x1024, .bf16⟩
  | .hbm, ⟨103, _⟩ => ⟨S1x1024, .f32⟩
  | .hbm, ⟨104, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_v53 : Ref sig .tc := ⟨.hbm, 74, rfl⟩
abbrev main_cst_12 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_13 : Ref sig .tc := ⟨.hbm, 81, rfl⟩
abbrev main_v59 : Ref sig .tc := ⟨.hbm, 82, rfl⟩
abbrev main_v60 : Ref sig .tc := ⟨.hbm, 83, rfl⟩
abbrev main_cst_14 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_15 : Ref sig .tc := ⟨.hbm, 92, rfl⟩
abbrev main_v68 : Ref sig .tc := ⟨.hbm, 93, rfl⟩
abbrev main_v69 : Ref sig .tc := ⟨.hbm, 94, rfl⟩
abbrev main_cst_16 : Ref sig .tc := ⟨.hbm, 95, rfl⟩
abbrev main_v70 : Ref sig .tc := ⟨.hbm, 96, rfl⟩
abbrev main_v71 : Ref sig .tc := ⟨.hbm, 97, rfl⟩
abbrev main_cst_17 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩

abbrev nD : Nat := 1
abbrev τ : Topo := Topo.v7x

variable {F : FTy → Type} [FloatOps F]
-- ==== Dh0.lean ====
abbrev S2048x1024 : Shape := ⟨2, ![2048, 1024]⟩
abbrev S2048x512 : Shape := ⟨2, ![2048, 512]⟩
abbrev S1024x4096 : Shape := ⟨2, ![1024, 4096]⟩
abbrev S1024x8x512 : Shape := ⟨3, ![1024, 8, 512]⟩
abbrev S8x1024x512 : Shape := ⟨3, ![8, 1024, 512]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 11
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x1024, .bf16⟩
  | .hbm, ⟨6, _⟩ => ⟨S2048x1024, .bf16⟩
  | .hbm, ⟨7, _⟩ => ⟨S1024x4096, .bf16⟩
  | .hbm, ⟨8, _⟩ => ⟨S1024x8x512, .bf16⟩
  | .hbm, ⟨9, _⟩ => ⟨S8x1024x512, .bf16⟩
  | .hbm, ⟨10, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S8x1024x512, .bf16⟩
  | .local _ .vmem, ⟨15, _⟩ => ⟨S512x1024, .f32⟩
  | .local _ .vmem, ⟨16, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Dh0RefIdeal.lean ====
abbrev S2048x1024 : Shape := ⟨2, ![2048, 1024]⟩
abbrev S2048x512 : Shape := ⟨2, ![2048, 512]⟩
abbrev S1024x4096 : Shape := ⟨2, ![1024, 4096]⟩
abbrev S_ : Shape := ⟨0, ![]⟩
abbrev S2048x4096 : Shape := ⟨2, ![2048, 4096]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x1024, .bf16⟩
  | .hbm, ⟨6, _⟩ => ⟨S2048x1024, .bf16⟩
  | .hbm, ⟨7, _⟩ => ⟨S1024x4096, .bf16⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S2048x1024, .f32⟩
  | .hbm, ⟨13, _⟩ => ⟨S2048x1024, .f32⟩
  | .hbm, ⟨14, _⟩ => ⟨S1024x4096, .f32⟩
  | .hbm, ⟨15, _⟩ => ⟨S_, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S2048x4096, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S2048x1024, .f32⟩
  | .hbm, ⟨26, _⟩ => ⟨S2048x1024, .f32⟩
  | .hbm, ⟨27, _⟩ => ⟨S2048x4096, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Win.lean ====
abbrev S2048x1024 : Shape := ⟨2, ![2048, 1024]⟩
abbrev S2048x512 : Shape := ⟨2, ![2048, 512]⟩
abbrev S8x1024x512 : Shape := ⟨3, ![8, 1024, 512]⟩
abbrev S1x4096 : Shape := ⟨2, ![1, 4096]⟩
abbrev S1x1024x512 : Shape := ⟨3, ![1, 1024, 512]⟩
abbrev S1x512 : Shape := ⟨2, ![1, 512]⟩
abbrev S1024x512 : Shape := ⟨2, ![1024, 512]⟩
abbrev S512 : Shape := ⟨1, ![512]⟩

abbrev nBuf : Space → Nat
  | .hbm => 9
  | .vmem => 13
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x1024, .bf16⟩
  | .hbm, ⟨6, _⟩ => ⟨S2048x1024, .bf16⟩
  | .hbm, ⟨7, _⟩ => ⟨S8x1024x512, .bf16⟩
  | .hbm, ⟨8, _⟩ => ⟨S1x4096, .f32⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x512, .f32⟩
  | .local _ .vmem, ⟨12, _⟩ => ⟨S1x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg0 : BitVec 32 := BitVec.ofNat 32 (i 0).val
  let c4_i32 : BitVec 32 := 4#32
  let v12 : BitVec 1 := Scalar.cmpi .sge arg0 c4_i32
  let c6_i32 : BitVec 32 := 6#32
  let v13 : BitVec 1 := Scalar.cmpi .slt arg0 c6_i32
  let v14 : BitVec 1 := Scalar.andi v12 v13
  let v15 : BitVec 32 := Scalar.extui v14
  let c0_i32_4 : BitVec 32 := 0#32
  let v16 : BitVec 1 := Scalar.cmpi .ne v15 c0_i32_4
  v16

def k0_cond6 (i : grid0.Coords) : BitVec 1 :=
  let arg0 : BitVec 32 := BitVec.ofNat 32 (i 0).val
  let c6_i32_5 : BitVec 32 := 6#32
  let v17 : BitVec 1 := Scalar.cmpi .sge arg0 c6_i32_5
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c4_i32 : BitVec 32 := 4#32
  let v0 : BitVec 32 := Scalar.subi arg0 c4_i32
  let c2_i32 : BitVec 32 := 2#32
  let v1 : BitVec 32 := Scalar.subi v0 c2_i32
  let c0_i32 : BitVec 32 := 0#32
  let c1_i32 : BitVec 32 := 1#32
  let v2 : BitVec 32 := Scalar.maxsi c0_i32 v1
  let v3 : BitVec 32 := Scalar.minsi c1_i32 v2
  let c0_i32_0 : BitVec 32 := 0#32
  let c0_i32_1 : BitVec 32 := 0#32
  ![c0_i32_0.toNat, v3.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== WinRefIdeal.lean ====
abbrev S2048x1024 : Shape := ⟨2, ![2048, 1024]⟩
abbrev S2048x512 : Shape := ⟨2, ![2048, 512]⟩
abbrev S_ : Shape := ⟨0, ![]⟩
abbrev S1024x4096 : Shape := ⟨2, ![1024, 4096]⟩
abbrev S4096 : Shape := ⟨1, ![4096]⟩
abbrev S2048x4096 : Shape := ⟨2, ![2048, 4096]⟩
abbrev S1x4096 : Shape := ⟨2, ![1, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x1024, .bf16⟩
  | .hbm, ⟨6, _⟩ => ⟨S2048x1024, .bf16⟩
  | .hbm, ⟨7, _⟩ => ⟨S2048x1024, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S1024x4096, .f32⟩
  | .hbm, ⟨16, _⟩ => ⟨S_, .f32⟩
  | .hbm, ⟨17, _⟩ => ⟨S4096, .f32⟩
  | .hbm, ⟨18, _⟩ => ⟨S2048x4096, .f32⟩
  | .hbm, ⟨19, _⟩ => ⟨S1x4096, .f32⟩
  | .hbm, ⟨20, _⟩ => ⟨S2048x4096, .f32⟩
  | .hbm, ⟨21, _⟩ => ⟨S2048x4096, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S2048x1024, .f32⟩
  | .hbm, ⟨27, _⟩ => ⟨S2048x1024, .f32⟩
  | .hbm, ⟨28, _⟩ => ⟨S2048x4096, .f32⟩
  | .hbm, ⟨29, _⟩ => ⟨S_, .f32⟩
  | .hbm, ⟨30, _⟩ => ⟨S4096, .f32⟩
  | .hbm, ⟨31, _⟩ => ⟨S1x4096, .f32⟩
  | .hbm, ⟨32, _⟩ => ⟨S_, .f32⟩
  | .hbm, ⟨33, _⟩ => ⟨S4096, .f32⟩
  | .hbm, ⟨34, _⟩ => ⟨S4096x1024, .f32⟩
  | .hbm, ⟨35, _⟩ => ⟨S1024x4096, .f32⟩
  | .hbm, ⟨36, _⟩ => ⟨S1024x8x512, .f32⟩
  | .hbm, ⟨37, _⟩ => ⟨S8x1024x512, .f32⟩
  | .hbm, ⟨38, _⟩ => ⟨S8x1024x512, .bf16⟩
  | .hbm, ⟨39, _⟩ => ⟨S1x4096, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Wup.lean ====
abbrev S2048x1024 : Shape := ⟨2, ![2048, 1024]⟩
abbrev S2048x2816 : Shape := ⟨2, ![2048, 2816]⟩
abbrev S2048x4x704 : Shape := ⟨3, ![2048, 4, 704]⟩
abbrev S4x2048x704 : Shape := ⟨3, ![4, 2048, 704]⟩
abbrev S8x704x1024 : Shape := ⟨3, ![8, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S2048x2816, .bf16⟩
  | .hbm, ⟨3, _⟩ => ⟨S2048x4x704, .bf16⟩
  | .hbm, ⟨4, _⟩ => ⟨S4x2048x704, .bf16⟩
  | .hbm, ⟨5, _⟩ => ⟨S2048x4x704, .bf16⟩
  | .hbm, ⟨6, _⟩ => ⟨S4x2048x704, .bf16⟩
  | .hbm, ⟨7, _⟩ => ⟨S8x704x1024, .bf16⟩
  | .local _ .vmem, ⟨0, _⟩ => ⟨S2048x1024, .bf16⟩
  | .local _ .vmem, ⟨1, _⟩ => ⟨S1x2048x704, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x704x1024, .bf16⟩
  | .local _ .vmem, ⟨6, _⟩ => ⟨S1x704x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c4_i32_0 : BitVec 32 := 4#32
  let v3 : BitVec 1 := Scalar.cmpi .sge arg0 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== WupRefIdeal.lean ====
abbrev S2048x1024 : Shape := ⟨2, ![2048, 1024]⟩
abbrev S2048x2816 : Shape := ⟨2, ![2048, 2816]⟩
abbrev S_ : Shape := ⟨0, ![]⟩
abbrev S1024x5632 : Shape := ⟨2, ![1024, 5632]⟩
abbrev S2048x5632 : Shape := ⟨2, ![2048, 5632]⟩
abbrev S5632x1024 : Shape := ⟨2, ![5632, 1024]⟩
abbrev S8x704x1024 : Shape := ⟨3, ![8, 704, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S2048x2816, .bf16⟩
  | .hbm, ⟨3, _⟩ => ⟨S2048x1024, .f32⟩
  | .hbm, ⟨4, _⟩ => ⟨S2048x2816, .f32⟩
  | .hbm, ⟨5, _⟩ => ⟨S2048x2816, .f32⟩
  | .hbm, ⟨6, _⟩ => ⟨S_, .f32⟩
  | .hbm, ⟨7, _⟩ => ⟨S1024x5632, .f32⟩
  | .hbm, ⟨8, _⟩ => ⟨S2048x5632, .f32⟩
  | .hbm, ⟨9, _⟩ => ⟨S2048x2816, .f32⟩
  | .hbm, ⟨10, _⟩ => ⟨S2048x2816, .f32⟩
  | .hbm, ⟨11, _⟩ => ⟨S2048x5632, .f32⟩
  | .hbm, ⟨12, _⟩ => ⟨S5632x1024, .f32⟩
  | .hbm, ⟨13, _⟩ => ⟨S1024x5632, .f32⟩
  | .hbm, ⟨14, _⟩ => ⟨S5632x1024, .f32⟩
  | .hbm, ⟨15, _⟩ => ⟨S8x704x1024, .f32⟩
  | .hbm, ⟨16, _⟩ => ⟨S8x704x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Wdown.lean ====
abbrev S2048x2816 : Shape := ⟨2, ![2048, 2816]⟩
abbrev S2048x1024 : Shape := ⟨2, ![2048, 1024]⟩
abbrev S2048x4x704 : Shape := ⟨3, ![2048, 4, 704]⟩
abbrev S4x2048x704 : Shape := ⟨3, ![4, 2048, 704]⟩
abbrev S4x704x1024 : Shape := ⟨3, ![4, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2048x4x704, .bf16⟩
  | .hbm, ⟨3, _⟩ => ⟨S4x2048x704, .bf16⟩
  | .hbm, ⟨4, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S1x704x1024, .bf16⟩
  | .local _ .vmem, ⟨4, _⟩ => ⟨S1x704x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WdownRefIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2048x2816, .f32⟩
  | .hbm, ⟨3, _⟩ => ⟨S2048x1024, .f32⟩
  | .hbm, ⟨4, _⟩ => ⟨S_, .f32⟩
  | .hbm, ⟨5, _⟩ => ⟨S2816x1024, .f32⟩
  | .hbm, ⟨6, _⟩ => ⟨S2048x1024, .f32⟩
  | .hbm, ⟨7, _⟩ => ⟨S1024x2816, .f32⟩
  | .hbm, ⟨8, _⟩ => ⟨S2816x1024, .f32⟩
  | .hbm, ⟨9, _⟩ => ⟨S4x704x1024, .f32⟩
  | .hbm, ⟨10, _⟩ => ⟨S4x704x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Wout.lean ====
abbrev S2048x1024 : Shape := ⟨2, ![2048, 1024]⟩
abbrev S2048x512 : Shape := ⟨2, ![2048, 512]⟩
abbrev S8x128x1024 : Shape := ⟨3, ![8, 128, 1024]⟩
abbrev S8x512x128 : Shape := ⟨3, ![8, 512, 128]⟩
abbrev S2048x128 : Shape := ⟨2, ![2048, 128]⟩
abbrev S1x128x1024 : Shape := ⟨3, ![1, 128, 1024]⟩
abbrev S1x512x128 : Shape := ⟨3, ![1, 512, 128]⟩
abbrev S128x1024 : Shape := ⟨2, ![128, 1024]⟩
abbrev S512x128 : Shape := ⟨2, ![512, 128]⟩

abbrev nBuf : Space → Nat
  | .hbm => 9
  | .vmem => 15
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x512, .bf16⟩
  | .hbm, ⟨3, _⟩ => ⟨S2048x1024, .bf16⟩
  | .hbm, ⟨4, _⟩ => ⟨S2048x512, .bf16⟩
  | .hbm, ⟨5, _⟩ => ⟨S2048x1024, .bf16⟩
  | .hbm, ⟨6, _⟩ => ⟨S8x128x1024, .bf16⟩
  | .hbm, ⟨7, _⟩ => ⟨S8x512x128, .bf16⟩
  | .hbm, ⟨8, _⟩ => ⟨S8x512x128, .bf16⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S2048x512, .bf16⟩
  | .local _ .vmem, ⟨4, _⟩ => ⟨S2048x128, .bf16⟩
  | .local _ .vmem, ⟨5, _⟩ => ⟨S2048x128, .bf16⟩
  | .local _ .vmem, ⟨6, _⟩ => ⟨S2048x512, .bf16⟩
  | .local _ .vmem, ⟨7, _⟩ => ⟨S2048x128, .bf16⟩
  | .local _ .vmem, ⟨8, _⟩ => ⟨S2048x128, .bf16⟩
  | .local _ .vmem, ⟨9, _⟩ => ⟨S1x128x1024, .bf16⟩
  | .local _ .vmem, ⟨10, _⟩ => ⟨S1x128x1024, .bf16⟩
  | .local _ .vmem, ⟨11, _⟩ => ⟨S1x512x128, .bf16⟩
  | .local _ .vmem, ⟨12, _⟩ => ⟨S1x512x128, .bf16⟩
  | .local _ .vmem, ⟨13, _⟩ => ⟨S1x512x128, .bf16⟩
  | .local _ .vmem, ⟨14, _⟩ => ⟨S1x512x128, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== WoutRefIdeal.lean ====
abbrev S2048x1024 : Shape := ⟨2, ![2048, 1024]⟩
abbrev S2048x512 : Shape := ⟨2, ![2048, 512]⟩
abbrev S_ : Shape := ⟨0, ![]⟩
abbrev S1024x1024 : Shape := ⟨2, ![1024, 1024]⟩
abbrev S512x1024 : Shape := ⟨2, ![512, 1024]⟩
abbrev S1024x512 : Shape := ⟨2, ![1024, 512]⟩
abbrev S8x128x1024 : Shape := ⟨3, ![8, 128, 1024]⟩
abbrev S512x8x128 : Shape := ⟨3, ![512, 8, 128]⟩
abbrev S8x512x128 : Shape := ⟨3, ![8, 512, 128]⟩

abbrev nBuf : Space → Nat
  | .hbm => 35
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x512, .bf16⟩
  | .hbm, ⟨3, _⟩ => ⟨S2048x1024, .bf16⟩
  | .hbm, ⟨4, _⟩ => ⟨S2048x512, .bf16⟩
  | .hbm, ⟨5, _⟩ => ⟨S2048x1024, .bf16⟩
  | .hbm, ⟨6, _⟩ => ⟨S2048x1024, .f32⟩
  | .hbm, ⟨7, _⟩ => ⟨S2048x1024, .f32⟩
  | .hbm, ⟨8, _⟩ => ⟨S2048x512, .f32⟩
  | .hbm, ⟨9, _⟩ => ⟨S2048x1024, .f32⟩
  | .hbm, ⟨10, _⟩ => ⟨S2048x512, .f32⟩
  | .hbm, ⟨11, _⟩ => ⟨S2048x1024, .f32⟩
  | .hbm, ⟨12, _⟩ => ⟨S_, .f32⟩
  | .hbm, ⟨13, _⟩ => ⟨S1024x1024, .f32⟩
  | .hbm, ⟨14, _⟩ => ⟨S_, .f32⟩
  | .hbm, ⟨15, _⟩ => ⟨S512x1024, .f32⟩
  | .hbm, ⟨16, _⟩ => ⟨S_, .f32⟩
  | .hbm, ⟨17, _⟩ => ⟨S512x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S1024x512, .f32⟩
  | .hbm, ⟨22, _⟩ => ⟨S512x1024, .f32⟩
  | .hbm, ⟨23, _⟩ => ⟨S1024x512, .f32⟩
  | .hbm, ⟨24, _⟩ => ⟨S512x1024, .f32⟩
  | .hbm, ⟨25, _⟩ => ⟨S1024x1024, .f32⟩
  | .hbm, ⟨26, _⟩ => ⟨S1024x1024, .f32⟩
  | .hbm, ⟨27, _⟩ => ⟨S8x128x1024, .f32⟩
  | .hbm, ⟨28, _⟩ => ⟨S512x8x128, .f32⟩
  | .hbm, ⟨29, _⟩ => ⟨S8x512x128, .f32⟩
  | .hbm, ⟨30, _⟩ => ⟨S512x8x128, .f32⟩
  | .hbm, ⟨31, _⟩ => ⟨S8x512x128, .f32⟩
  | .hbm, ⟨32, _⟩ => ⟨S8x128x1024, .bf16⟩
  | .hbm, ⟨33, _⟩ => ⟨S8x512x128, .bf16⟩
  | .hbm, ⟨34, _⟩ => ⟨S8x512x128, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Wple.lean ====
abbrev S2048x1024 : Shape := ⟨2, ![2048, 1024]⟩
abbrev S2048x256 : Shape := ⟨2, ![2048, 256]⟩
abbrev S8x128x1024 : Shape := ⟨3, ![8, 128, 1024]⟩
abbrev S8x256x128 : Shape := ⟨3, ![8, 256, 128]⟩
abbrev S2048x128 : Shape := ⟨2, ![2048, 128]⟩
abbrev S1x128x1024 : Shape := ⟨3, ![1, 128, 1024]⟩
abbrev S1x256x128 : Shape := ⟨3, ![1, 256, 128]⟩
abbrev S128x1024 : Shape := ⟨2, ![128, 1024]⟩
abbrev S256x128 : Shape := ⟨2, ![256, 128]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x256, .bf16⟩
  | .hbm, ⟨3, _⟩ => ⟨S2048x1024, .bf16⟩
  | .hbm, ⟨4, _⟩ => ⟨S8x128x1024, .bf16⟩
  | .hbm, ⟨5, _⟩ => ⟨S8x256x128, .bf16⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x256x128, .bf16⟩
  | .local _ .vmem, ⟨9, _⟩ => ⟨S1x256x128, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== WpleRefIdeal.lean ====
abbrev S2048x1024 : Shape := ⟨2, ![2048, 1024]⟩
abbrev S2048x256 : Shape := ⟨2, ![2048, 256]⟩
abbrev S_ : Shape := ⟨0, ![]⟩
abbrev S1024x1024 : Shape := ⟨2, ![1024, 1024]⟩
abbrev S256x1024 : Shape := ⟨2, ![256, 1024]⟩
abbrev S1024x256 : Shape := ⟨2, ![1024, 256]⟩
abbrev S8x128x1024 : Shape := ⟨3, ![8, 128, 1024]⟩
abbrev S256x8x128 : Shape := ⟨3, ![256, 8, 128]⟩
abbrev S8x256x128 : Shape := ⟨3, ![8, 256, 128]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x256, .bf16⟩
  | .hbm, ⟨3, _⟩ => ⟨S2048x1024, .bf16⟩
  | .hbm, ⟨4, _⟩ => ⟨S2048x1024, .f32⟩
  | .hbm, ⟨5, _⟩ => ⟨S2048x1024, .f32⟩
  | .hbm, ⟨6, _⟩ => ⟨S2048x256, .f32⟩
  | .hbm, ⟨7, _⟩ => ⟨S2048x1024, .f32⟩
  | .hbm, ⟨8, _⟩ => ⟨S_, .f32⟩
  | .hbm, ⟨9, _⟩ => ⟨S1024x1024, .f32⟩
  | .hbm, ⟨10, _⟩ => ⟨S_, .f32⟩
  | .hbm, ⟨11, _⟩ => ⟨S256x1024, .f32⟩
  | .hbm, ⟨12, _⟩ => ⟨S2048x1024, .f32⟩
  | .hbm, ⟨13, _⟩ => ⟨S2048x1024, .f32⟩
  | .hbm, ⟨14, _⟩ => ⟨S1024x256, .f32⟩
  | .hbm, ⟨15, _⟩ => ⟨S256x1024, .f32⟩
  | .hbm, ⟨16, _⟩ => ⟨S1024x1024, .f32⟩
  | .hbm, ⟨17, _⟩ => ⟨S1024x1024, .f32⟩
  | .hbm, ⟨18, _⟩ => ⟨S8x128x1024, .f32⟩
  | .hbm, ⟨19, _⟩ => ⟨S256x8x128, .f32⟩
  | .hbm, ⟨20, _⟩ => ⟨S8x256x128, .f32⟩
  | .hbm, ⟨21, _⟩ => ⟨S8x128x1024, .bf16⟩
  | .hbm, ⟨22, _⟩ => ⟨S8x256x128, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Aout.lean ====
abbrev S2048x1024 : Shape := ⟨2, ![2048, 1024]⟩
abbrev S512x1024 : Shape := ⟨2, ![512, 1024]⟩
abbrev S512x8x128 : Shape := ⟨3, ![512, 8, 128]⟩
abbrev S8x512x128 : Shape := ⟨3, ![8, 512, 128]⟩
abbrev S2048x512 : Shape := ⟨2, ![2048, 512]⟩
abbrev S1024x1024 : Shape := ⟨2, ![1024, 1024]⟩
abbrev S1024x512 : Shape := ⟨2, ![1024, 512]⟩
abbrev S1x512x128 : Shape := ⟨3, ![1, 512, 128]⟩
abbrev S512x128 : Shape := ⟨2, ![512, 128]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S512x1024, .bf16⟩
  | .hbm, ⟨2, _⟩ => ⟨S512x8x128, .bf16⟩
  | .hbm, ⟨3, _⟩ => ⟨S8x512x128, .bf16⟩
  | .hbm, ⟨4, _⟩ => ⟨S2048x512, .bf16⟩
  | .local _ .vmem, ⟨0, _⟩ => ⟨S1024x1024, .bf16⟩
  | .local _ .vmem, ⟨1, _⟩ => ⟨S1024x1024, .bf16⟩
  | .local _ .vmem, ⟨2, _⟩ => ⟨S8x512x128, .bf16⟩
  | .local _ .vmem, ⟨3, _⟩ => ⟨S1024x512, .bf16⟩
  | .local _ .vmem, ⟨4, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AoutRefIdeal.lean ====
abbrev S2048x1024 : Shape := ⟨2, ![2048, 1024]⟩
abbrev S512x1024 : Shape := ⟨2, ![512, 1024]⟩
abbrev S_ : Shape := ⟨0, ![]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S512x1024, .bf16⟩
  | .hbm, ⟨2, _⟩ => ⟨S2048x1024, .f32⟩
  | .hbm, ⟨3, _⟩ => ⟨S512x1024, .f32⟩
  | .hbm, ⟨4, _⟩ => ⟨S_, .f32⟩
  | .hbm, ⟨5, _⟩ => ⟨S2048x512, .f32⟩
  | .hbm, ⟨6, _⟩ => ⟨S2048x1024, .f32⟩
  | .hbm, ⟨7, _⟩ => ⟨S2048x512, .f32⟩
  | .hbm, ⟨8, _⟩ => ⟨S2048x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MergeFwd.lean ====
abbrev S2048x512 : Shape := ⟨2, ![2048, 512]⟩
abbrev S512x1024 : Shape := ⟨2, ![512, 1024]⟩
abbrev S2048x4096 : Shape := ⟨2, ![2048, 4096]⟩
abbrev S512x8x128 : Shape := ⟨3, ![512, 8, 128]⟩
abbrev S8x512x128 : Shape := ⟨3, ![8, 512, 128]⟩
abbrev S2048x1024 : Shape := ⟨2, ![2048, 1024]⟩
abbrev S1024x512 : Shape := ⟨2, ![1024, 512]⟩
abbrev S4x512x128 : Shape := ⟨3, ![4, 512, 128]⟩
abbrev S1x512x128 : Shape := ⟨3, ![1, 512, 128]⟩
abbrev S512x128 : Shape := ⟨2, ![512, 128]⟩
abbrev S512x512 : Shape := ⟨2, ![512, 512]⟩

abbrev nBuf : Space → Nat
  | .hbm => 12
  | .vmem => 18
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S512x1024, .bf16⟩
  | .hbm, ⟨3, _⟩ => ⟨S512x1024, .bf16⟩
  | .hbm, ⟨4, _⟩ => ⟨S2048x4096, .bf16⟩
  | .hbm, ⟨5, _⟩ => ⟨S512x8x128, .bf16⟩
  | .hbm, ⟨6, _⟩ => ⟨S8x512x128, .bf16⟩
  | .hbm, ⟨7, _⟩ => ⟨S512x8x128, .bf16⟩
  | .hbm, ⟨8, _⟩ => ⟨S8x512x128, .bf16⟩
  | .hbm, ⟨9, _⟩ => ⟨S2048x1024, .bf16⟩
  | .hbm, ⟨10, _⟩ => ⟨S2048x1024, .bf16⟩
  | .hbm, ⟨11, _⟩ => ⟨S2048x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S4x512x128, .bf16⟩
  | .local _ .vmem, ⟨5, _⟩ => ⟨S4x512x128, .bf16⟩
  | .local _ .vmem, ⟨6, _⟩ => ⟨S4x512x128, .bf16⟩
  | .local _ .vmem, ⟨7, _⟩ => ⟨S4x512x128, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeFwdRefIdeal.lean ====
abbrev S2048x512 : Shape := ⟨2, ![2048, 512]⟩
abbrev S512x1024 : Shape := ⟨2, ![512, 1024]⟩
abbrev S2048x4096 : Shape := ⟨2, ![2048, 4096]⟩
abbrev S2048x2048 : Shape := ⟨2, ![2048, 2048]⟩
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S512x1024, .bf16⟩
  | .hbm, ⟨3, _⟩ => ⟨S512x1024, .bf16⟩
  | .hbm, ⟨4, _⟩ => ⟨S2048x4096, .bf16⟩
  | .hbm, ⟨5, _⟩ => ⟨S2048x512, .f32⟩
  | .hbm, ⟨6, _⟩ => ⟨S2048x512, .f32⟩
  | .hbm, ⟨7, _⟩ => ⟨S512x1024, .f32⟩
  | .hbm, ⟨8, _⟩ => ⟨S512x1024, .f32⟩
  | .hbm, ⟨9, _⟩ => ⟨S2048x4096, .f32⟩
  | .hbm, ⟨10, _⟩ => ⟨S2048x2048, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .bf16⟩
  | .hbm, ⟨35, _⟩ => ⟨S2048x1024, .bf16⟩
  | .hbm, ⟨36, _⟩ => ⟨S2048x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== MixFwd.lean ====
abbrev S2048x1024 : Shape := ⟨2, ![2048, 1024]⟩
abbrev S1024x1024 : Shape := ⟨2, ![1024, 1024]⟩
abbrev S1024 : Shape := ⟨1, ![1024]⟩
abbrev S8x128x1024 : Shape := ⟨3, ![8, 128, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S8x128x1024, .bf16⟩
  | .hbm, ⟨6, _⟩ => ⟨S1x1024, .f32⟩
  | .hbm, ⟨7, _⟩ => ⟨S1x1024, .f32⟩
  | .hbm, ⟨8, _⟩ => ⟨S2048x1024, .f32⟩
  | .hbm, ⟨9, _⟩ => ⟨S2048x1024, .f32⟩
  | .hbm, ⟨10, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S8x128x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixFwdRefIdeal.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S2048x1024, .f32⟩
  | .hbm, ⟨6, _⟩ => ⟨S1024x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== UpFwd.lean ====
abbrev S2048x1024 : Shape := ⟨2, ![2048, 1024]⟩
abbrev S1024x5632 : Shape := ⟨2, ![1024, 5632]⟩
abbrev S5632x1024 : Shape := ⟨2, ![5632, 1024]⟩
abbrev S8x704x1024 : Shape := ⟨3, ![8, 704, 1024]⟩
abbrev S8x2048x704 : Shape := ⟨3, ![8, 2048, 704]⟩
abbrev S1x704x1024 : Shape := ⟨3, ![1, 704, 1024]⟩
abbrev S1x2048x704 : Shape := ⟨3, ![1, 2048, 704]⟩
abbrev S704x1024 : Shape := ⟨2, ![704, 1024]⟩
abbrev S2048x704 : Shape := ⟨2, ![2048, 704]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S5632x1024, .bf16⟩
  | .hbm, ⟨3, _⟩ => ⟨S8x704x1024, .bf16⟩
  | .hbm, ⟨4, _⟩ => ⟨S8x2048x704, .bf16⟩
  | .local _ .vmem, ⟨0, _⟩ => ⟨S2048x1024, .bf16⟩
  | .local _ .vmem, ⟨1, _⟩ => ⟨S1x704x1024, .bf16⟩
  | .local _ .vmem, ⟨2, _⟩ => ⟨S1x704x1024, .bf16⟩
  | .local _ .vmem, ⟨3, _⟩ => ⟨S1x2048x704, .bf16⟩
  | .local _ .vmem, ⟨4, _⟩ => ⟨S1x2048x704, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpFwdRefIdeal.lean ====
abbrev S2048x1024 : Shape := ⟨2, ![2048, 1024]⟩
abbrev S1024x5632 : Shape := ⟨2, ![1024, 5632]⟩
abbrev S2048x5632 : Shape := ⟨2, ![2048, 5632]⟩
abbrev S2048x8x704 : Shape := ⟨3, ![2048, 8, 704]⟩
abbrev S8x2048x704 : Shape := ⟨3, ![8, 2048, 704]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x1024, .f32⟩
  | .hbm, ⟨3, _⟩ => ⟨S1024x5632, .f32⟩
  | .hbm, ⟨4, _⟩ => ⟨S2048x5632, .f32⟩
  | .hbm, ⟨5, _⟩ => ⟨S2048x8x704, .f32⟩
  | .hbm, ⟨6, _⟩ => ⟨S8x2048x704, .f32⟩
  | .hbm, ⟨7, _⟩ => ⟨S8x2048x704, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== FfnFwd.lean ====
abbrev S2048x2816 : Shape := ⟨2, ![2048, 2816]⟩
abbrev S3x2816 : Shape := ⟨2, ![3, 2816]⟩
abbrev S2816 : Shape := ⟨1, ![2816]⟩
abbrev S2048x5632 : Shape := ⟨2, ![2048, 5632]⟩
abbrev S2048x8x704 : Shape := ⟨3, ![2048, 8, 704]⟩
abbrev S8x2048x704 : Shape := ⟨3, ![8, 2048, 704]⟩
abbrev S3x4x704 : Shape := ⟨3, ![3, 4, 704]⟩
abbrev S4x3x704 : Shape := ⟨3, ![4, 3, 704]⟩
abbrev S4x1x704 : Shape := ⟨3, ![4, 1, 704]⟩
abbrev S4x2048x704 : Shape := ⟨3, ![4, 2048, 704]⟩
abbrev S1x1024x704 : Shape := ⟨3, ![1, 1024, 704]⟩
abbrev S1x16x704 : Shape := ⟨3, ![1, 16, 704]⟩
abbrev S1x3x704 : Shape := ⟨3, ![1, 3, 704]⟩
abbrev S1x1x704 : Shape := ⟨3, ![1, 1, 704]⟩
abbrev S1024x704 : Shape := ⟨2, ![1024, 704]⟩
abbrev S16x704 : Shape := ⟨2, ![16, 704]⟩
abbrev S1x704 : Shape := ⟨2, ![1, 704]⟩
abbrev S1024x1 : Shape := ⟨2, ![1024, 1]⟩

abbrev nBuf : Space → Nat
  | .hbm => 11
  | .vmem => 14
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S3x2816, .f32⟩
  | .hbm, ⟨3, _⟩ => ⟨S2816, .f32⟩
  | .hbm, ⟨4, _⟩ => ⟨S2048x5632, .bf16⟩
  | .hbm, ⟨5, _⟩ => ⟨S2048x8x704, .bf16⟩
  | .hbm, ⟨6, _⟩ => ⟨S8x2048x704, .bf16⟩
  | .hbm, ⟨7, _⟩ => ⟨S3x4x704, .f32⟩
  | .hbm, ⟨8, _⟩ => ⟨S4x3x704, .f32⟩
  | .hbm, ⟨9, _⟩ => ⟨S4x1x704, .f32⟩
  | .hbm, ⟨10, _⟩ => ⟨S4x2048x704, .bf16⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x16x704, .bf16⟩
  | .local _ .vmem, ⟨5, _⟩ => ⟨S1x16x704, .bf16⟩
  | .local _ .vmem, ⟨6, _⟩ => ⟨S1x16x704, .bf16⟩
  | .local _ .vmem, ⟨7, _⟩ => ⟨S1x16x704, .bf16⟩
  | .local _ .vmem, ⟨8, _⟩ => ⟨S1x3x704, .f32⟩
  | .local _ .vmem, ⟨9, _⟩ => ⟨S1x3x704, .f32⟩
  | .local _ .vmem, ⟨10, _⟩ => ⟨S1x1x704, .f32⟩
  | .local _ .vmem, ⟨11, _⟩ => ⟨S1x1x704, .f32⟩
  | .local _ .vmem, ⟨12, _⟩ => ⟨S1x1024x704, .bf16⟩
  | .local _ .vmem, ⟨13, _⟩ => ⟨S1x1024x704, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c64_i32 : BitVec 32 := 64#32
  let v1 : BitVec 32 := Scalar.muli arg1 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v0.toNat, v3.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c1_i32 : BitVec 32 := 1#32
  let v1 : BitVec 32 := Scalar.addi arg1 c1_i32
  let c64_i32 : BitVec 32 := 64#32
  let v2 : BitVec 32 := Scalar.muli v1 c64_i32
  let c127_i32 : BitVec 32 := 127#32
  let v3 : BitVec 32 := Scalar.minsi v2 c127_i32
  let c0_i32 : BitVec 32 := 0#32
  let c0_i32_0 : BitVec 32 := 0#32
  ![v0.toNat, v3.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnFwdRefIdeal.lean ====
abbrev S2048x2816 : Shape := ⟨2, ![2048, 2816]⟩
abbrev S3x2816 : Shape := ⟨2, ![3, 2816]⟩
abbrev S2816 : Shape := ⟨1, ![2816]⟩
abbrev S_ : Shape := ⟨0, ![]⟩
abbrev S1x2816 : Shape := ⟨2, ![1, 2816]⟩
abbrev S2050x2816 : Shape := ⟨2, ![2050, 2816]⟩
abbrev S2048x4x704 : Shape := ⟨3, ![2048, 4, 704]⟩
abbrev S4x2048x704 : Shape := ⟨3, ![4, 2048, 704]⟩

abbrev nBuf : Space → Nat
  | .hbm => 45
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S3x2816, .f32⟩
  | .hbm, ⟨3, _⟩ => ⟨S2816, .f32⟩
  | .hbm, ⟨4, _⟩ => ⟨S2048x2816, .f32⟩
  | .hbm, ⟨5, _⟩ => ⟨S2048x2816, .f32⟩
  | .hbm, ⟨6, _⟩ => ⟨S_, .f32⟩
  | .hbm, ⟨7, _⟩ => ⟨S1x2816, .f32⟩
  | .hbm, ⟨8, _⟩ => ⟨S2050x2816, .f32⟩
  | .hbm, ⟨9, _⟩ => ⟨S2048x2816, .f32⟩
  | .hbm, ⟨10, _⟩ => ⟨S1x2816, .f32⟩
  | .hbm, ⟨11, _⟩ => ⟨S2816, .f32⟩
  | .hbm, ⟨12, _⟩ => ⟨S1x2816, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S1x2816, .f32⟩
  | .hbm, ⟨17, _⟩ => ⟨S2816, .f32⟩
  | .hbm, ⟨18, _⟩ => ⟨S1x2816, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S1x2816, .f32⟩
  | .hbm, ⟨24, _⟩ => ⟨S2816, .f32⟩
  | .hbm, ⟨25, _⟩ => ⟨S1x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S1x2816, .f32⟩
  | .hbm, ⟨30, _⟩ => ⟨S2048x2816, .f32⟩
  | .hbm, ⟨31, _⟩ => ⟨S2048x2816, .f32⟩
  | .hbm, ⟨32, _⟩ => ⟨S_, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S_, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S2048x4x704, .f32⟩
  | .hbm, ⟨43, _⟩ => ⟨S4x2048x704, .f32⟩
  | .hbm, ⟨44, _⟩ => ⟨S4x2048x704, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩

abbrev nD : Nat := 1
abbrev τ : Topo := Topo.v7x

variable {F : FTy → Type} [FloatOps F]
-- ==== DownFwd.lean ====
abbrev S2048x2816 : Shape := ⟨2, ![2048, 2816]⟩
abbrev S2816x1024 : Shape := ⟨2, ![2816, 1024]⟩
abbrev S2048x1024 : Shape := ⟨2, ![2048, 1024]⟩
abbrev S1024x1024 : Shape := ⟨2, ![1024, 1024]⟩
abbrev S2048x256 : Shape := ⟨2, ![2048, 256]⟩
abbrev S256x1024 : Shape := ⟨2, ![256, 1024]⟩
abbrev S1024 : Shape := ⟨1, ![1024]⟩
abbrev S2048x4x704 : Shape := ⟨3, ![2048, 4, 704]⟩
abbrev S4x2048x704 : Shape := ⟨3, ![4, 2048, 704]⟩
abbrev S8x352x1024 : Shape := ⟨3, ![8, 352, 1024]⟩
abbrev S8x128x1024 : Shape := ⟨3, ![8, 128, 1024]⟩
abbrev S256x8x128 : Shape := ⟨3, ![256, 8, 128]⟩
abbrev S8x256x128 : Shape := ⟨3, ![8, 256, 128]⟩
abbrev S1x1024 : Shape := ⟨2, ![1, 1024]⟩
abbrev S4x256x704 : Shape := ⟨3, ![4, 256, 704]⟩
abbrev S256x256 : Shape := ⟨2, ![256, 256]⟩
abbrev S1x256x704 : Shape := ⟨3, ![1, 256, 704]⟩
abbrev S256x704 : Shape := ⟨2, ![256, 704]⟩
abbrev S704x1024 : Shape := ⟨2, ![704, 1024]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩

abbrev nBuf : Space → Nat
  | .hbm => 22
  | .vmem => 23
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .bf16⟩
  | .hbm, ⟨3, _⟩ => ⟨S1024x1024, .bf16⟩
  | .hbm, ⟨4, _⟩ => ⟨S2048x256, .bf16⟩
  | .hbm, ⟨5, _⟩ => ⟨S256x1024, .bf16⟩
  | .hbm, ⟨6, _⟩ => ⟨S2048x1024, .f32⟩
  | .hbm, ⟨7, _⟩ => ⟨S1024, .f32⟩
  | .hbm, ⟨8, _⟩ => ⟨S1024, .f32⟩
  | .hbm, ⟨9, _⟩ => ⟨S2048x4x704, .bf16⟩
  | .hbm, ⟨10, _⟩ => ⟨S4x2048x704, .bf16⟩
  | .hbm, ⟨11, _⟩ => ⟨S8x352x1024, .bf16⟩
  | .hbm, ⟨12, _⟩ => ⟨S8x128x1024, .bf16⟩
  | .hbm, ⟨13, _⟩ => ⟨S256x8x128, .bf16⟩
  | .hbm, ⟨14, _⟩ => ⟨S8x256x128, .bf16⟩
  | .hbm, ⟨15, _⟩ => ⟨S1x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | .hbm, ⟨20, _⟩ => ⟨S2048x1024, .bf16⟩
  | .hbm, ⟨21, _⟩ => ⟨S2048x1024, .bf16⟩
  | .local _ .vmem, ⟨0, _⟩ => ⟨S4x256x704, .bf16⟩
  | .local _ .vmem, ⟨1, _⟩ => ⟨S4x256x704, .bf16⟩
  | .local _ .vmem, ⟨2, _⟩ => ⟨S8x352x1024, .bf16⟩
  | .local _ .vmem, ⟨3, _⟩ => ⟨S256x1024, .bf16⟩
  | .local _ .vmem, ⟨4, _⟩ => ⟨S256x1024, .bf16⟩
  | .local _ .vmem, ⟨5, _⟩ => ⟨S8x128x1024, .bf16⟩
  | .local _ .vmem, ⟨6, _⟩ => ⟨S256x256, .bf16⟩
  | .local _ .vmem, ⟨7, _⟩ => ⟨S256x256, .bf16⟩
  | .local _ .vmem, ⟨8, _⟩ => ⟨S8x256x128, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== DownFwdRefIdeal.lean ====
abbrev S2048x2816 : Shape := ⟨2, ![2048, 2816]⟩
abbrev S2816x1024 : Shape := ⟨2, ![2816, 1024]⟩
abbrev S2048x1024 : Shape := ⟨2, ![2048, 1024]⟩
abbrev S1024x1024 : Shape := ⟨2, ![1024, 1024]⟩
abbrev S2048x256 : Shape := ⟨2, ![2048, 256]⟩
abbrev S256x1024 : Shape := ⟨2, ![256, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .bf16⟩
  | .hbm, ⟨3, _⟩ => ⟨S1024x1024, .bf16⟩
  | .hbm, ⟨4, _⟩ => ⟨S2048x256, .bf16⟩
  | .hbm, ⟨5, _⟩ => ⟨S256x1024, .bf16⟩
  | .hbm, ⟨6, _⟩ => ⟨S2048x1024, .f32⟩
  | .hbm, ⟨7, _⟩ => ⟨S1024, .f32⟩
  | .hbm, ⟨8, _⟩ => ⟨S1024, .f32⟩
  | .hbm, ⟨9, _⟩ => ⟨S2048x2816, .f32⟩
  | .hbm, ⟨10, _⟩ => ⟨S2816x1024, .f32⟩
  | .hbm, ⟨11, _⟩ => ⟨S2048x1024, .f32⟩
  | .hbm, ⟨12, _⟩ => ⟨S1024x1024, .f32⟩
  | .hbm, ⟨13, _⟩ => ⟨S2048x256, .f32⟩
  | .hbm, ⟨14, _⟩ => ⟨S256x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S2048x1, .f32⟩
  | .hbm, ⟨51, _⟩ => ⟨S2048x1024, .f32⟩
  | .hbm, ⟨52, _⟩ => ⟨S2048x1024, .f32⟩
  | .hbm, ⟨53, _⟩ => ⟨S1x1024, .f32⟩
  | .hbm, ⟨54, _⟩ => ⟨S2048x1024, .f32⟩
  | .hbm, ⟨55, _⟩ => ⟨S2048x1024, .f32⟩
  | .hbm, ⟨56, _⟩ => ⟨S1x1024, .f32⟩
  | .hbm, ⟨57, _⟩ => ⟨S2048x1024, .f32⟩
  | .hbm, ⟨58, _⟩ => ⟨S2048x1024, .f32⟩
  | .hbm, ⟨59, _⟩ => ⟨S2048x1024, .bf16⟩
  | .hbm, ⟨60, _⟩ => ⟨S2048x1024, .bf16⟩
  | .hbm, ⟨61, _⟩ => ⟨S2048x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== Proof.Merge.lean ====
module

public import proofs.«01_k».proof.Defs
public import proofs.«01_k».proof.Proof.Gen.Merge.Frame
public import proofs.«01_k».proof.Proof.Gen.MergeIdeal.Frame
public import proofs.«01_k».proof.Proof.Gen.MergeRefIdeal.Run
public import proofs.«01_k».proof.Proof.Gen.MergeRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MergeIdeal.Merge

open Cert.MergeIdeal Cert.MergeIdeal.Gen Cert.MergeRefIdeal.Read

variable (m : (ℓ : Loc nD τ sig) → Buf (Elt Ideal) ℓ)

theorem idx : ∀ t : Fin cfg0.N,
    win0_0.index t = ![t.val / 2, 0] ∧ win0_1.index t = ![t.val % 2, 0, 0]
      ∧ win0_2.index t = ![t.val / 2, 4 + t.val % 2] ∧ win0_3.index t = ![t.val / 2, 6 + t.val % 2]
      ∧ win0_4.index t = ![t.val / 2, t.val % 2] ∧ win0_5.index t = ![t.val / 2, t.val % 2]
      ∧ win0_6.index t = ![t.val / 2, t.val % 2] ∧ win0_7.index t = ![t.val / 2, t.val % 2]
      ∧ win0_8.index t = ![t.val / 2, t.val % 2] ∧ win0_9.index t = ![t.val / 2, t.val % 2] :=
  (by decide +kernel : ∀ t : Fin grid0.N, _)

theorem final6 (c : Dev nD) : (dats m 0 c).arrAt 6 (cfgs 0).N
    = val_main_v37 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]; frame_out
  pointwise [k0_pay1, k0_pay2, k0_pay3, k0_pay4, k0_pay5, k0_pay6, k0_pay7, k0_pay8,
    val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v18, val_main_v19, val_main_v20, val_main_v21, val_main_v22, val_main_v23,
    val_main_v24, val_main_v25, val_main_v26, val_main_v30, val_main_v31, val_main_v32, val_main_v33,
    val_main_v34, val_main_v35, val_main_v36, val_main_v37, val_main_v38, val_main_v39, val_main_v40,
    val_main_cst, val_main_cst_0, val_main_cst_1, val_main_cst_2, val_main_cst_3, val_main_cst_4]
  simp only [zero_sub]
  blk_point [iblk, V, idx t]

theorem final7 (c : Dev nD) : (dats m 0 c).arrAt 7 (cfgs 0).N
    = val_main_v38 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]; frame_out
  pointwise [k0_pay1, k0_pay2, k0_pay3, k0_pay4, k0_pay5, k0_pay6, k0_pay7, k0_pay8,
    val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v18, val_main_v19, val_main_v20, val_main_v21, val_main_v22, val_main_v23,
    val_main_v24, val_main_v25, val_main_v26, val_main_v30, val_main_v31, val_main_v32, val_main_v33,
    val_main_v34, val_main_v35, val_main_v36, val_main_v37, val_main_v38, val_main_v39, val_main_v40,
    val_main_cst, val_main_cst_0, val_main_cst_1, val_main_cst_2, val_main_cst_3, val_main_cst_4]
  simp only [zero_sub]
  blk_point [iblk, V, idx t]

theorem final8 (c : Dev nD) : (dats m 0 c).arrAt 8 (cfgs 0).N
    = val_main_v39 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]; frame_out
  pointwise [k0_pay1, k0_pay2, k0_pay3, k0_pay4, k0_pay5, k0_pay6, k0_pay7, k0_pay8,
    val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v18, val_main_v19, val_main_v20, val_main_v21, val_main_v22, val_main_v23,
    val_main_v24, val_main_v25, val_main_v26, val_main_v30, val_main_v31, val_main_v32, val_main_v33,
    val_main_v34, val_main_v35, val_main_v36, val_main_v37, val_main_v38, val_main_v39, val_main_v40,
    val_main_cst, val_main_cst_0, val_main_cst_1, val_main_cst_2, val_main_cst_3, val_main_cst_4]
  rw [mul_assoc]; simp only [zero_sub]
  blk_point [iblk, V, idx t]

theorem final9 (c : Dev nD) : (dats m 0 c).arrAt 9 (cfgs 0).N
    = val_main_v40 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 9 _ (by decide +kernel) fun t _ y => ?_
  blk_simp
  rw [after0_9]; frame_out
  pointwise [k0_pay1, k0_pay2, k0_pay3, k0_pay4, k0_pay5, k0_pay6, k0_pay7, k0_pay8,
    val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v18, val_main_v19, val_main_v20, val_main_v21, val_main_v22, val_main_v23,
    val_main_v24, val_main_v25, val_main_v26, val_main_v30, val_main_v31, val_main_v32, val_main_v33,
    val_main_v34, val_main_v35, val_main_v36, val_main_v37, val_main_v38, val_main_v39, val_main_v40,
    val_main_cst, val_main_cst_0, val_main_cst_1, val_main_cst_2, val_main_cst_3, val_main_cst_4]
  rw [mul_assoc]; simp only [zero_sub]
  blk_point [iblk, V, idx t]

end Cert.MergeIdeal.Merge

namespace Cert.Proof.Merge

theorem frame_p : Cert.quiescent_Merge := fun m ρ _ => Cert.Merge.Gen.frame m ρ

theorem frame_pi : Cert.quiescent_MergeIdeal := fun m ρ _ => Cert.MergeIdeal.Gen.frame m ρ

theorem frame_ri : Cert.quiescent_MergeRefIdeal := fun m ρ _ =>
  (θ_run Cert.MergeRefIdeal.defs _ _).mono (fun r h => ⟨fun c => (h c).2.2.2.2,
      Idealize.ShloMosaic.sem_eq_zero_of_no_sems (by decide) r.2⟩)
    (Cert.MergeRefIdeal.Value.run (F := Ideal) m ρ)

theorem algebraic : Cert.algebraic_MergeIdeal_MergeRefIdeal := by
  pair_intro
  · run_from Cert.MergeIdeal.Gen.run_main m g
  · run_from Cert.MergeRefIdeal.Value.run m' g'
    · exact (MergeIdeal.Merge.final6 m c).symm
    · exact (MergeIdeal.Merge.final7 m c).symm
    · exact (MergeIdeal.Merge.final8 m c).symm
    · exact (MergeIdeal.Merge.final9 m c).symm

end Cert.Proof.Merge

end
-- ==== Proof.NormRow.lean ====
module

public import Idealize.ShloMosaic.Lib.Pointwise
public import Idealize.ShloMosaic.PureOps.Ideal
public import Mathlib.Analysis.SpecialFunctions.Pow.Real

@[expose] public section

noncomputable section

open Idealize.ShloMosaic

namespace Cert.NormRow

/-- An extended real that is a real number. -/
def Real' (x : EReal) : Prop := ∃ r : ℝ, x = (r : EReal)

theorem Real'.coe (r : ℝ) : Real' (r : EReal) := ⟨r, rfl⟩

theorem Real'.add {x y : EReal} (hx : Real' x) (hy : Real' y) : Real' (x + y) := by
  obtain ⟨a, rfl⟩ := hx; obtain ⟨b, rfl⟩ := hy; exact ⟨a + b, by push_cast; rfl⟩

theorem Real'.mul {x y : EReal} (hx : Real' x) (hy : Real' y) : Real' (x * y) := by
  obtain ⟨a, rfl⟩ := hx; obtain ⟨b, rfl⟩ := hy; exact ⟨a * b, by push_cast; rfl⟩

/-- A sum of reals is the real sum. -/
theorem coe_sum {ι : Type*} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih]; push_cast; rfl

theorem Real'.sum {ι : Type*} (s : Finset ι) {f : ι → EReal} (h : ∀ k, Real' (f k)) : Real' (∑ k ∈ s, f k) := by
  choose g hg using h
  exact ⟨∑ k ∈ s, g k, by rw [← coe_sum]; exact Finset.sum_congr rfl fun k _ => hg k⟩

/-- Strictly below the infinity in absolute value: a real. -/
theorem Real'.of_abs_lt {x : EReal} (h : max x (-x) < ⊤) : Real' x := by
  induction x with
  | bot => simp at h
  | top => simp at h
  | coe r => exact ⟨r, rfl⟩

/-- The row's length, the norm's small addend and the minus one half of its derivative. -/
abbrev N : EReal := Ideal.ofBits FTy.f32 1149239296#32
abbrev E : EReal := Ideal.ofBits FTy.f32 925353388#32
abbrev H : EReal := Ideal.ofBits FTy.f32 3204448256#32

theorem N_eq : N = ((1024 : ℝ) : EReal) := by
  have h1 : ((1149239296#32).extractLsb' 23 8).toNat = 137 := by decide
  have h2 : ((1149239296#32).extractLsb' 0 23).toNat = 0 := by decide
  have h3 : ((1149239296#32).extractLsb' 31 1 == 1#1) = false := by decide
  simp only [N, Ideal.ofBits, Ideal.ieee, h1, h2, h3]
  norm_num

theorem H_eq : H = ((-1 / 2 : ℝ) : EReal) := by
  have h1 : ((3204448256#32).extractLsb' 23 8).toNat = 126 := by decide
  have h2 : ((3204448256#32).extractLsb' 0 23).toNat = 0 := by decide
  have h3 : ((3204448256#32).extractLsb' 31 1 == 1#1) = true := by decide
  simp only [H, Ideal.ofBits, Ideal.ieee, h1, h2, h3]
  norm_num

theorem E_eq : ∃ e : ℝ, 0 < e ∧ E = (e : EReal) := by
  have h1 : ((925353388#32).extractLsb' 23 8).toNat = 110 := by decide
  have h2 : ((925353388#32).extractLsb' 0 23).toNat = 2606508 := by decide
  have h3 : ((925353388#32).extractLsb' 31 1 == 1#1) = false := by decide
  refine ⟨10995116 * (2 : ℝ) ^ (-40 : ℤ), by positivity, ?_⟩
  simp only [E, Ideal.ofBits, Ideal.ieee, h1, h2, h3]
  norm_num

theorem div_coe (a b : ℝ) (hb : b ≠ 0) : Ideal.div (a : EReal) (b : EReal) = ((a / b : ℝ) : EReal) := by
  rw [Ideal.div, if_neg (by exact_mod_cast hb), div_eq_mul_inv]
  push_cast
  rw [EReal.coe_inv]

theorem rsqrt_coe (a : ℝ) (ha : 0 < a) : Ideal.rsqrt (a : EReal) = (((Real.sqrt a)⁻¹ : ℝ) : EReal) := by
  show (if a < 0 then _ else _) = _
  rw [if_neg (by linarith), if_neg ha.ne']

/-- The gradient of a norm's row, the products of the normalised row with the cotangent subtracted: `z` the row the
    norm was taken of, `d` its cotangent times the gain. -/
def byProducts (z d : Fin 1024 → EReal) (j : Fin 1024) : EReal :=
  let c := fun k => z k - Ideal.div (∑ k, z k) N
  let r := Ideal.rsqrt (Ideal.div (∑ k, c k * c k) N + E)
  r * (d j - Ideal.div (∑ k, d k) N - c j * r * Ideal.div (∑ k, d k * (c k * r)) N)

/-- The normalised row: centred, times the reciprocal root of the mean square. -/
def hat (z : Fin 1024 → EReal) (j : Fin 1024) : EReal :=
  let c := fun k => z k - Ideal.div (∑ k, z k) N
  c j * Ideal.rsqrt (Ideal.div (∑ k, c k * c k) N + E)

/-- The same row by the chain of derivatives: through the centred row, the mean of its squares and its own mean. -/
def byChain (z d : Fin 1024 → EReal) (j : Fin 1024) : EReal :=
  let c := fun k => z k - Ideal.div (∑ k, z k) N
  let w := Ideal.div (∑ k, c k * c k) N + E
  let r := Ideal.rsqrt w
  let q := Ideal.div ((∑ k, c k * d k) * (H * Ideal.div r w)) N
  let e := fun k => d k * r + c k * q + q * c k
  e j + Ideal.div (∑ k, -e k) N

theorem byProducts_eq_byChain (z d : Fin 1024 → EReal) (hz : ∀ k, Real' (z k)) (hd : ∀ k, Real' (d k)) (j : Fin 1024) :
    byProducts z d j = byChain z d j := by
  choose x hx using hz
  choose y hy using hd
  obtain ⟨e, he, hE⟩ := E_eq
  obtain rfl : z = fun k => (x k : EReal) := funext hx
  obtain rfl : d = fun k => (y k : EReal) := funext hy
  set μ : ℝ := (∑ k, x k) / 1024 with hμ
  have hw : (0 : ℝ) < (∑ k, (x k - μ) * (x k - μ)) / 1024 + e := by
    have : 0 ≤ ∑ k, (x k - μ) * (x k - μ) := Finset.sum_nonneg fun k _ => mul_self_nonneg _
    positivity
  set w : ℝ := (∑ k, (x k - μ) * (x k - μ)) / 1024 + e with hwd
  set r : ℝ := (Real.sqrt w)⁻¹ with hr
  have hrr : r * r * w = 1 := by
    rw [hr, ← mul_inv, Real.mul_self_sqrt hw.le, inv_mul_cancel₀ hw.ne']
  have hc : ∀ k, ((x k : ℝ) : EReal) - Ideal.div (∑ k, ((x k : ℝ) : EReal)) N = ((x k - μ : ℝ) : EReal) := fun k => by
    rw [coe_sum, N_eq, div_coe _ _ (by norm_num)]; push_cast; rfl
  simp only [byProducts, byChain]
  simp only [hc]
  simp only [← EReal.coe_mul, coe_sum, N_eq, hE, H_eq, div_coe _ (1024 : ℝ) (by norm_num), ← EReal.coe_add, ← hwd]
  simp only [rsqrt_coe w hw, ← hr, div_coe r w hw.ne', ← EReal.coe_mul, coe_sum, div_coe _ (1024 : ℝ) (by norm_num),
    ← EReal.coe_add, ← EReal.coe_sub, ← EReal.coe_neg]
  refine congrArg _ ?_
  have h0 : ∑ k, (x k - μ) = 0 := by
    rw [Finset.sum_sub_distrib, Finset.sum_const, Finset.card_univ, Fintype.card_fin, hμ]; simp; ring
  set S : ℝ := ∑ k, (x k - μ) * y k with hS
  set q : ℝ := S * (-1 / 2 * (r / w)) / 1024 with hq
  have h1 : ∑ k, y k * ((x k - μ) * r) = r * S := by
    rw [hS, Finset.mul_sum]; exact Finset.sum_congr rfl fun k _ => by ring
  have h2 : ∑ k, -(y k * r + (x k - μ) * q + q * (x k - μ)) = -(r * ∑ k, y k) := by
    have : ∀ k, -(y k * r + (x k - μ) * q + q * (x k - μ)) = (-r) * y k + (-(2 * q)) * (x k - μ) := fun k => by ring
    simp only [this]
    rw [Finset.sum_add_distrib, ← Finset.mul_sum, ← Finset.mul_sum, h0]; ring
  rw [h1, h2, hq]
  have hrw : r / w = r * r * r := by
    rw [div_eq_iff hw.ne']; calc r = r * (r * r * w) := by rw [hrr, mul_one]
      _ = _ := by ring
  rw [hrw]; ring

end Cert.NormRow

end
-- ==== Proof.Finite.lean ====
module

public import proofs.«01_k».proof.Proof.NormRow
public import Idealize.ShloMosaic.Lib.ReduceAll
public import Idealize.ShloMosaic.Lib.Pointwise

@[expose] public section

noncomputable section

open Idealize.ShloMosaic

namespace Cert.Finite

open Cert.NormRow

/-- The word of the float infinity is the top of the extended reals. -/
theorem infinity : Ideal.ofBits .f32 0x7F800000#32 = (⊤ : EReal) := by
  simp [Ideal.ofBits, Ideal.ieee]

/-- An array of which `jnp.all(jnp.abs(x) < inf)` is true holds real numbers. -/
theorem real_of_all {S T U : Shape} {axes : List (Fin S.rank)} [Subsingleton T.Idx] (x b : FVec Ideal S .f32)
    (hb : ∀ i, b i = (⊤ : EReal)) (init : U.Idx → BitVec 1) (h : S.ReducesTo axes T) (hu : 0 < U.numel) (j : T.Idx)
    (e : Host.reduce IntOp.andi (cmpf .olt (Host.absf x) b) init h hu j = 1#1) (i : S.Idx) : Real' (x i) := by
  have h1 := Host.reduce_andi_all _ init h hu j e i
  apply Real'.of_abs_lt
  rw [← hb i]
  have h2 : Ideal.cmp .olt (max (x i) (-x i)) (b i) = 1#1 := h1
  have h3 : decide (max (x i) (-x i) < b i) = true := by
    cases hd : decide (max (x i) (-x i) < b i)
    · rw [Ideal.cmp, hd] at h2; exact absurd h2 (by decide)
    · rfl
  exact of_decide_eq_true h3

end Cert.Finite

end
-- ==== Proof.Ln2.lean ====
module

public import proofs.«01_k».proof.Defs
public import proofs.«01_k».proof.Proof.NormRow
public import proofs.«01_k».proof.Proof.Finite
public import proofs.«01_k».proof.Proof.Gen.Pre_finite_ln2
public import proofs.«01_k».proof.Proof.Gen.Ln2.Frame
public import proofs.«01_k».proof.Proof.Gen.Ln2Ideal.Frame
public import proofs.«01_k».proof.Proof.Gen.Ln2RefIdeal.Run
public import proofs.«01_k».proof.Proof.Gen.Ln2RefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Ln2Ideal.Value

open Cert.Ln2Ideal Cert.Ln2Ideal.Gen Cert.Ln2RefIdeal.Read Cert.NormRow

variable (m : (ℓ : Loc nD τ sig) → Buf (Elt Ideal) ℓ)

/-- The block of `dz` the kernel computes holds the row `byProducts` of its blocks of `z` and `dh * g`. -/
theorem kernel_row (dh z : Vec Ideal S512x1024 .f32) (g : Vec Ideal S1x1024 .f32) (a : Fin 512) (b : Fin 1024) :
    k0_pay7 (F := Ideal) dh z g (ix2 a b)
      = byProducts (fun k => z (ix2 a k)) (fun k => dh (ix2 a k) * g (ix2 0 k)) b := by
  pointwise [k0_pay7, k0_pay6, k0_pay5, k0_pay4]
  rfl

/-- The reference's `dz` holds the row `byChain` of `z` and `dh * g`. -/
theorem reference_row (x0 x1 : Vec Ideal Cert.Ln2RefIdeal.S2048x1024 .f32) (x2 : Vec Ideal Cert.Ln2RefIdeal.S1024 .f32)
    (a : Fin 2048) (b : Fin 1024) :
    val_main_v59 (F := Ideal) x0 x1 x2 (ix2 a b)
      = byChain (fun k => x1 (ix2 a k)) (fun k => x0 (ix2 a k) * x2 (ix1 k)) b := by
  pointwise [val_main_v3, val_main_v4, val_main_v5, val_main_v6, val_main_v7, val_main_v8, val_main_v9, val_main_v10,
    val_main_v11, val_main_v12, val_main_v13, val_main_v14, val_main_v15, val_main_v16, val_main_v17, val_main_v18,
    val_main_v19, val_main_v22, val_main_v28, val_main_v35, val_main_v36, val_main_v38, val_main_v39,
    val_main_v40, val_main_v41, val_main_v42, val_main_v43, val_main_v44, val_main_v45, val_main_v46, val_main_v47,
    val_main_v48, val_main_v49, val_main_v50, val_main_v51, val_main_v52, val_main_v53, val_main_v54, val_main_v55,
    val_main_v56, val_main_v57, val_main_v58, val_main_v59, val_main_cst_0, val_main_cst_1, val_main_cst_2, val_main_cst_3, val_main_cst_4,
    val_main_cst_5, val_main_cst_10, val_main_cst_11, val_main_cst_12, val_main_cst_13, val_main_cst_14, val_main_cst_15]
  simp only [Finset.univ_unique, Finset.sum_singleton]
  rfl

theorem idx : ∀ t : Fin cfg0.N,
    win0_0.index t = ![t.val, 0]
      ∧ win0_1.index t = ![t.val, 0]
      ∧ win0_2.index t = ![0, 0]
      ∧ win0_3.index t = ![t.val, 0]
      ∧ win0_4.index t = ![t.val, 0]
      ∧ win0_5.index t = ![t.val, 0]
      ∧ win0_6.index t = ![t.val, 0]
      ∧ win0_7.index t = ![t.val, 0]
      ∧ win0_8.index t = ![t.val, 0]
      ∧ win0_9.index t = ![0, 0]
      ∧ win0_10.index t = ![0, 0] :=
  (by decide +kernel : ∀ t : Fin grid0.N, _)

/-- What is asked of the arguments: the gradient, the normalised array and the scale are finite. -/
def Args (c : Dev nD) : Prop :=
  (∀ i, Real' (m ((c : Thread nD τ).loc main_arg0) i)) ∧ (∀ i, Real' (m ((c : Thread nD τ).loc main_arg1) i))
    ∧ ∀ i, Real' (m ((c : Thread nD τ).loc main_arg2) i)

/-- At every point the kernel's block of `dz` holds the reference's `dz` there. -/
theorem dz_point (c : Dev nD) (hf : Args m c) (t : Fin cfg0.N) (p : S512x1024.Idx) (i : Cert.Ln2RefIdeal.S2048x1024.Idx)
    (hi0 : (i 0).val = t.val * 512 + (p 0).val) (hi1 : (i 1).val = (p 1).val) :
    k0_pay7 (F := Ideal) (iblk m c 0 t) (iblk m c 1 t) (iblk m c 2 t) p
      = val_main_v59 (F := Ideal) (m ((c : Thread nD τ).loc main_arg0)) (m ((c : Thread nD τ).loc main_arg1)) (m ((c : Thread nD τ).loc main_arg2)) i := by
  obtain ⟨a, b, rfl⟩ : ∃ (a : Fin 512) (b : Fin 1024), p = ix2 a b := ⟨_, _, eq_ix2 p⟩
  obtain ⟨r, s, rfl⟩ : ∃ (r : Fin 2048) (s : Fin 1024), i = ix2 r s := ⟨_, _, eq_ix2 i⟩
  obtain ⟨h0, h1, h2⟩ := hf
  have hs : s = b := Fin.ext hi1
  subst hs
  replace hi0 : r.val = t.val * 512 + a.val := hi0
  rw [kernel_row, reference_row, ← byProducts_eq_byChain _ _ (fun k => h1 _) (fun k => (h0 _).mul (h2 _))]
  refine congrArg₂ (fun z d => byProducts z d s) (funext fun k => ?_) (funext fun k => congrArg₂ (fun x y : EReal => x * y) ?_ ?_)
  all_goals blk_point [iblk, V, idx t]

set_option maxHeartbeats 2000000 in
theorem final5 (c : Dev nD) (hf : Args m c) : (dats m 0 c).arrAt 5 (cfgs 0).N
    = val_main_v59 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  by_cases h : t.val % 4 = 0
  · rw [outsAt0_A m c t h]; frame_out
    refine dz_point m c hf t _ _ ?_ ?_ <;> · blk_simp [idx t]; try (idx_bounds_all; omega)
  · rw [outsAt0_B m c t h]; frame_out
    refine dz_point m c hf t _ _ ?_ ?_ <;> · blk_simp [idx t]; try (idx_bounds_all; omega)

set_option maxHeartbeats 2000000 in
theorem final6 (c : Dev nD) (hf : Args m c) : (dats m 0 c).arrAt 6 (cfgs 0).N
    = val_main_v73 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  by_cases h : t.val % 4 = 0
  · rw [outsAt0_A m c t h]; frame_out
    pointwise [k0_pay9, val_main_v73]
    refine dz_point m c hf t _ _ ?_ ?_ <;> · blk_simp [idx t]; try (idx_bounds_all; omega)
  · rw [outsAt0_B m c t h]; frame_out
    pointwise [k0_pay9, val_main_v73]
    refine dz_point m c hf t _ _ ?_ ?_ <;> · blk_simp [idx t]; try (idx_bounds_all; omega)

/-- The gradient of the gate's argument at a point: `dz` times the embedding times the sigmoid's slope. -/
theorem dpg_point (c : Dev nD) (hf : Args m c) (t : Fin cfg0.N) (p : S512x1024.Idx) (i : Cert.Ln2RefIdeal.S2048x1024.Idx)
    (hi0 : (i 0).val = t.val * 512 + (p 0).val) (hi1 : (i 1).val = (p 1).val) :
    k0_pay10 (F := Ideal) (k0_pay7 (iblk m c 0 t) (iblk m c 1 t) (iblk m c 2 t)) (iblk m c 3 t) (iblk m c 4 t) p
      = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i := by
  have hg : (iblk m c 3 t : Vec Ideal S512x1024 .bf16) p = (m ((c : Thread nD τ).loc main_arg3)) i := by blk_point [iblk, V, idx t]
  have hp : (iblk m c 4 t : Vec Ideal S512x1024 .bf16) p = (m ((c : Thread nD τ).loc main_arg4)) i := by blk_point [iblk, V, idx t]
  pointwise [k0_pay10, k0_pay8, val_main_v74, val_main_v72, val_main_v71, val_main_v68, val_main_v67, val_main_v66,
    val_main_v65, val_main_v64, val_main_v63, val_main_v62, val_main_v61, val_main_v60, val_main_v1, val_main_v0,
    val_main_cst_16, val_main_cst_17, val_main_cst_18]
  rw [dz_point m c hf t p i hi0 hi1]
  rw [hg, hp]
  simp only [zero_sub]
  exact mul_assoc _ _ _

/-- The gradient of the embedding at a point: the sigmoid times `dz`. -/
theorem dpp_point (c : Dev nD) (hf : Args m c) (t : Fin cfg0.N) (p : S512x1024.Idx) (i : Cert.Ln2RefIdeal.S2048x1024.Idx)
    (hi0 : (i 0).val = t.val * 512 + (p 0).val) (hi1 : (i 1).val = (p 1).val) :
    k0_pay11 (F := Ideal) (k0_pay7 (iblk m c 0 t) (iblk m c 1 t) (iblk m c 2 t)) (iblk m c 3 t) p
      = val_main_v75 (F := Ideal) (m ((c : Thread nD τ).loc main_arg0)) (m ((c : Thread nD τ).loc main_arg1)) (m ((c : Thread nD τ).loc main_arg2)) (m ((c : Thread nD τ).loc main_arg3)) i := by
  have hg : (iblk m c 3 t : Vec Ideal S512x1024 .bf16) p = (m ((c : Thread nD τ).loc main_arg3)) i := by blk_point [iblk, V, idx t]
  pointwise [k0_pay11, k0_pay8, val_main_v75, val_main_v70, val_main_v65, val_main_v64, val_main_v63, val_main_v62,
    val_main_v61, val_main_v60, val_main_v0, val_main_cst_16, val_main_cst_17]
  rw [dz_point m c hf t p i hi0 hi1, hg]
  simp only [zero_sub]
  exact mul_comm _ _

set_option maxHeartbeats 2000000 in
theorem final7 (c : Dev nD) (hf : Args m c) : (dats m 0 c).arrAt 7 (cfgs 0).N
    = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  by_cases h : t.val % 4 = 0
  · rw [outsAt0_A m c t h]; frame_out
    refine dpg_point m c hf t _ _ ?_ ?_ <;> · blk_simp [idx t]; try (idx_bounds_all; omega)
  · rw [outsAt0_B m c t h]; frame_out
    refine dpg_point m c hf t _ _ ?_ ?_ <;> · blk_simp [idx t]; try (idx_bounds_all; omega)

set_option maxHeartbeats 2000000 in
theorem final8 (c : Dev nD) (hf : Args m c) : (dats m 0 c).arrAt 8 (cfgs 0).N
    = val_main_v75 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]
  by_cases h : t.val % 4 = 0
  · rw [outsAt0_A m c t h]; frame_out
    refine dpp_point m c hf t _ _ ?_ ?_ <;> · blk_simp [idx t]; try (idx_bounds_all; omega)
  · rw [outsAt0_B m c t h]; frame_out
    refine dpp_point m c hf t _ _ ?_ ?_ <;> · blk_simp [idx t]; try (idx_bounds_all; omega)

/-- What a block of rows adds to the scale's gradient. -/
def scaleTerm (dh z : Vec Ideal S512x1024 .f32) (j : S1x1024.Idx) : EReal :=
  ∑ k : Fin 512, dh (ix2 k (j 1)) * hat (fun l => z (ix2 k l)) (j 1)

/-- What a block of rows adds to the shift's gradient. -/
def shiftTerm (dh : Vec Ideal S512x1024 .f32) (j : S1x1024.Idx) : EReal := ∑ k : Fin 512, dh (ix2 k (j 1))

/-- One step of the scale's gradient. -/
theorem scale_step (dh z : Vec Ideal S512x1024 .f32) (acc : Vec Ideal S1x1024 .f32) (j : S1x1024.Idx) :
    k0_pay12 (F := Ideal) dh (k0_pay6 z) acc j
      = acc j + scaleTerm dh z j := by
  obtain ⟨a, b, rfl⟩ : ∃ (a : Fin 1) (b : Fin 1024), j = ix2 a b := ⟨_, _, eq_ix2 j⟩
  obtain rfl : a = 0 := Subsingleton.elim _ _
  pointwise [k0_pay12, k0_pay6, k0_pay5, k0_pay4]
  rfl

/-- One step of the shift's gradient. -/
theorem shift_step (dh : Vec Ideal S512x1024 .f32) (acc : Vec Ideal S1x1024 .f32) (j : S1x1024.Idx) :
    k0_pay1 (F := Ideal) dh acc j = acc j + shiftTerm dh j := by
  obtain ⟨a, b, rfl⟩ : ∃ (a : Fin 1) (b : Fin 1024), j = ix2 a b := ⟨_, _, eq_ix2 j⟩
  obtain rfl : a = 0 := Subsingleton.elim _ _
  pointwise [k0_pay1, shiftTerm]

theorem scale_start (j : S1x1024.Idx) : k0_pay2 (F := Ideal) j = 0 := by pointwise [k0_pay2]

theorem shift_start (j : S1x1024.Idx) : k0_pay3 (F := Ideal) j = 0 := by pointwise [k0_pay3]

/-- The reference's gradient of the scale. -/
theorem reference_scale (x0 x1 : Vec Ideal Cert.Ln2RefIdeal.S2048x1024 .f32) (i : Cert.Ln2RefIdeal.S1x1024.Idx) :
    val_main_v76 (F := Ideal) x0 x1 i = ∑ k : Fin 2048, x0 (ix2 k (i 1)) * hat (fun l => x1 (ix2 k l)) (i 1) := by
  pointwise [val_main_v3, val_main_v4, val_main_v5, val_main_v6, val_main_v7, val_main_v8, val_main_v9, val_main_v10,
    val_main_v11, val_main_v12, val_main_v13, val_main_v14, val_main_v15, val_main_v16, val_main_v20, val_main_v21,
    val_main_v28, val_main_v32, val_main_v33, val_main_v34, val_main_v37, val_main_v76, val_main_cst_0,
    val_main_cst_1, val_main_cst_2, val_main_cst_3, val_main_cst_4, val_main_cst_8, val_main_cst_9]
  simp only [Finset.univ_unique, Finset.sum_singleton]
  exact Finset.sum_congr rfl fun k _ => mul_comm _ _

/-- The reference's gradient of the shift. -/
theorem reference_shift (x0 : Vec Ideal Cert.Ln2RefIdeal.S2048x1024 .f32) (i : Cert.Ln2RefIdeal.S1x1024.Idx) :
    val_main_v77 (F := Ideal) x0 i = ∑ k : Fin 2048, x0 (ix2 k (i 1)) := by
  pointwise [val_main_v28, val_main_v29, val_main_v30, val_main_v31, val_main_v77, val_main_cst_6, val_main_cst_7]
  simp only [Finset.univ_unique, Finset.sum_singleton]

set_option maxHeartbeats 2000000 in
theorem final9 (c : Dev nD) : (dats m 0 c).arrAt 9 (cfgs 0).N
    = val_main_v76 (F := Ideal) (m ((c : Thread nD τ).loc main_arg0)) (m ((c : Thread nD τ).loc main_arg1)) := by
  refine (dats m 0 c).arrAt_eq_of_covers 9 _ (by decide +kernel) fun t hf y => ?_
  have h3 := (flush0_9 t).mp hf
  have ht : t.val < 4 := t.isLt
  blk_simp
  rw [after0_9]
  obtain ⟨i, hi⟩ : ∃ i, ((cfg0.win 9).blk t).view.emb y = i := ⟨_, rfl⟩
  have hi1 : (i 1).val = (y 1).val := by rw [← hi]; blk_simp [idx t]; try (idx_bounds_all; omega)
  rw [hi, reference_scale]
  refine (Pipeline.eq_sum_fin_of_reset_step_apply_last (fun n h => (outsAt0 m c n h).2.2.2.2.1) 4 (fun _ => 0)
    (fun t j => scaleTerm (iblk m c 0 t) (iblk m c 1 t) j)
    (fun t h j => by rw [outsAt0_A m c t h]; frame_out; rw [scale_step, scale_start])
    (fun t h j => by rw [outsAt0_B m c t h]; frame_out; rw [scale_step])
    (by decide) t (by show t.val + 1 = 4; omega) _).trans ?_
  rw [zero_add]
  refine Fin.sum_mul_add_congr fun s k hl => ?_
  refine congrArg₂ (fun x y : EReal => x * y) ?_ (congrArg₂ hat (funext fun l => ?_) (Fin.ext ?_))
  · blk_point [iblk, V, idx s]
  · blk_point [iblk, V, idx s]
  · exact hi1.symm

set_option maxHeartbeats 2000000 in
theorem final10 (c : Dev nD) : (dats m 0 c).arrAt 10 (cfgs 0).N
    = val_main_v77 (F := Ideal) (m ((c : Thread nD τ).loc main_arg0)) := by
  refine (dats m 0 c).arrAt_eq_of_covers 10 _ (by decide +kernel) fun t hf y => ?_
  have h3 := (flush0_10 t).mp hf
  have ht : t.val < 4 := t.isLt
  blk_simp
  rw [after0_10]
  obtain ⟨i, hi⟩ : ∃ i, ((cfg0.win 10).blk t).view.emb y = i := ⟨_, rfl⟩
  have hi1 : (i 1).val = (y 1).val := by rw [← hi]; blk_simp [idx t]; try (idx_bounds_all; omega)
  rw [hi, reference_shift]
  refine (Pipeline.eq_sum_fin_of_reset_step_apply_last (fun n h => (outsAt0 m c n h).2.2.2.2.2) 4 (fun _ => 0)
    (fun t j => shiftTerm (iblk m c 0 t) j)
    (fun t h j => by rw [outsAt0_A m c t h]; frame_out; rw [shift_step, shift_start])
    (fun t h j => by rw [outsAt0_B m c t h]; frame_out; rw [shift_step])
    (by decide) t (by show t.val + 1 = 4; omega) _).trans ?_
  rw [zero_add]
  refine Fin.sum_mul_add_congr fun s k hl => ?_
  blk_point [iblk, V, idx s]

end Cert.Ln2Ideal.Value

namespace Cert.Proof.Ln2

theorem frame : Cert.quiescent_Ln2 := fun m ρ _ => Cert.Ln2.Gen.frame m ρ

theorem frame_ideal : Cert.quiescent_Ln2Ideal := fun m ρ _ => Cert.Ln2Ideal.Gen.frame m ρ

theorem frame_ideal_pre : Cert.quiescent_Ln2Ideal_pre_finite_ln2 := fun m ρ _ => Cert.Ln2Ideal.Gen.frame m ρ

theorem frame_ref : Cert.quiescent_Ln2RefIdeal := fun m ρ _ =>
  (θ_run Cert.Ln2RefIdeal.defs _ _).mono (fun r h => ⟨fun c => (h c).2.2.2.2.2.2,
      Idealize.ShloMosaic.sem_eq_zero_of_no_sems (by decide) r.2⟩)
    (Cert.Ln2RefIdeal.Value.run (F := Ideal) m ρ)

theorem frame_ref_pre : Cert.quiescent_Ln2RefIdeal_pre_finite_ln2 := fun m ρ _ => frame_ref m ρ trivial

/-- The precondition says that the gradient, the normalised array and the scale are finite. -/
theorem args_of_pre (m : (ℓ : Loc Cert.Ln2Ideal.nD Cert.Ln2Ideal.τ Cert.Ln2Ideal.sig) → Buf (Elt Ideal) ℓ)
    (hp : Cert.Pre_Ln2Ideal_finite_ln2 m) (c : Dev Cert.Ln2Ideal.nD) : Cert.Ln2Ideal.Value.Args m c := by
  have h := congrFun (hp c) ix0
  obtain ⟨h, h2⟩ := IntOp.andi_eq_one.1 h
  obtain ⟨h0, h1⟩ := IntOp.andi_eq_one.1 h
  have : Subsingleton Cert.Pre_finite_ln2.S_.Idx := ⟨fun a b => funext fun k => k.elim0⟩
  exact ⟨Cert.Finite.real_of_all _ _ (fun _ => Cert.Finite.infinity) _ _ _ _ h0,
    Cert.Finite.real_of_all _ _ (fun _ => Cert.Finite.infinity) _ _ _ _ h1,
    Cert.Finite.real_of_all _ _ (fun _ => Cert.Finite.infinity) _ _ _ _ h2⟩

set_option maxHeartbeats 4000000 in
theorem algebraic : Cert.algebraic_Ln2Ideal_Ln2RefIdeal_pre_finite_ln2 := by
  pair_intro
  · run_from Cert.Ln2Ideal.Gen.run_main m g
  · have hf := args_of_pre m hpre
    run_from Cert.Ln2RefIdeal.Value.run m' g'
    all_goals obtain ⟨h0, h1, h2, h3, h4⟩ := hagree c
    · rw [Cert.Ln2RefIdeal.Read.val_main_v59_eq m' c, h0, h1, h2]
      exact (Cert.Ln2Ideal.Value.final5 m c (hf c)).symm
    · rw [Cert.Ln2RefIdeal.Read.val_main_v73_eq m' c, h0, h1, h2]
      exact (Cert.Ln2Ideal.Value.final6 m c (hf c)).symm
    · rw [Cert.Ln2RefIdeal.Read.val_main_v74_eq m' c, h0, h1, h2, h3, h4]
      exact (Cert.Ln2Ideal.Value.final7 m c (hf c)).symm
    · rw [Cert.Ln2RefIdeal.Read.val_main_v75_eq m' c, h0, h1, h2, h3]
      exact (Cert.Ln2Ideal.Value.final8 m c (hf c)).symm
    · exact (Cert.Ln2Ideal.Value.final9 m c).symm
    · exact (Cert.Ln2Ideal.Value.final10 m c).symm

end Cert.Proof.Ln2

end
-- ==== Proof.Pieces.lean ====
module

public import Idealize.ShloMosaic.Lib.Pointwise

@[expose] public section

open Idealize.ShloMosaic

namespace Cert.Pieces

/-- A sum over 2816 positions as four sums over 704. -/
theorem sum_four_pieces (f : Fin 2816 → EReal) :
    ∑ k, f k = ∑ x : Fin 704, f ⟨x.val, by omega⟩ + ∑ x : Fin 704, f ⟨704 + x.val, by omega⟩
      + ∑ x : Fin 704, f ⟨1408 + x.val, by omega⟩ + ∑ x : Fin 704, f ⟨2112 + x.val, by omega⟩ := by
  rw [Fin.sum_univ_tiles (N := 2816) 4 704 rfl, Fin.sum_univ_four]
  have e : ∀ (j : Fin 4) (n : ℕ) (hn : n = j.val * 704),
      (∑ x : Fin 704, f ⟨j.val * 704 + x.val, by omega⟩) = ∑ x : Fin 704, f ⟨n + x.val, by omega⟩ := by
    intro j n hn; subst hn; rfl
  have z : (∑ x : Fin 704, f ⟨(0 : Fin 4).val * 704 + x.val, by omega⟩) = ∑ x : Fin 704, f ⟨x.val, by omega⟩ :=
    Finset.sum_congr rfl fun x _ => congrArg f (Fin.ext (by simp))
  exact congrArg₂ (· + ·) (congrArg₂ (· + ·) (congrArg₂ (· + ·) z (e 1 704 rfl)) (e 2 1408 rfl)) (e 3 2112 rfl)

end Cert.Pieces

end
-- ==== Proof.Ln1.lean ====
module

public import proofs.«01_k».proof.Defs
public import proofs.«01_k».proof.Proof.NormRow
public import proofs.«01_k».proof.Proof.Finite
public import proofs.«01_k».proof.Proof.Pieces
public import proofs.«01_k».proof.Proof.Gen.Pre_finite_ln1
public import proofs.«01_k».proof.Proof.Gen.Ln1.Frame
public import proofs.«01_k».proof.Proof.Gen.Ln1Ideal.Frame
public import proofs.«01_k».proof.Proof.Gen.Ln1RefIdeal.Run
public import proofs.«01_k».proof.Proof.Gen.Ln1RefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Ln1Ideal.Value

open Cert.Ln1Ideal Cert.Ln1Ideal.Gen Cert.Ln1RefIdeal.Read Cert.NormRow

variable (m : (ℓ : Loc nD τ sig) → Buf (Elt Ideal) ℓ)

/-- The block of `dz` the kernel computes holds the row `byProducts` of its block of `z` and of its gradient times the scale. -/
theorem kernel_row (x : Vec Ideal S256x1024 .f32) (y : Vec Ideal S1x256x704 .bf16) (w : Vec Ideal S1x704x1024 .bf16)
    (z : Vec Ideal S256x1024 .f32) (g : Vec Ideal S1x1024 .f32) (a : Fin 256) (b : Fin 1024) :
    k0_pay13 (F := Ideal) x y w z g (ix2 a b)
      = byProducts (fun k => z (ix2 a k)) (fun k => k0_pay9 (F := Ideal) x y w (ix2 a k) * g (ix2 0 k)) b := by
  pointwise [k0_pay13, k0_pay12, k0_pay11, k0_pay10]
  rfl

/-- The reference's `dz` holds the row `byChain` of `z` and of its gradient times the scale. -/
theorem reference_row (x0 x6 : Vec Ideal Cert.Ln1RefIdeal.S2048x1024 .f32) (x1 : Vec Ideal Cert.Ln1RefIdeal.S2048x1024 .bf16)
    (x2 : Vec Ideal Cert.Ln1RefIdeal.S1024x1024 .bf16) (x3 x4 : Vec Ideal Cert.Ln1RefIdeal.S2048x2816 .bf16)
    (x5 : Vec Ideal Cert.Ln1RefIdeal.S1024x5632 .bf16) (x7 : Vec Ideal Cert.Ln1RefIdeal.S1024 .f32)
    (a : Fin 2048) (b : Fin 1024) :
    val_main_v74 (F := Ideal) x0 x1 x2 x3 x4 x5 x6 x7 (ix2 a b)
      = byChain (fun k => x6 (ix2 a k)) (fun k => val_main_v43 (F := Ideal) x0 x1 x2 x3 x4 x5 (ix2 a k) * x7 (ix1 k)) b := by
  pointwise [val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v50, val_main_v51, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_cst_0, val_main_cst_1,
    val_main_cst_2, val_main_cst_3, val_main_cst_4, val_main_cst_5, val_main_cst_12, val_main_cst_13, val_main_cst_14,
    val_main_cst_15, val_main_cst_16, val_main_cst_17]
  simp only [Finset.univ_unique, Finset.sum_singleton]
  rfl

/-- Two sums of ten terms are equal where the terms are, those of the second in another order. -/
theorem add_ten {a d v0 g0 v1 g1 v2 g2 v3 g3 a' d' w0 h0 w1 h1 w2 h2 w3 h3 : EReal} (ha : a = a') (hd : d = d')
    (e0 : v0 = w0) (f0 : g0 = h0) (e1 : v1 = w1) (f1 : g1 = h1) (e2 : v2 = w2) (f2 : g2 = h2) (e3 : v3 = w3) (f3 : g3 = h3) :
    a + d + v0 + g0 + v1 + g1 + v2 + g2 + v3 + g3
      = d' + a' + (w0 + w1 + w2 + w3 + (h0 + h1 + h2 + h3)) := by
  subst ha hd e0 f0 e1 f1 e2 f2 e3 f3
  ac_rfl

theorem idx : ∀ t : Fin cfg0.N,
    win0_0.index t = ![t.val, 0]
      ∧ win0_1.index t = ![t.val, 0]
      ∧ win0_2.index t = ![0, 0, 0]
      ∧ win0_3.index t = ![0, t.val, 0]
      ∧ win0_4.index t = ![0, t.val, 0]
      ∧ win0_5.index t = ![0, 0, 0]
      ∧ win0_6.index t = ![t.val, 0]
      ∧ win0_7.index t = ![0, 0]
      ∧ win0_8.index t = ![t.val, 0]
      ∧ win0_9.index t = ![t.val, 0]
      ∧ win0_10.index t = ![0, 0]
      ∧ win0_11.index t = ![0, 0] :=
  (by decide +kernel : ∀ t : Fin grid0.N, _)

/-- At a point, the gradient of the norm's result without its last summand, and that summand's two blocks. -/
abbrev partBlock (c : Dev nD) (t : Fin cfg0.N) : FVec Ideal S256x1024 .f32 :=
  k0_pay8 (F := Ideal)
      (k0_pay6 (iblk m c 0 t) (iblk m c 1 t) (iblk m c 2 t)
        (View.ld (iblk m c 3 t) (Rect.unit ![0, 0, 0] ![1, 256, 704] inb_S4x256x704_S1x256x704_0_0_0))
        (View.ld (iblk m c 5 t) (Rect.unit ![0, 0, 0] ![1, 704, 1024] inb_S8x704x1024_S1x704x1024_0_0_0))
        (View.ld (iblk m c 4 t) (Rect.unit ![0, 0, 0] ![1, 256, 704] inb_S4x256x704_S1x256x704_0_0_0))
        (View.ld (iblk m c 5 t) (Rect.unit ![4, 0, 0] ![1, 704, 1024] inb_S8x704x1024_S1x704x1024_4_0_0)))
      (k0_pay7 (View.ld (iblk m c 3 t) (Rect.unit ![1, 0, 0] ![1, 256, 704] inb_S4x256x704_S1x256x704_1_0_0)))
      (View.ld (iblk m c 5 t) (Rect.unit ![1, 0, 0] ![1, 704, 1024] inb_S8x704x1024_S1x704x1024_1_0_0))
      (View.ld (iblk m c 4 t) (Rect.unit ![1, 0, 0] ![1, 256, 704] inb_S4x256x704_S1x256x704_1_0_0))
      (View.ld (iblk m c 5 t) (Rect.unit ![5, 0, 0] ![1, 704, 1024] inb_S8x704x1024_S1x704x1024_5_0_0))
      (View.ld (iblk m c 3 t) (Rect.unit ![2, 0, 0] ![1, 256, 704] inb_S4x256x704_S1x256x704_2_0_0))
      (View.ld (iblk m c 5 t) (Rect.unit ![2, 0, 0] ![1, 704, 1024] inb_S8x704x1024_S1x704x1024_2_0_0))
      (View.ld (iblk m c 4 t) (Rect.unit ![2, 0, 0] ![1, 256, 704] inb_S4x256x704_S1x256x704_2_0_0))
      (View.ld (iblk m c 5 t) (Rect.unit ![6, 0, 0] ![1, 704, 1024] inb_S8x704x1024_S1x704x1024_6_0_0))
      (View.ld (iblk m c 3 t) (Rect.unit ![3, 0, 0] ![1, 256, 704] inb_S4x256x704_S1x256x704_3_0_0))
      (View.ld (iblk m c 5 t) (Rect.unit ![3, 0, 0] ![1, 704, 1024] inb_S8x704x1024_S1x704x1024_3_0_0))

abbrev lastGate (c : Dev nD) (t : Fin cfg0.N) : Vec Ideal S1x256x704 .bf16 :=
  View.ld (iblk m c 4 t) (Rect.unit ![3, 0, 0] ![1, 256, 704] inb_S4x256x704_S1x256x704_3_0_0)

abbrev lastWeight (c : Dev nD) (t : Fin cfg0.N) : Vec Ideal S1x704x1024 .bf16 :=
  View.ld (iblk m c 5 t) (Rect.unit ![7, 0, 0] ![1, 704, 1024] inb_S8x704x1024_S1x704x1024_7_0_0)

/-- At a point, the gradient of the norm's result. -/
abbrev gradBlock (c : Dev nD) (t : Fin cfg0.N) : FVec Ideal S256x1024 .f32 :=
  k0_pay9 (F := Ideal) (partBlock m c t) (lastGate m c t) (lastWeight m c t)

set_option maxHeartbeats 4000000 in
/-- At every point the kernel's gradient of the norm's result is the reference's there. -/
theorem grad_point (c : Dev nD) (t : Fin cfg0.N) (a : Fin 256) (b : Fin 1024) (r : Fin 2048)
    (hr : r.val = t.val * 256 + a.val) :
    gradBlock m c t (ix2 a b)
      = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r b) := by
  pointwise [gradBlock, partBlock, lastGate, lastWeight, k0_pay6, k0_pay7, k0_pay8, k0_pay9, val_main_v0, val_main_v1, val_main_v2, val_main_v3, val_main_v4,
    val_main_v37, val_main_v38, val_main_v39, val_main_v40, val_main_v41, val_main_v42, val_main_v43, val_main_cst_7]
  show (_ : EReal) = _
  rw [Cert.Pieces.sum_four_pieces, Cert.Pieces.sum_four_pieces]
  refine add_ten ?_ (Finset.sum_congr rfl fun x _ => ?_) (Finset.sum_congr rfl fun x _ => ?_)
    (Finset.sum_congr rfl fun x _ => ?_) (Finset.sum_congr rfl fun x _ => ?_) (Finset.sum_congr rfl fun x _ => ?_)
    (Finset.sum_congr rfl fun x _ => ?_) (Finset.sum_congr rfl fun x _ => ?_) (Finset.sum_congr rfl fun x _ => ?_)
    (Finset.sum_congr rfl fun x _ => ?_)
  · blk_point [iblk, V, idx t]
  · blk_point [iblk, V, idx t]
  all_goals
    have hx := x.isLt
    simp (disch := omega) only [dif_pos, dif_neg]
    blk_point [iblk, V, idx t]

/-- What is asked of the arguments: they are finite. -/
def Args (c : Dev nD) : Prop :=
  (∀ i, Real' (m ((c : Thread nD τ).loc main_arg0) i))
    ∧ (∀ i, Real' (m ((c : Thread nD τ).loc main_arg1) i))
    ∧ (∀ i, Real' (m ((c : Thread nD τ).loc main_arg2) i))
    ∧ (∀ i, Real' (m ((c : Thread nD τ).loc main_arg3) i))
    ∧ (∀ i, Real' (m ((c : Thread nD τ).loc main_arg4) i))
    ∧ (∀ i, Real' (m ((c : Thread nD τ).loc main_arg5) i))
    ∧ (∀ i, Real' (m ((c : Thread nD τ).loc main_arg6) i))
    ∧ (∀ i, Real' (m ((c : Thread nD τ).loc main_arg7) i))

theorem alpha_real : Real' (Ideal.ofBits FTy.f32 0x3FD744FD#32) := by
  have h1 : ((0x3FD744FD#32).extractLsb' 23 8).toNat = 127 := by decide
  have h2 : ((0x3FD744FD#32).extractLsb' 0 23).toNat = 5719293 := by decide
  have h3 : ((0x3FD744FD#32).extractLsb' 31 1 == 1#1) = false := by decide
  refine ⟨14107901 * (2 : ℝ) ^ (-23 : ℤ), ?_⟩
  simp only [Ideal.ofBits, Ideal.ieee, h1, h2, h3]
  norm_num

/-- The gradient of the norm's result is finite. -/
theorem grad_real (c : Dev nD) (hf : Args m c) (i : Cert.Ln1RefIdeal.S2048x1024.Idx) :
    Real' (val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i) := by
  obtain ⟨h0, h1, h2, h3, h4, h5, -, -⟩ := hf
  obtain ⟨r, s, rfl⟩ : ∃ (r : Fin 2048) (s : Fin 1024), i = ix2 r s := ⟨_, _, eq_ix2 i⟩
  pointwise [val_main_v0, val_main_v1, val_main_v2, val_main_v3, val_main_v4,
    val_main_v37, val_main_v38, val_main_v39, val_main_v40, val_main_v41, val_main_v42, val_main_v43, val_main_cst_7]
  refine Real'.add (Real'.add (Real'.sum _ fun k => (h1 _).mul (h2 _)) (alpha_real.mul (h0 _)))
    (Real'.add (Real'.sum _ fun k => (h3 _).mul (h5 _)) (Real'.sum _ fun k => (h4 _).mul (h5 _)))

set_option maxHeartbeats 4000000 in
/-- At every point the kernel's block of `dz` holds the reference's `dz` there. -/
theorem dz_point (c : Dev nD) (hf : Args m c) (t : Fin cfg0.N) (p : S256x1024.Idx) (i : Cert.Ln1RefIdeal.S2048x1024.Idx)
    (hi0 : (i 0).val = t.val * 256 + (p 0).val) (hi1 : (i 1).val = (p 1).val) :
    k0_pay13 (F := Ideal) (partBlock m c t) (lastGate m c t) (lastWeight m c t) (iblk m c 6 t) (iblk m c 7 t) p
      = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i := by
  obtain ⟨a, b, rfl⟩ : ∃ (a : Fin 256) (b : Fin 1024), p = ix2 a b := ⟨_, _, eq_ix2 p⟩
  obtain ⟨r, s, rfl⟩ : ∃ (r : Fin 2048) (s : Fin 1024), i = ix2 r s := ⟨_, _, eq_ix2 i⟩
  have hs : s = b := Fin.ext hi1
  subst hs
  replace hi0 : r.val = t.val * 256 + a.val := hi0
  have hd := fun k => grad_real m c hf (ix2 r k)
  obtain ⟨-, -, -, -, -, -, h6, h7⟩ := hf
  rw [kernel_row, reference_row, ← byProducts_eq_byChain _ _ (fun k => h6 _) (fun k => (hd k).mul (h7 _))]
  refine congrArg₂ (fun z d => byProducts z d s) (funext fun k => ?_)
    (funext fun k => congrArg₂ (fun x y : EReal => x * y) (grad_point m c t a k r hi0) ?_)
  all_goals blk_point [iblk, V, idx t]

set_option maxHeartbeats 4000000 in
theorem final8 (c : Dev nD) (hf : Args m c) : (dats m 0 c).arrAt 8 (cfgs 0).N
    = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  by_cases h : t.val % 8 = 0
  · rw [outsAt0_A m c t h]; frame_out
    refine dz_point m c hf t _ _ ?_ ?_ <;> · blk_simp [idx t]; try (idx_bounds_all; omega)
  · rw [outsAt0_B m c t h]; frame_out
    refine dz_point m c hf t _ _ ?_ ?_ <;> · blk_simp [idx t]; try (idx_bounds_all; omega)

set_option maxHeartbeats 4000000 in
theorem final9 (c : Dev nD) (hf : Args m c) : (dats m 0 c).arrAt 9 (cfgs 0).N
    = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t _ y => ?_
  blk_simp
  rw [after0_9]
  by_cases h : t.val % 8 = 0
  · rw [outsAt0_A m c t h]; frame_out
    pointwise [k0_pay1, val_main_v75]
    refine dz_point m c hf t _ _ ?_ ?_ <;> · blk_simp [idx t]; try (idx_bounds_all; omega)
  · rw [outsAt0_B m c t h]; frame_out
    pointwise [k0_pay1, val_main_v75]
    refine dz_point m c hf t _ _ ?_ ?_ <;> · blk_simp [idx t]; try (idx_bounds_all; omega)

/-- What a block of rows adds to the scale's gradient. -/
def scaleTerm (d z : Vec Ideal S256x1024 .f32) (j : S1x1024.Idx) : EReal :=
  ∑ k : Fin 256, d (ix2 k (j 1)) * hat (fun l => z (ix2 k l)) (j 1)

/-- What a block of rows adds to the shift's gradient. -/
def shiftTerm (d : Vec Ideal S256x1024 .f32) (j : S1x1024.Idx) : EReal := ∑ k : Fin 256, d (ix2 k (j 1))

/-- One step of the scale's gradient. -/
theorem scale_step (x : FVec Ideal S256x1024 .f32) (y : Vec Ideal S1x256x704 .bf16) (w : Vec Ideal S1x704x1024 .bf16)
    (z : Vec Ideal S256x1024 .f32) (acc : Vec Ideal S1x1024 .f32) (j : S1x1024.Idx) :
    k0_pay2 (F := Ideal) (k0_pay14 x y w z) acc j = acc j + scaleTerm (k0_pay9 (F := Ideal) x y w) z j := by
  obtain ⟨a, b, rfl⟩ : ∃ (a : Fin 1) (b : Fin 1024), j = ix2 a b := ⟨_, _, eq_ix2 j⟩
  obtain rfl : a = 0 := Subsingleton.elim _ _
  pointwise [k0_pay2, k0_pay14, k0_pay12, k0_pay11, k0_pay10]
  rfl

/-- One step of the shift's gradient. -/
theorem shift_step (d : Vec Ideal S256x1024 .f32) (acc : Vec Ideal S1x1024 .f32) (j : S1x1024.Idx) :
    k0_pay3 (F := Ideal) d acc j = acc j + shiftTerm d j := by
  obtain ⟨a, b, rfl⟩ : ∃ (a : Fin 1) (b : Fin 1024), j = ix2 a b := ⟨_, _, eq_ix2 j⟩
  obtain rfl : a = 0 := Subsingleton.elim _ _
  pointwise [k0_pay3, shiftTerm]

theorem scale_start (j : S1x1024.Idx) : k0_pay4 (F := Ideal) j = 0 := by pointwise [k0_pay4]

theorem shift_start (j : S1x1024.Idx) : k0_pay5 (F := Ideal) j = 0 := by pointwise [k0_pay5]

/-- The reference's gradient of the scale. -/
theorem reference_scale (x0 x6 : Vec Ideal Cert.Ln1RefIdeal.S2048x1024 .f32) (x1 : Vec Ideal Cert.Ln1RefIdeal.S2048x1024 .bf16)
    (x2 : Vec Ideal Cert.Ln1RefIdeal.S1024x1024 .bf16) (x3 x4 : Vec Ideal Cert.Ln1RefIdeal.S2048x2816 .bf16)
    (x5 : Vec Ideal Cert.Ln1RefIdeal.S1024x5632 .bf16) (i : Cert.Ln1RefIdeal.S1x1024.Idx) :
    val_main_v76 (F := Ideal) x0 x1 x2 x3 x4 x5 x6 i
      = ∑ k : Fin 2048, val_main_v43 (F := Ideal) x0 x1 x2 x3 x4 x5 (ix2 k (i 1)) * hat (fun l => x6 (ix2 k l)) (i 1) := by
  pointwise [val_main_v6, val_main_v7, val_main_v8, val_main_v9, val_main_v10, val_main_v11, val_main_v12, val_main_v13, val_main_v14, val_main_v15, val_main_v16, val_main_v17, val_main_v18, val_main_v19, val_main_v23, val_main_v24, val_main_v47, val_main_v48, val_main_v49, val_main_v52, val_main_v76, val_main_cst_0,
    val_main_cst_1, val_main_cst_2, val_main_cst_3, val_main_cst_4, val_main_cst_10, val_main_cst_11]
  simp only [Finset.univ_unique, Finset.sum_singleton]
  exact Finset.sum_congr rfl fun k _ => mul_comm _ _

/-- The reference's gradient of the shift. -/
theorem reference_shift (x0 : Vec Ideal Cert.Ln1RefIdeal.S2048x1024 .f32) (x1 : Vec Ideal Cert.Ln1RefIdeal.S2048x1024 .bf16)
    (x2 : Vec Ideal Cert.Ln1RefIdeal.S1024x1024 .bf16) (x3 x4 : Vec Ideal Cert.Ln1RefIdeal.S2048x2816 .bf16)
    (x5 : Vec Ideal Cert.Ln1RefIdeal.S1024x5632 .bf16) (i : Cert.Ln1RefIdeal.S1x1024.Idx) :
    val_main_v77 (F := Ideal) x0 x1 x2 x3 x4 x5 i
      = ∑ k : Fin 2048, val_main_v43 (F := Ideal) x0 x1 x2 x3 x4 x5 (ix2 k (i 1)) := by
  pointwise [val_main_v44, val_main_v45, val_main_v46, val_main_v77, val_main_cst_8, val_main_cst_9]
  simp only [Finset.univ_unique, Finset.sum_singleton]

set_option maxHeartbeats 4000000 in
theorem final10 (c : Dev nD) : (dats m 0 c).arrAt 10 (cfgs 0).N
    = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  have h3 := (flush0_10 t).mp hf
  have ht : t.val < 8 := t.isLt
  blk_simp
  rw [after0_10]
  obtain ⟨i, hi⟩ : ∃ i, ((cfg0.win 10).blk t).view.emb y = i := ⟨_, rfl⟩
  have hi1 : (i 1).val = (y 1).val := by rw [← hi]; blk_simp [idx t]; try (idx_bounds_all; omega)
  rw [hi, reference_scale]
  refine (Pipeline.eq_sum_fin_of_reset_step_apply_last (fun n h => (outsAt0 m c n h).2.2.1) 8 (fun _ => 0)
    (fun t j => scaleTerm (gradBlock m c t) (iblk m c 6 t) j)
    (fun t h j => by rw [outsAt0_A m c t h]; frame_out; rw [scale_step, scale_start]; rfl)
    (fun t h j => by rw [outsAt0_B m c t h]; frame_out; rw [scale_step]; rfl)
    (by decide) t (by show t.val + 1 = 8; omega) _).trans ?_
  rw [zero_add]
  refine Fin.sum_mul_add_congr fun s k hl => ?_
  refine congrArg₂ (fun x y : EReal => x * y) ?_ (congrArg₂ hat (funext fun l => ?_) (Fin.ext ?_))
  · rw [show i 1 = y 1 from Fin.ext hi1]
    exact grad_point m c s k _ _ rfl
  · blk_point [iblk, V, idx s]
  · exact hi1.symm

set_option maxHeartbeats 4000000 in
theorem final11 (c : Dev nD) : (dats m 0 c).arrAt 11 (cfgs 0).N
    = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t hf y => ?_
  have h3 := (flush0_11 t).mp hf
  have ht : t.val < 8 := t.isLt
  blk_simp
  rw [after0_11]
  obtain ⟨i, hi⟩ : ∃ i, ((cfg0.win 11).blk t).view.emb y = i := ⟨_, rfl⟩
  have hi1 : (i 1).val = (y 1).val := by rw [← hi]; blk_simp [idx t]; try (idx_bounds_all; omega)
  rw [hi, reference_shift]
  refine (Pipeline.eq_sum_fin_of_reset_step_apply_last (fun n h => (outsAt0 m c n h).2.2.2) 8 (fun _ => 0)
    (fun t j => shiftTerm (gradBlock m c t) j)
    (fun t h j => by rw [outsAt0_A m c t h]; frame_out; rw [shift_step, shift_start]; rfl)
    (fun t h j => by rw [outsAt0_B m c t h]; frame_out; rw [shift_step]; rfl)
    (by decide) t (by show t.val + 1 = 8; omega) _).trans ?_
  rw [zero_add]
  refine Fin.sum_mul_add_congr fun s k hl => ?_
  rw [show i 1 = y 1 from Fin.ext hi1]
  exact grad_point m c s k _ _ rfl

end Cert.Ln1Ideal.Value

namespace Cert.Proof.Ln1

theorem frame : Cert.quiescent_Ln1 := fun m ρ _ => Cert.Ln1.Gen.frame m ρ

theorem frame_ideal : Cert.quiescent_Ln1Ideal := fun m ρ _ => Cert.Ln1Ideal.Gen.frame m ρ

theorem frame_ideal_pre : Cert.quiescent_Ln1Ideal_pre_finite_ln1 := fun m ρ _ => Cert.Ln1Ideal.Gen.frame m ρ

theorem frame_ref : Cert.quiescent_Ln1RefIdeal := fun m ρ _ =>
  (θ_run Cert.Ln1RefIdeal.defs _ _).mono (fun r h => ⟨fun c => (h c).2.2.2.2,
      Idealize.ShloMosaic.sem_eq_zero_of_no_sems (by decide) r.2⟩)
    (Cert.Ln1RefIdeal.Value.run (F := Ideal) m ρ)

theorem frame_ref_pre : Cert.quiescent_Ln1RefIdeal_pre_finite_ln1 := fun m ρ _ => frame_ref m ρ trivial

/-- The precondition says that the arguments are finite. -/
theorem args_of_pre (m : (ℓ : Loc Cert.Ln1Ideal.nD Cert.Ln1Ideal.τ Cert.Ln1Ideal.sig) → Buf (Elt Ideal) ℓ)
    (hp : Cert.Pre_Ln1Ideal_finite_ln1 m) (c : Dev Cert.Ln1Ideal.nD) : Cert.Ln1Ideal.Value.Args m c := by
  have h := congrFun (hp c) ix0
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  have : Subsingleton Cert.Pre_finite_ln1.S_.Idx := ⟨fun a b => funext fun k => k.elim0⟩
  exact ⟨Cert.Finite.real_of_all _ _ (fun _ => Cert.Finite.infinity) _ _ _ _ h0,
    Cert.Finite.real_of_all _ _ (fun _ => Cert.Finite.infinity) _ _ _ _ h1,
    Cert.Finite.real_of_all _ _ (fun _ => Cert.Finite.infinity) _ _ _ _ h2,
    Cert.Finite.real_of_all _ _ (fun _ => Cert.Finite.infinity) _ _ _ _ h3,
    Cert.Finite.real_of_all _ _ (fun _ => Cert.Finite.infinity) _ _ _ _ h4,
    Cert.Finite.real_of_all _ _ (fun _ => Cert.Finite.infinity) _ _ _ _ h5,
    Cert.Finite.real_of_all _ _ (fun _ => Cert.Finite.infinity) _ _ _ _ h6,
    Cert.Finite.real_of_all _ _ (fun _ => Cert.Finite.infinity) _ _ _ _ h7⟩

set_option maxHeartbeats 4000000 in
theorem algebraic : Cert.algebraic_Ln1Ideal_Ln1RefIdeal_pre_finite_ln1 := by
  pair_intro
  · run_from Cert.Ln1Ideal.Gen.run_main m g
  · have hf := args_of_pre m hpre
    run_from Cert.Ln1RefIdeal.Value.run m' g'
    all_goals obtain ⟨h0, h1, h2, h3, h4, h5, h6, h7⟩ := hagree c
    · rw [Cert.Ln1RefIdeal.Read.val_main_v74_eq m' c, h0, h1, h2, h3, h4, h5, h6, h7]
      exact (Cert.Ln1Ideal.Value.final8 m c (hf c)).symm
    · rw [Cert.Ln1RefIdeal.Read.val_main_v75_eq m' c, h0, h1, h2, h3, h4, h5, h6, h7]
      exact (Cert.Ln1Ideal.Value.final9 m c (hf c)).symm
    · rw [h3, h4]
      exact (Cert.Ln1Ideal.Value.final10 m c).symm
    · rw [h3, h4]
      exact (Cert.Ln1Ideal.Value.final11 m c).symm

end Cert.Proof.Ln1

end
-- ==== Proof.Dh0.lean ====
module

public import proofs.«01_k».proof.Defs
public import proofs.«01_k».proof.Proof.Gen.Dh0.Frame
public import proofs.«01_k».proof.Proof.Gen.Dh0Ideal.Frame
public import proofs.«01_k».proof.Proof.Gen.Dh0RefIdeal.Run
public import proofs.«01_k».proof.Proof.Gen.Dh0RefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Dh0Ideal.Value

open Cert.Dh0Ideal Cert.Dh0Ideal.Gen Cert.Dh0RefIdeal.Read

variable (m : (ℓ : Loc nD τ sig) → Buf (Elt Ideal) ℓ)

theorem idx : ∀ t : Fin cfg0.N,
    win0_0.index t = ![t.val, 0]
      ∧ win0_1.index t = ![t.val, 0]
      ∧ win0_2.index t = ![t.val, 0]
      ∧ win0_3.index t = ![t.val, 0]
      ∧ win0_4.index t = ![t.val, 0]
      ∧ win0_5.index t = ![t.val, 0]
      ∧ win0_6.index t = ![t.val, 0]
      ∧ win0_7.index t = ![0, 0, 0]
      ∧ win0_8.index t = ![t.val, 0] :=
  (by decide +kernel : ∀ t : Fin grid0.N, _)

/-- Two sums of nine terms are equal where the terms are. -/
theorem add_nine {a0 a1 a2 a3 a4 a5 a6 a7 a8 b0 b1 b2 b3 b4 b5 b6 b7 b8 : EReal} (h0 : a0 = b0) (h1 : a1 = b1) (h2 : a2 = b2) (h3 : a3 = b3) (h4 : a4 = b4) (h5 : a5 = b5) (h6 : a6 = b6) (h7 :
    a7 = b7) (h8 : a8 = b8) :
    a0 + a1 + a2 + a3 + a4 + a5 + a6 + a7 + a8 = b0 + b1 + b2 + b3 + b4 + b5 + b6 + b7 + b8 := by
  rw [h0, h1, h2, h3, h4, h5, h6, h7, h8]

/-- A sum over 4096 positions as eight sums over 512. -/
theorem sum_eight_pieces (f : Fin 4096 → EReal) :
    ∑ k, f k = ∑ x : Fin 512, f ⟨x.val, by omega⟩ + ∑ x : Fin 512, f ⟨512 + x.val, by omega⟩
      + ∑ x : Fin 512, f ⟨1024 + x.val, by omega⟩ + ∑ x : Fin 512, f ⟨1536 + x.val, by omega⟩
      + ∑ x : Fin 512, f ⟨2048 + x.val, by omega⟩ + ∑ x : Fin 512, f ⟨2560 + x.val, by omega⟩
      + ∑ x : Fin 512, f ⟨3072 + x.val, by omega⟩ + ∑ x : Fin 512, f ⟨3584 + x.val, by omega⟩ := by
  rw [Fin.sum_univ_tiles (N := 4096) 8 512 rfl, Fin.sum_univ_eight]
  have e : ∀ (j : Fin 8) (n : ℕ) (hn : n = j.val * 512),
      (∑ x : Fin 512, f ⟨j.val * 512 + x.val, by omega⟩) = ∑ x : Fin 512, f ⟨n + x.val, by omega⟩ := by
    intro j n hn; subst hn; rfl
  have z : (∑ x : Fin 512, f ⟨(0 : Fin 8).val * 512 + x.val, by omega⟩) = ∑ x : Fin 512, f ⟨x.val, by omega⟩ :=
    Finset.sum_congr rfl fun x _ => congrArg f (Fin.ext (by simp))
  exact congrArg₂ (· + ·) (congrArg₂ (· + ·) (congrArg₂ (· + ·) (congrArg₂ (· + ·) (congrArg₂ (· + ·)
    (congrArg₂ (· + ·) (congrArg₂ (· + ·) z (e 1 512 rfl)) (e 2 1024 rfl)) (e 3 1536 rfl)) (e 4 2048 rfl))
    (e 5 2560 rfl)) (e 6 3072 rfl)) (e 7 3584 rfl)

set_option maxHeartbeats 2000000 in
theorem final8 (c : Dev nD) : (dats m 0 c).arrAt 8 (cfgs 0).N
    = val_main_v21 (F := Ideal) (m ((c : Thread nD τ).loc main_arg0)) (m ((c : Thread nD τ).loc main_arg1)) (m ((c : Thread nD τ).loc
      main_arg2)) (m ((c : Thread nD τ).loc main_arg3)) (m ((c : Thread nD τ).loc main_arg4)) (m ((c : Thread nD
      τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]; frame_out
  pointwise [k0_pay1, k0_pay2, k0_pay3,
    val_main_v0, val_main_v1, val_main_v2, val_main_v3, val_main_v4, val_main_v5, val_main_v6, val_main_v17,
    val_main_v18, val_main_v19, val_main_v20, val_main_v21, val_main_cst_1]
  show (_ : EReal) = _
  rw [add_comm (∑ x, _) _, sum_eight_pieces]
  simp only [← add_assoc]
  refine add_nine ?_ (Finset.sum_congr rfl fun x _ => ?_) (Finset.sum_congr rfl fun x _ => ?_)
    (Finset.sum_congr rfl fun x _ => ?_) (Finset.sum_congr rfl fun x _ => ?_) (Finset.sum_congr rfl fun x _ => ?_)
    (Finset.sum_congr rfl fun x _ => ?_) (Finset.sum_congr rfl fun x _ => ?_) (Finset.sum_congr rfl fun x _ => ?_)
  · blk_point [iblk, V, idx t]
  all_goals
    have hx := x.isLt
    simp (disch := omega) only [dif_pos, dif_neg]
    blk_point [iblk, V, idx t]

end Cert.Dh0Ideal.Value

namespace Cert.Proof.Dh0

theorem frame : Cert.quiescent_Dh0 := fun m ρ _ => Cert.Dh0.Gen.frame m ρ

theorem frame_ideal : Cert.quiescent_Dh0Ideal := fun m ρ _ => Cert.Dh0Ideal.Gen.frame m ρ

theorem frame_ref : Cert.quiescent_Dh0RefIdeal := fun m ρ _ =>
  (θ_run Cert.Dh0RefIdeal.defs _ _).mono (fun r h => ⟨fun c => (h c).2,
      Idealize.ShloMosaic.sem_eq_zero_of_no_sems (by decide) r.2⟩)
    (Cert.Dh0RefIdeal.Value.run (F := Ideal) m ρ)

set_option maxHeartbeats 2000000 in
theorem algebraic : Cert.algebraic_Dh0Ideal_Dh0RefIdeal := by
  pair_intro
  · run_from Cert.Dh0Ideal.Gen.run_main m g
  · run_from Cert.Dh0RefIdeal.Value.run m' g'
    obtain ⟨h0, h1, h2, h3, h4, h5, h6, h7⟩ := hagree c
    rw [h1, h2, h3, h4, h5, h6]
    exact (Cert.Dh0Ideal.Value.final8 m c).symm

end Cert.Proof.Dh0

end
-- ==== Proof.Win.lean ====
module

public import proofs.«01_k».proof.Defs
public import proofs.«01_k».proof.Proof.Gen.Win.Frame
public import proofs.«01_k».proof.Proof.Gen.WinIdeal.Frame
public import proofs.«01_k».proof.Proof.Gen.WinRefIdeal.Run
public import proofs.«01_k».proof.Proof.Gen.WinRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.WinIdeal.Value

open Cert.WinIdeal Cert.WinIdeal.Gen Cert.WinRefIdeal.Read

variable (m : (ℓ : Loc nD τ sig) → Buf (Elt Ideal) ℓ)

theorem idx : ∀ t : Fin cfg0.N,
    win0_0.index t = ![0, 0]
      ∧ win0_1.index t = ![0, 0]
      ∧ win0_2.index t = ![0, 0]
      ∧ win0_3.index t = ![0, 0]
      ∧ win0_4.index t = ![0, 0]
      ∧ win0_7.index t = ![t.val, 0, 0]
      ∧ win0_8.index t = ![0, t.val] :=
  (by decide +kernel : ∀ t : Fin grid0.N, _)

theorem idx_ga : ∀ t : Fin cfg0.N, 4 ≤ t.val → t.val < 6 → win0_5.index t = ![0, t.val - 4] :=
  (by decide +kernel : ∀ t : Fin grid0.N, _)

theorem idx_gb : ∀ t : Fin cfg0.N, 6 ≤ t.val → win0_6.index t = ![0, t.val - 6] :=
  (by decide +kernel : ∀ t : Fin grid0.N, _)

set_option maxHeartbeats 2000000 in
theorem final7 (c : Dev nD) : (dats m 0 c).arrAt 7 (cfgs 0).N
    = val_main_v27 (F := Ideal) (m ((c : Thread nD τ).loc main_arg0)) (m ((c : Thread nD τ).loc main_arg1)) (m ((c : Thread nD τ).loc
      main_arg2)) (m ((c : Thread nD τ).loc main_arg3)) (m ((c : Thread nD τ).loc main_arg4)) (m ((c : Thread nD
      τ).loc main_arg5)) (m ((c : Thread nD τ).loc main_arg6)) := by
  refine (dats m 0 c).arrAt_eq_of_covers 7 _ (by decide +kernel) fun t _ y => ?_
  blk_simp
  rw [after0_7]
  obtain ⟨i, hi⟩ : ∃ i, ((cfg0.win 7).blk t).view.emb y = i := ⟨_, rfl⟩
  have hi0 : (i 0).val = t.val := by rw [← hi]; blk_simp [idx t]; try (idx_bounds_all; omega)
  have hi1 : (i 1).val = (y 1).val := by rw [← hi]; blk_simp [idx t]; try (idx_bounds_all; omega)
  have hi2 : (i 2).val = (y 2).val := by rw [← hi]; blk_simp [idx t]; try (idx_bounds_all; omega)
  rw [hi]
  have ht : t.val < 8 := t.isLt
  obtain h | h | h | h | h | h : t.val = 0 ∨ t.val = 1 ∨ t.val = 2 ∨ t.val = 3 ∨ (4 ≤ t.val ∧ t.val < 6) ∨ 6 ≤ t.val := by omega
  · rw [outsAt0_A m c t (by omega) (by omega) (by omega) (by omega) (by omega) (by omega)]; frame_out
    pointwise [k0_pay1, k0_pay2, k0_pay3, k0_pay4, k0_pay5, k0_pay6, k0_pay7, k0_pay8, k0_pay9, k0_pay10, k0_pay11, k0_pay12,
      val_main_v0, val_main_v1, val_main_v2, val_main_v3, val_main_v4, val_main_v5, val_main_v6, val_main_v19,
      val_main_v23, val_main_v24, val_main_v25, val_main_v26, val_main_v27]
    show (_ : EReal) = _
    refine Finset.sum_congr rfl fun k _ => ?_
    idx_bounds_all
    simp (disch := omega) only [dif_pos, dif_neg]
    rw [mul_comm]
    blk_point [iblk, V, idx t]
  · rw [outsAt0_B m c t (by omega) (by omega) (by omega) (by omega) (by omega) (by omega)]; frame_out
    pointwise [k0_pay1, k0_pay2, k0_pay3, k0_pay4, k0_pay5, k0_pay6, k0_pay7, k0_pay8, k0_pay9, k0_pay10, k0_pay11, k0_pay12,
      val_main_v0, val_main_v1, val_main_v2, val_main_v3, val_main_v4, val_main_v5, val_main_v6, val_main_v19,
      val_main_v23, val_main_v24, val_main_v25, val_main_v26, val_main_v27]
    show (_ : EReal) = _
    refine Finset.sum_congr rfl fun k _ => ?_
    idx_bounds_all
    simp (disch := omega) only [dif_pos, dif_neg]
    rw [mul_comm]
    blk_point [iblk, V, idx t]
  · rw [outsAt0_C m c t (by omega) (by omega) (by omega) (by omega) (by omega) (by omega)]; frame_out
    pointwise [k0_pay1, k0_pay2, k0_pay3, k0_pay4, k0_pay5, k0_pay6, k0_pay7, k0_pay8, k0_pay9, k0_pay10, k0_pay11, k0_pay12,
      val_main_v0, val_main_v1, val_main_v2, val_main_v3, val_main_v4, val_main_v5, val_main_v6, val_main_v19,
      val_main_v23, val_main_v24, val_main_v25, val_main_v26, val_main_v27]
    show (_ : EReal) = _
    refine Finset.sum_congr rfl fun k _ => ?_
    idx_bounds_all
    simp (disch := omega) only [dif_pos, dif_neg]
    rw [mul_comm]
    blk_point [iblk, V, idx t]
  · rw [outsAt0_D m c t (by omega) (by omega) (by omega) (by omega) (by omega) (by omega)]; frame_out
    pointwise [k0_pay1, k0_pay2, k0_pay3, k0_pay4, k0_pay5, k0_pay6, k0_pay7, k0_pay8, k0_pay9, k0_pay10, k0_pay11, k0_pay12,
      val_main_v0, val_main_v1, val_main_v2, val_main_v3, val_main_v4, val_main_v5, val_main_v6, val_main_v19,
      val_main_v23, val_main_v24, val_main_v25, val_main_v26, val_main_v27]
    show (_ : EReal) = _
    refine Finset.sum_congr rfl fun k _ => ?_
    idx_bounds_all
    simp (disch := omega) only [dif_pos, dif_neg]
    rw [mul_comm]
    blk_point [iblk, V, idx t]
  · rw [outsAt0_E m c t (by omega) (by omega) (by omega) (by omega) (by omega) (by omega)]; frame_out
    pointwise [k0_pay1, k0_pay2, k0_pay3, k0_pay4, k0_pay5, k0_pay6, k0_pay7, k0_pay8, k0_pay9, k0_pay10, k0_pay11, k0_pay12,
      val_main_v0, val_main_v1, val_main_v2, val_main_v3, val_main_v4, val_main_v5, val_main_v6, val_main_v19,
      val_main_v23, val_main_v24, val_main_v25, val_main_v26, val_main_v27]
    show (_ : EReal) = _
    refine Finset.sum_congr rfl fun k _ => ?_
    idx_bounds_all
    simp (disch := omega) only [dif_pos, dif_neg]
    rw [mul_comm]
    blk_point [iblk, V, idx t, idx_ga t h.1 h.2]
  · rw [outsAt0_F m c t (by omega) (by omega) (by omega) (by omega) (by omega) (by omega)]; frame_out
    pointwise [k0_pay1, k0_pay2, k0_pay3, k0_pay4, k0_pay5, k0_pay6, k0_pay7, k0_pay8, k0_pay9, k0_pay10, k0_pay11, k0_pay12,
      val_main_v0, val_main_v1, val_main_v2, val_main_v3, val_main_v4, val_main_v5, val_main_v6, val_main_v19,
      val_main_v23, val_main_v24, val_main_v25, val_main_v26, val_main_v27]
    show (_ : EReal) = _
    refine Finset.sum_congr rfl fun k _ => ?_
    idx_bounds_all
    simp (disch := omega) only [dif_pos, dif_neg]
    rw [mul_comm]
    blk_point [iblk, V, idx t, idx_gb t h]

set_option maxHeartbeats 2000000 in
theorem final8 (c : Dev nD) : (dats m 0 c).arrAt 8 (cfgs 0).N
    = val_main_v28 (F := Ideal) (m ((c : Thread nD τ).loc main_arg1)) (m ((c : Thread nD τ).loc main_arg2)) (m ((c : Thread nD τ).loc
      main_arg3)) (m ((c : Thread nD τ).loc main_arg4)) (m ((c : Thread nD τ).loc main_arg5)) (m ((c : Thread nD
      τ).loc main_arg6)) := by
  refine (dats m 0 c).arrAt_eq_of_covers 8 _ (by decide +kernel) fun t _ y => ?_
  blk_simp
  rw [after0_8]
  obtain ⟨i, hi⟩ : ∃ i, ((cfg0.win 8).blk t).view.emb y = i := ⟨_, rfl⟩
  have hi0 : (i 0).val = (y 0).val := by rw [← hi]; blk_simp [idx t]; try (idx_bounds_all; omega)
  have hi1 : (i 1).val = t.val * 512 + (y 1).val := by rw [← hi]; blk_simp [idx t]; try (idx_bounds_all; omega)
  rw [hi]
  have ht : t.val < 8 := t.isLt
  obtain h | h | h | h | h | h : t.val = 0 ∨ t.val = 1 ∨ t.val = 2 ∨ t.val = 3 ∨ (4 ≤ t.val ∧ t.val < 6) ∨ 6 ≤ t.val := by omega
  · rw [outsAt0_A m c t (by omega) (by omega) (by omega) (by omega) (by omega) (by omega)]; frame_out
    pointwise [k0_pay1, k0_pay2, k0_pay3, k0_pay4, k0_pay5, k0_pay6, k0_pay7, k0_pay8, k0_pay9, k0_pay10, k0_pay11, k0_pay12,
      val_main_v1, val_main_v2, val_main_v3, val_main_v4, val_main_v5, val_main_v6, val_main_v19, val_main_v20,
      val_main_v21, val_main_v22, val_main_v28, val_main_cst_1, val_main_cst_2]
    show (_ : EReal) = _
    simp only [Finset.univ_unique, Finset.sum_singleton]
    refine Finset.sum_congr rfl fun k _ => ?_
    idx_bounds_all
    simp (disch := omega) only [dif_pos, dif_neg]
    blk_point [iblk, V, idx t]
  · rw [outsAt0_B m c t (by omega) (by omega) (by omega) (by omega) (by omega) (by omega)]; frame_out
    pointwise [k0_pay1, k0_pay2, k0_pay3, k0_pay4, k0_pay5, k0_pay6, k0_pay7, k0_pay8, k0_pay9, k0_pay10, k0_pay11, k0_pay12,
      val_main_v1, val_main_v2, val_main_v3, val_main_v4, val_main_v5, val_main_v6, val_main_v19, val_main_v20,
      val_main_v21, val_main_v22, val_main_v28, val_main_cst_1, val_main_cst_2]
    show (_ : EReal) = _
    simp only [Finset.univ_unique, Finset.sum_singleton]
    refine Finset.sum_congr rfl fun k _ => ?_
    idx_bounds_all
    simp (disch := omega) only [dif_pos, dif_neg]
    blk_point [iblk, V, idx t]
  · rw [outsAt0_C m c t (by omega) (by omega) (by omega) (by omega) (by omega) (by omega)]; frame_out
    pointwise [k0_pay1, k0_pay2, k0_pay3, k0_pay4, k0_pay5, k0_pay6, k0_pay7, k0_pay8, k0_pay9, k0_pay10, k0_pay11, k0_pay12,
      val_main_v1, val_main_v2, val_main_v3, val_main_v4, val_main_v5, val_main_v6, val_main_v19, val_main_v20,
      val_main_v21, val_main_v22, val_main_v28, val_main_cst_1, val_main_cst_2]
    show (_ : EReal) = _
    simp only [Finset.univ_unique, Finset.sum_singleton]
    refine Finset.sum_congr rfl fun k _ => ?_
    idx_bounds_all
    simp (disch := omega) only [dif_pos, dif_neg]
    blk_point [iblk, V, idx t]
  · rw [outsAt0_D m c t (by omega) (by omega) (by omega) (by omega) (by omega) (by omega)]; frame_out
    pointwise [k0_pay1, k0_pay2, k0_pay3, k0_pay4, k0_pay5, k0_pay6, k0_pay7, k0_pay8, k0_pay9, k0_pay10, k0_pay11, k0_pay12,
      val_main_v1, val_main_v2, val_main_v3, val_main_v4, val_main_v5, val_main_v6, val_main_v19, val_main_v20,
      val_main_v21, val_main_v22, val_main_v28, val_main_cst_1, val_main_cst_2]
    show (_ : EReal) = _
    simp only [Finset.univ_unique, Finset.sum_singleton]
    refine Finset.sum_congr rfl fun k _ => ?_
    idx_bounds_all
    simp (disch := omega) only [dif_pos, dif_neg]
    blk_point [iblk, V, idx t]
  · rw [outsAt0_E m c t (by omega) (by omega) (by omega) (by omega) (by omega) (by omega)]; frame_out
    pointwise [k0_pay1, k0_pay2, k0_pay3, k0_pay4, k0_pay5, k0_pay6, k0_pay7, k0_pay8, k0_pay9, k0_pay10, k0_pay11, k0_pay12,
      val_main_v1, val_main_v2, val_main_v3, val_main_v4, val_main_v5, val_main_v6, val_main_v19, val_main_v20,
      val_main_v21, val_main_v22, val_main_v28, val_main_cst_1, val_main_cst_2]
    show (_ : EReal) = _
    simp only [Finset.univ_unique, Finset.sum_singleton]
    refine Finset.sum_congr rfl fun k _ => ?_
    idx_bounds_all
    simp (disch := omega) only [dif_pos, dif_neg]
    blk_point [iblk, V, idx t, idx_ga t h.1 h.2]
  · rw [outsAt0_F m c t (by omega) (by omega) (by omega) (by omega) (by omega) (by omega)]; frame_out
    pointwise [k0_pay1, k0_pay2, k0_pay3, k0_pay4, k0_pay5, k0_pay6, k0_pay7, k0_pay8, k0_pay9, k0_pay10, k0_pay11, k0_pay12,
      val_main_v1, val_main_v2, val_main_v3, val_main_v4, val_main_v5, val_main_v6, val_main_v19, val_main_v20,
      val_main_v21, val_main_v22, val_main_v28, val_main_cst_1, val_main_cst_2]
    show (_ : EReal) = _
    simp only [Finset.univ_unique, Finset.sum_singleton]
    refine Finset.sum_congr rfl fun k _ => ?_
    idx_bounds_all
    simp (disch := omega) only [dif_pos, dif_neg]
    blk_point [iblk, V, idx t, idx_gb t h]

end Cert.WinIdeal.Value

namespace Cert.Proof.Win

theorem frame : Cert.quiescent_Win := fun m ρ _ => Cert.Win.Gen.frame m ρ

theorem frame_ideal : Cert.quiescent_WinIdeal := fun m ρ _ => Cert.WinIdeal.Gen.frame m ρ

theorem frame_ref : Cert.quiescent_WinRefIdeal := fun m ρ _ =>
  (θ_run Cert.WinRefIdeal.defs _ _).mono (fun r h => ⟨fun c => (h c).2.2,
      Idealize.ShloMosaic.sem_eq_zero_of_no_sems (by decide) r.2⟩)
    (Cert.WinRefIdeal.Value.run (F := Ideal) m ρ)

set_option maxHeartbeats 2000000 in
theorem algebraic : Cert.algebraic_WinIdeal_WinRefIdeal := by
  pair_intro
  · run_from Cert.WinIdeal.Gen.run_main m g
  · run_from Cert.WinRefIdeal.Value.run m' g'
    · obtain ⟨h0, h1, h2, h3, h4, h5, h6⟩ := hagree c
      rw [h1, h2, h3, h4, h5, h6]
      exact (Cert.WinIdeal.Value.final7 m c).symm
    · obtain ⟨h0, h1, h2, h3, h4, h5, h6⟩ := hagree c
      rw [h1, h2, h3, h4, h5, h6]
      exact (Cert.WinIdeal.Value.final8 m c).symm

end Cert.Proof.Win

end
-- ==== Proof.Wup.lean ====
module

public import proofs.«01_k».proof.Defs
public import proofs.«01_k».proof.Proof.Gen.Wup.Frame
public import proofs.«01_k».proof.Proof.Gen.WupIdeal.Frame
public import proofs.«01_k».proof.Proof.Gen.WupRefIdeal.Run
public import proofs.«01_k».proof.Proof.Gen.WupRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.WupIdeal.Value

open Cert.WupIdeal Cert.WupIdeal.Gen Cert.WupRefIdeal.Read

variable (m : (ℓ : Loc nD τ sig) → Buf (Elt Ideal) ℓ)

theorem idx : ∀ t : Fin cfg0.N,
    win0_0.index t = ![0, 0]
      ∧ win0_3.index t = ![t.val, 0, 0] :=
  (by decide +kernel : ∀ t : Fin grid0.N, _)

theorem idx_val : ∀ t : Fin cfg0.N, t.val < 4 → win0_1.index t = ![t.val, 0, 0] :=
  (by decide +kernel : ∀ t : Fin grid0.N, _)

theorem idx_gate : ∀ t : Fin cfg0.N, 4 ≤ t.val → win0_2.index t = ![t.val - 4, 0, 0] :=
  (by decide +kernel : ∀ t : Fin grid0.N, _)

set_option maxHeartbeats 2000000 in
theorem final3 (c : Dev nD) : (dats m 0 c).arrAt 3 (cfgs 0).N
    = val_main_v12 (F := Ideal) (m ((c : Thread nD τ).loc main_arg0)) (m ((c : Thread nD τ).loc main_arg1)) (m ((c : Thread nD τ).loc
      main_arg2)) := by
  refine (dats m 0 c).arrAt_eq_of_covers 3 _ (by decide +kernel) fun t _ y => ?_
  blk_simp
  rw [after0_3]
  obtain ⟨i, hi⟩ : ∃ i, ((cfg0.win 3).blk t).view.emb y = i := ⟨_, rfl⟩
  have hi0 : (i 0).val = t.val := by rw [← hi]; blk_simp [idx t]; try (idx_bounds_all; omega)
  have hi1 : (i 1).val = (y 1).val := by rw [← hi]; blk_simp [idx t]; try (idx_bounds_all; omega)
  have hi2 : (i 2).val = (y 2).val := by rw [← hi]; blk_simp [idx t]; try (idx_bounds_all; omega)
  rw [hi]
  by_cases h : t.val < 4
  · rw [outsAt0_A m c t h (by omega)]; frame_out
    pointwise [k0_pay1, k0_pay2,
      val_main_v0, val_main_v1, val_main_v2, val_main_v7, val_main_v8, val_main_v9, val_main_v10, val_main_v11,
      val_main_v12]
    show (_ : EReal) = _
    refine Finset.sum_congr rfl fun k _ => ?_
    idx_bounds_all
    simp (disch := omega) only [dif_pos, dif_neg]
    blk_point [iblk, V, idx t, idx_val t h]
  · rw [outsAt0_B m c t h (by omega)]; frame_out
    pointwise [k0_pay1, k0_pay2,
      val_main_v0, val_main_v1, val_main_v2, val_main_v7, val_main_v8, val_main_v9, val_main_v10, val_main_v11,
      val_main_v12]
    show (_ : EReal) = _
    refine Finset.sum_congr rfl fun k _ => ?_
    idx_bounds_all
    simp (disch := omega) only [dif_pos, dif_neg]
    blk_point [iblk, V, idx t, idx_gate t (by omega)]

end Cert.WupIdeal.Value

namespace Cert.Proof.Wup

theorem frame : Cert.quiescent_Wup := fun m ρ _ => Cert.Wup.Gen.frame m ρ

theorem frame_ideal : Cert.quiescent_WupIdeal := fun m ρ _ => Cert.WupIdeal.Gen.frame m ρ

theorem frame_ref : Cert.quiescent_WupRefIdeal := fun m ρ _ =>
  (θ_run Cert.WupRefIdeal.defs _ _).mono (fun r h => ⟨fun c => (h c).2,
      Idealize.ShloMosaic.sem_eq_zero_of_no_sems (by decide) r.2⟩)
    (Cert.WupRefIdeal.Value.run (F := Ideal) m ρ)

set_option maxHeartbeats 2000000 in
theorem algebraic : Cert.algebraic_WupIdeal_WupRefIdeal := by
  pair_intro
  · run_from Cert.WupIdeal.Gen.run_main m g
  · run_from Cert.WupRefIdeal.Value.run m' g'
    obtain ⟨h0, h1, h2⟩ := hagree c
    rw [h1, h2]
    exact (Cert.WupIdeal.Value.final3 m c).symm

end Cert.Proof.Wup

end
-- ==== Proof.Wdown.lean ====
module

public import proofs.«01_k».proof.Defs
public import proofs.«01_k».proof.Proof.Gen.Wdown.Frame
public import proofs.«01_k».proof.Proof.Gen.WdownIdeal.Frame
public import proofs.«01_k».proof.Proof.Gen.WdownRefIdeal.Run
public import proofs.«01_k».proof.Proof.Gen.WdownRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.WdownIdeal.Value

open Cert.WdownIdeal Cert.WdownIdeal.Gen Cert.WdownRefIdeal.Read

variable (m : (ℓ : Loc nD τ sig) → Buf (Elt Ideal) ℓ)

theorem idx : ∀ t : Fin cfg0.N,
    win0_0.index t = ![t.val, 0, 0]
      ∧ win0_1.index t = ![0, 0]
      ∧ win0_2.index t = ![t.val, 0, 0] :=
  (by decide +kernel : ∀ t : Fin grid0.N, _)

theorem final2 (c : Dev nD) : (dats m 0 c).arrAt 2 (cfgs 0).N
    = val_main_v7 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1,
    val_main_v0, val_main_v1, val_main_v4, val_main_v5, val_main_v6, val_main_v7]
  show (_ : EReal) = _
  refine Finset.sum_congr rfl fun k _ => ?_
  rw [mul_comm]
  blk_point [iblk, V, idx t]

end Cert.WdownIdeal.Value

namespace Cert.Proof.Wdown

theorem frame : Cert.quiescent_Wdown := fun m ρ _ => Cert.Wdown.Gen.frame m ρ

theorem frame_ideal : Cert.quiescent_WdownIdeal := fun m ρ _ => Cert.WdownIdeal.Gen.frame m ρ

theorem frame_ref : Cert.quiescent_WdownRefIdeal := fun m ρ _ =>
  (θ_run Cert.WdownRefIdeal.defs _ _).mono (fun r h => ⟨fun c => (h c).2,
      Idealize.ShloMosaic.sem_eq_zero_of_no_sems (by decide) r.2⟩)
    (Cert.WdownRefIdeal.Value.run (F := Ideal) m ρ)

theorem algebraic : Cert.algebraic_WdownIdeal_WdownRefIdeal := by
  pair_intro
  · run_from Cert.WdownIdeal.Gen.run_main m g
  · run_from Cert.WdownRefIdeal.Value.run m' g'
    exact (Cert.WdownIdeal.Value.final2 m c).symm

end Cert.Proof.Wdown

end
-- ==== Proof.Wout.lean ====
module

public import proofs.«01_k».proof.Defs
public import proofs.«01_k».proof.Proof.Gen.Wout.Frame
public import proofs.«01_k».proof.Proof.Gen.WoutIdeal.Frame
public import proofs.«01_k».proof.Proof.Gen.WoutRefIdeal.Run
public import proofs.«01_k».proof.Proof.Gen.WoutRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.WoutIdeal.Value

open Cert.WoutIdeal Cert.WoutIdeal.Gen Cert.WoutRefIdeal.Read

variable (m : (ℓ : Loc nD τ sig) → Buf (Elt Ideal) ℓ)

theorem idx : ∀ t : Fin cfg0.N,
    win0_0.index t = ![0, t.val]
      ∧ win0_1.index t = ![0, 0]
      ∧ win0_2.index t = ![0, 0]
      ∧ win0_3.index t = ![0, t.val]
      ∧ win0_4.index t = ![0, 0]
      ∧ win0_5.index t = ![0, t.val]
      ∧ win0_6.index t = ![t.val, 0, 0]
      ∧ win0_7.index t = ![t.val, 0, 0]
      ∧ win0_8.index t = ![t.val, 0, 0] :=
  (by decide +kernel : ∀ t : Fin grid0.N, _)

theorem final6 (c : Dev nD) : (dats m 0 c).arrAt 6 (cfgs 0).N
    = val_main_v23 (F := Ideal) (m ((c : Thread nD τ).loc main_arg0)) (m ((c : Thread nD τ).loc main_arg1)) := by
  refine (dats m 0 c).arrAt_eq_of_covers 6 _ (by decide +kernel) fun t _ y => ?_
  blk_simp
  rw [after0_6]; frame_out
  pointwise [k0_pay1, k0_pay2, k0_pay3,
    val_main_v0, val_main_v1, val_main_v16, val_main_v17, val_main_v18, val_main_v23]
  show (_ : EReal) = _
  refine Finset.sum_congr rfl fun k _ => ?_
  rw [mul_comm]
  blk_point [iblk, V, idx t]

theorem final7 (c : Dev nD) : (dats m 0 c).arrAt 7 (cfgs 0).N
    = val_main_v24 (F := Ideal) (m ((c : Thread nD τ).loc main_arg2)) (m ((c : Thread nD τ).loc main_arg3)) := by
  refine (dats m 0 c).arrAt_eq_of_covers 7 _ (by decide +kernel) fun t _ y => ?_
  blk_simp
  rw [after0_7]; frame_out
  pointwise [k0_pay1, k0_pay2, k0_pay3,
    val_main_v2, val_main_v3, val_main_v14, val_main_v15, val_main_v19, val_main_v20, val_main_v24]
  show (_ : EReal) = _
  refine Finset.sum_congr rfl fun k _ => ?_
  rw [mul_comm]
  blk_point [iblk, V, idx t]

theorem final8 (c : Dev nD) : (dats m 0 c).arrAt 8 (cfgs 0).N
    = val_main_v25 (F := Ideal) (m ((c : Thread nD τ).loc main_arg4)) (m ((c : Thread nD τ).loc main_arg5)) := by
  refine (dats m 0 c).arrAt_eq_of_covers 8 _ (by decide +kernel) fun t _ y => ?_
  blk_simp
  rw [after0_8]; frame_out
  pointwise [k0_pay1, k0_pay2, k0_pay3,
    val_main_v4, val_main_v5, val_main_v12, val_main_v13, val_main_v21, val_main_v22, val_main_v25]
  show (_ : EReal) = _
  refine Finset.sum_congr rfl fun k _ => ?_
  rw [mul_comm]
  blk_point [iblk, V, idx t]

end Cert.WoutIdeal.Value

namespace Cert.Proof.Wout

theorem frame : Cert.quiescent_Wout := fun m ρ _ => Cert.Wout.Gen.frame m ρ

theorem frame_ideal : Cert.quiescent_WoutIdeal := fun m ρ _ => Cert.WoutIdeal.Gen.frame m ρ

theorem frame_ref : Cert.quiescent_WoutRefIdeal := fun m ρ _ =>
  (θ_run Cert.WoutRefIdeal.defs _ _).mono (fun r h => ⟨fun c => (h c).2.2.2,
      Idealize.ShloMosaic.sem_eq_zero_of_no_sems (by decide) r.2⟩)
    (Cert.WoutRefIdeal.Value.run (F := Ideal) m ρ)

theorem algebraic : Cert.algebraic_WoutIdeal_WoutRefIdeal := by
  pair_intro
  · run_from Cert.WoutIdeal.Gen.run_main m g
  · run_from Cert.WoutRefIdeal.Value.run m' g'
    · exact (Cert.WoutIdeal.Value.final6 m c).symm
    · exact (Cert.WoutIdeal.Value.final7 m c).symm
    · exact (Cert.WoutIdeal.Value.final8 m c).symm

end Cert.Proof.Wout

end
-- ==== Proof.Wple.lean ====
module

public import proofs.«01_k».proof.Defs
public import proofs.«01_k».proof.Proof.Gen.Wple.Frame
public import proofs.«01_k».proof.Proof.Gen.WpleIdeal.Frame
public import proofs.«01_k».proof.Proof.Gen.WpleRefIdeal.Run
public import proofs.«01_k».proof.Proof.Gen.WpleRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.WpleIdeal.Value

open Cert.WpleIdeal Cert.WpleIdeal.Gen Cert.WpleRefIdeal.Read

variable (m : (ℓ : Loc nD τ sig) → Buf (Elt Ideal) ℓ)

theorem idx : ∀ t : Fin cfg0.N,
    win0_0.index t = ![0, t.val]
      ∧ win0_1.index t = ![0, 0]
      ∧ win0_2.index t = ![0, 0]
      ∧ win0_3.index t = ![0, t.val]
      ∧ win0_4.index t = ![t.val, 0, 0]
      ∧ win0_5.index t = ![t.val, 0, 0] :=
  (by decide +kernel : ∀ t : Fin grid0.N, _)

theorem final4 (c : Dev nD) : (dats m 0 c).arrAt 4 (cfgs 0).N
    = val_main_v15 (F := Ideal) (m ((c : Thread nD τ).loc main_arg0)) (m ((c : Thread nD τ).loc main_arg1)) := by
  refine (dats m 0 c).arrAt_eq_of_covers 4 _ (by decide +kernel) fun t _ y => ?_
  blk_simp
  rw [after0_4]; frame_out
  pointwise [k0_pay1, k0_pay2,
    val_main_v0, val_main_v1, val_main_v10, val_main_v11, val_main_v12, val_main_v15]
  show (_ : EReal) = _
  refine Finset.sum_congr rfl fun k _ => ?_
  rw [mul_comm]
  blk_point [iblk, V, idx t]

theorem final5 (c : Dev nD) : (dats m 0 c).arrAt 5 (cfgs 0).N
    = val_main_v16 (F := Ideal) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay1, k0_pay2,
    val_main_v2, val_main_v3, val_main_v8, val_main_v9, val_main_v13, val_main_v14, val_main_v16]
  show (_ : EReal) = _
  refine Finset.sum_congr rfl fun k _ => ?_
  rw [mul_comm]
  blk_point [iblk, V, idx t]

end Cert.WpleIdeal.Value

namespace Cert.Proof.Wple

theorem frame : Cert.quiescent_Wple := fun m ρ _ => Cert.Wple.Gen.frame m ρ

theorem frame_ideal : Cert.quiescent_WpleIdeal := fun m ρ _ => Cert.WpleIdeal.Gen.frame m ρ

theorem frame_ref : Cert.quiescent_WpleRefIdeal := fun m ρ _ =>
  (θ_run Cert.WpleRefIdeal.defs _ _).mono (fun r h => ⟨fun c => (h c).2.2,
      Idealize.ShloMosaic.sem_eq_zero_of_no_sems (by decide) r.2⟩)
    (Cert.WpleRefIdeal.Value.run (F := Ideal) m ρ)

theorem algebraic : Cert.algebraic_WpleIdeal_WpleRefIdeal := by
  pair_intro
  · run_from Cert.WpleIdeal.Gen.run_main m g
  · run_from Cert.WpleRefIdeal.Value.run m' g'
    · exact (Cert.WpleIdeal.Value.final4 m c).symm
    · exact (Cert.WpleIdeal.Value.final5 m c).symm

end Cert.Proof.Wple

end
-- ==== Proof.Aout.lean ====
module

public import proofs.«01_k».proof.Defs
public import proofs.«01_k».proof.Proof.Gen.Aout.Frame
public import proofs.«01_k».proof.Proof.Gen.AoutIdeal.Frame
public import proofs.«01_k».proof.Proof.Gen.AoutRefIdeal.Run
public import proofs.«01_k».proof.Proof.Gen.AoutRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AoutIdeal.Value

open Cert.AoutIdeal Cert.AoutIdeal.Gen Cert.AoutRefIdeal.Read

variable (m : (ℓ : Loc nD τ sig) → Buf (Elt Ideal) ℓ)

theorem idx : ∀ t : Fin cfg0.N,
    win0_0.index t = ![t.val, 0]
      ∧ win0_1.index t = ![0, 0, 0]
      ∧ win0_2.index t = ![t.val, 0] :=
  (by decide +kernel : ∀ t : Fin grid0.N, _)

theorem final2 (c : Dev nD) : (dats m 0 c).arrAt 2 (cfgs 0).N
    = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1,
    val_main_v0, val_main_v1, val_main_v4, val_main_v5]
  show (_ : EReal) = _
  refine Finset.sum_congr rfl fun k _ => ?_
  blk_point [iblk, V, idx t]

end Cert.AoutIdeal.Value

namespace Cert.Proof.Aout

theorem frame : Cert.quiescent_Aout := fun m ρ _ => Cert.Aout.Gen.frame m ρ

theorem frame_ideal : Cert.quiescent_AoutIdeal := fun m ρ _ => Cert.AoutIdeal.Gen.frame m ρ

theorem frame_ref : Cert.quiescent_AoutRefIdeal := fun m ρ _ =>
  (θ_run Cert.AoutRefIdeal.defs _ _).mono (fun r h => ⟨fun c => (h c).2,
      Idealize.ShloMosaic.sem_eq_zero_of_no_sems (by decide) r.2⟩)
    (Cert.AoutRefIdeal.Value.run (F := Ideal) m ρ)

theorem algebraic : Cert.algebraic_AoutIdeal_AoutRefIdeal := by
  pair_intro
  · run_from Cert.AoutIdeal.Gen.run_main m g
  · run_from Cert.AoutRefIdeal.Value.run m' g'
    exact (Cert.AoutIdeal.Value.final2 m c).symm

end Cert.Proof.Aout

end
-- ==== Proof.MergeFwd.lean ====
module

public import proofs.«01_k».proof.Defs
public import proofs.«01_k».proof.Proof.Gen.MergeFwd.Frame
public import proofs.«01_k».proof.Proof.Gen.MergeFwdIdeal.Frame
public import proofs.«01_k».proof.Proof.Gen.MergeFwdRefIdeal.Run
public import proofs.«01_k».proof.Proof.Gen.MergeFwdRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MergeFwdIdeal.Value

open Cert.MergeFwdIdeal Cert.MergeFwdIdeal.Gen Cert.MergeFwdRefIdeal.Read

variable (m : (ℓ : Loc nD τ sig) → Buf (Elt Ideal) ℓ)

theorem idx : ∀ t : Fin cfg0.N,
    win0_0.index t = ![t.val / 2, 0]
      ∧ win0_1.index t = ![t.val / 2, 0]
      ∧ win0_2.index t = ![t.val % 2, 0, 0]
      ∧ win0_3.index t = ![t.val % 2, 0, 0]
      ∧ win0_4.index t = ![t.val / 2, 4 + t.val % 2]
      ∧ win0_5.index t = ![t.val / 2, 6 + t.val % 2]
      ∧ win0_6.index t = ![t.val / 2, t.val % 2]
      ∧ win0_7.index t = ![t.val / 2, t.val % 2]
      ∧ win0_8.index t = ![t.val / 2, t.val % 2] :=
  (by decide +kernel : ∀ t : Fin grid0.N, _)

theorem final6 (c : Dev nD) : (dats m 0 c).arrAt 6 (cfgs 0).N
    = val_main_v25 (F := Ideal) (m ((c : Thread nD τ).loc main_arg0)) (m ((c : Thread nD τ).loc main_arg1)) (m ((c : Thread nD τ).loc
      main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  pointwise [k0_pay1, k0_pay2, k0_pay3, k0_pay4, k0_pay5, k0_pay6, k0_pay7, k0_pay8, k0_pay9,
    val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v17, val_main_v18, val_main_v19, val_main_v20, val_main_v21, val_main_v22,
    val_main_v23, val_main_v24, val_main_v25, val_main_cst, val_main_cst_0, val_main_cst_1, val_main_cst_2]
  simp only [zero_sub]
  show (_ : EReal) = _
  refine congrArg₂ (fun a b : EReal => a + b)
    (congrArg₂ (fun a b : EReal => a * b) ?_ (Finset.sum_congr rfl fun k _ => ?_))
    (congrArg₂ (fun a b : EReal => a * b) ?_ (Finset.sum_congr rfl fun k _ => ?_))
  all_goals blk_point [iblk, V, idx t]

theorem final7 (c : Dev nD) : (dats m 0 c).arrAt 7 (cfgs 0).N
    = val_main_v26 (F := Ideal) (m ((c : Thread nD τ).loc main_arg0)) (m ((c : Thread nD τ).loc main_arg2)) := by
  refine (dats m 0 c).arrAt_eq_of_covers 7 _ (by decide +kernel) fun t _ y => ?_
  blk_simp
  rw [after0_7]; frame_out
  pointwise [k0_pay1, k0_pay2, k0_pay3, k0_pay4, k0_pay5, k0_pay6, k0_pay7, k0_pay8, k0_pay9,
    val_main_v0, val_main_v2, val_main_v8, val_main_v26]
  show (_ : EReal) = _
  refine Finset.sum_congr rfl fun k _ => ?_
  blk_point [iblk, V, idx t]

theorem final8 (c : Dev nD) : (dats m 0 c).arrAt 8 (cfgs 0).N
    = val_main_v27 (F := Ideal) (m ((c : Thread nD τ).loc main_arg1)) (m ((c : Thread nD τ).loc main_arg3)) := by
  refine (dats m 0 c).arrAt_eq_of_covers 8 _ (by decide +kernel) fun t _ y => ?_
  blk_simp
  rw [after0_8]; frame_out
  pointwise [k0_pay1, k0_pay2, k0_pay3, k0_pay4, k0_pay5, k0_pay6, k0_pay7, k0_pay8, k0_pay9,
    val_main_v1, val_main_v3, val_main_v9, val_main_v27]
  show (_ : EReal) = _
  refine Finset.sum_congr rfl fun k _ => ?_
  blk_point [iblk, V, idx t]

end Cert.MergeFwdIdeal.Value

namespace Cert.Proof.MergeFwd

theorem frame : Cert.quiescent_MergeFwd := fun m ρ _ => Cert.MergeFwd.Gen.frame m ρ

theorem frame_ideal : Cert.quiescent_MergeFwdIdeal := fun m ρ _ => Cert.MergeFwdIdeal.Gen.frame m ρ

theorem frame_ref : Cert.quiescent_MergeFwdRefIdeal := fun m ρ _ =>
  (θ_run Cert.MergeFwdRefIdeal.defs _ _).mono (fun r h => ⟨fun c => (h c).2.2.2,
      Idealize.ShloMosaic.sem_eq_zero_of_no_sems (by decide) r.2⟩)
    (Cert.MergeFwdRefIdeal.Value.run (F := Ideal) m ρ)

theorem algebraic : Cert.algebraic_MergeFwdIdeal_MergeFwdRefIdeal := by
  pair_intro
  · run_from Cert.MergeFwdIdeal.Gen.run_main m g
  · run_from Cert.MergeFwdRefIdeal.Value.run m' g'
    · exact (Cert.MergeFwdIdeal.Value.final6 m c).symm
    · exact (Cert.MergeFwdIdeal.Value.final7 m c).symm
    · exact (Cert.MergeFwdIdeal.Value.final8 m c).symm

end Cert.Proof.MergeFwd

end
-- ==== Proof.MixFwd.lean ====
module

public import proofs.«01_k».proof.Defs
public import proofs.«01_k».proof.Proof.Gen.MixFwd.Frame
public import proofs.«01_k».proof.Proof.Gen.MixFwdIdeal.Frame
public import proofs.«01_k».proof.Proof.Gen.MixFwdRefIdeal.Run
public import proofs.«01_k».proof.Proof.Gen.MixFwdRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MixFwdIdeal.Value

open Cert.MixFwdIdeal Cert.MixFwdIdeal.Gen Cert.MixFwdRefIdeal.Read

variable (m : (ℓ : Loc nD τ sig) → Buf (Elt Ideal) ℓ)

theorem idx : ∀ t : Fin cfg0.N,
    win0_0.index t = ![t.val, 0]
      ∧ win0_1.index t = ![0, 0, 0]
      ∧ win0_2.index t = ![t.val, 0]
      ∧ win0_3.index t = ![0, 0]
      ∧ win0_4.index t = ![0, 0]
      ∧ win0_5.index t = ![t.val, 0]
      ∧ win0_6.index t = ![t.val, 0]
      ∧ win0_7.index t = ![t.val, 0] :=
  (by decide +kernel : ∀ t : Fin grid0.N, _)

theorem final5 (c : Dev nD) : (dats m 0 c).arrAt 5 (cfgs 0).N
    = val_main_v5 (F := Ideal) (m ((c : Thread nD τ).loc main_arg0)) (m ((c : Thread nD τ).loc main_arg1)) (m ((c : Thread nD τ).loc
      main_arg2)) := by
  refine (dats m 0 c).arrAt_eq_of_covers 5 _ (by decide +kernel) fun t _ y => ?_
  blk_simp
  rw [after0_5]; frame_out
  pointwise [k0_pay1, k0_pay2, k0_pay3,
    val_main_v0, val_main_v1, val_main_v2, val_main_v3, val_main_v4, val_main_v5, val_main_cst]
  show (_ : EReal) = _
  refine congrArg₂ (fun a b : EReal => a + b) ?_ (Finset.sum_congr rfl fun k _ => ?_)
  all_goals blk_point [iblk, V, idx t]

theorem final6 (c : Dev nD) : (dats m 0 c).arrAt 6 (cfgs 0).N
    = val_main_v27 (F := Ideal) (m ((c : Thread nD τ).loc main_arg0)) (m ((c : Thread nD τ).loc main_arg1)) (m ((c : Thread nD τ).loc
      main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  pointwise [k0_pay1, k0_pay3,
    val_main_v6, val_main_v7,
    val_main_v8, val_main_v9, val_main_v10, val_main_v11, val_main_v12, val_main_v13, val_main_v14, val_main_v15,
    val_main_v16, val_main_v17, val_main_v18, val_main_v19, val_main_v20, val_main_v21, val_main_v22,
    val_main_v23, val_main_v24, val_main_v25, val_main_v26, val_main_v27, val_main_cst_0,
    val_main_cst_1, val_main_cst_2, val_main_cst_3, val_main_cst_4]
  blk_point [iblk, V, idx t]
  all_goals
    pointwise [val_main_v0, val_main_v1, val_main_v2, val_main_v3, val_main_v4, val_main_v5, val_main_cst]
    show (_ : EReal) = _
    refine congrArg₂ (fun a b : EReal => a + b) ?_ (Finset.sum_congr rfl fun k _ => ?_)
    all_goals blk_point [iblk, V, idx t]

theorem final7 (c : Dev nD) : (dats m 0 c).arrAt 7 (cfgs 0).N
    = val_main_v28 (F := Ideal) (m ((c : Thread nD τ).loc main_arg0)) (m ((c : Thread nD τ).loc main_arg1)) (m ((c : Thread nD τ).loc
      main_arg2)) (m ((c : Thread nD τ).loc main_arg3)) (m ((c : Thread nD τ).loc main_arg4)) := by
  refine (dats m 0 c).arrAt_eq_of_covers 7 _ (by decide +kernel) fun t _ y => ?_
  blk_simp
  rw [after0_7]; frame_out
  pointwise [k0_pay1, k0_pay3,
    val_main_v6, val_main_v7,
    val_main_v8, val_main_v9, val_main_v10, val_main_v11, val_main_v12, val_main_v13, val_main_v14, val_main_v15,
    val_main_v16, val_main_v17, val_main_v18, val_main_v19, val_main_v20, val_main_v21, val_main_v22,
    val_main_v23, val_main_v24, val_main_v25, val_main_v26, val_main_v27, val_main_v28, val_main_cst,
    val_main_cst_0, val_main_cst_1, val_main_cst_2, val_main_cst_3, val_main_cst_4]
  blk_point [iblk, V, idx t]
  all_goals
    pointwise [val_main_v0, val_main_v1, val_main_v2, val_main_v3, val_main_v4, val_main_v5, val_main_cst]
    show (_ : EReal) = _
    refine congrArg₂ (fun a b : EReal => a + b) ?_ (Finset.sum_congr rfl fun k _ => ?_)
    all_goals blk_point [iblk, V, idx t]

end Cert.MixFwdIdeal.Value

namespace Cert.Proof.MixFwd

theorem frame : Cert.quiescent_MixFwd := fun m ρ _ => Cert.MixFwd.Gen.frame m ρ

theorem frame_ideal : Cert.quiescent_MixFwdIdeal := fun m ρ _ => Cert.MixFwdIdeal.Gen.frame m ρ

theorem frame_ref : Cert.quiescent_MixFwdRefIdeal := fun m ρ _ =>
  (θ_run Cert.MixFwdRefIdeal.defs _ _).mono (fun r h => ⟨fun c => (h c).2.2.2,
      Idealize.ShloMosaic.sem_eq_zero_of_no_sems (by decide) r.2⟩)
    (Cert.MixFwdRefIdeal.Value.run (F := Ideal) m ρ)

theorem algebraic : Cert.algebraic_MixFwdIdeal_MixFwdRefIdeal := by
  pair_intro
  · run_from Cert.MixFwdIdeal.Gen.run_main m g
  · run_from Cert.MixFwdRefIdeal.Value.run m' g'
    · exact (Cert.MixFwdIdeal.Value.final5 m c).symm
    · exact (Cert.MixFwdIdeal.Value.final6 m c).symm
    · exact (Cert.MixFwdIdeal.Value.final7 m c).symm

end Cert.Proof.MixFwd

end
-- ==== Proof.UpFwd.lean ====
module

public import proofs.«01_k».proof.Defs
public import proofs.«01_k».proof.Proof.Gen.UpFwd.Frame
public import proofs.«01_k».proof.Proof.Gen.UpFwdIdeal.Frame
public import proofs.«01_k».proof.Proof.Gen.UpFwdRefIdeal.Run
public import proofs.«01_k».proof.Proof.Gen.UpFwdRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.UpFwdIdeal.Value

open Cert.UpFwdIdeal Cert.UpFwdIdeal.Gen Cert.UpFwdRefIdeal.Read

variable (m : (ℓ : Loc nD τ sig) → Buf (Elt Ideal) ℓ)

theorem idx : ∀ t : Fin cfg0.N,
    win0_0.index t = ![0, 0]
      ∧ win0_1.index t = ![t.val, 0, 0]
      ∧ win0_2.index t = ![t.val, 0, 0] :=
  (by decide +kernel : ∀ t : Fin grid0.N, _)

theorem final2 (c : Dev nD) : (dats m 0 c).arrAt 2 (cfgs 0).N
    = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1,
    val_main_v0, val_main_v1, val_main_v2, val_main_v3, val_main_v4, val_main_v5]
  show (_ : EReal) = _
  refine Finset.sum_congr rfl fun k _ => ?_
  blk_point [iblk, V, idx t]

end Cert.UpFwdIdeal.Value

namespace Cert.Proof.UpFwd

theorem frame : Cert.quiescent_UpFwd := fun m ρ _ => Cert.UpFwd.Gen.frame m ρ

theorem frame_ideal : Cert.quiescent_UpFwdIdeal := fun m ρ _ => Cert.UpFwdIdeal.Gen.frame m ρ

theorem frame_ref : Cert.quiescent_UpFwdRefIdeal := fun m ρ _ =>
  (θ_run Cert.UpFwdRefIdeal.defs _ _).mono (fun r h => ⟨fun c => (h c).2,
      Idealize.ShloMosaic.sem_eq_zero_of_no_sems (by decide) r.2⟩)
    (Cert.UpFwdRefIdeal.Value.run (F := Ideal) m ρ)

theorem algebraic : Cert.algebraic_UpFwdIdeal_UpFwdRefIdeal := by
  pair_intro
  · run_from Cert.UpFwdIdeal.Gen.run_main m g
  · run_from Cert.UpFwdRefIdeal.Value.run m' g'
    exact (Cert.UpFwdIdeal.Value.final2 m c).symm

end Cert.Proof.UpFwd

end
-- ==== Proof.FfnFwd.lean ====
module

public import proofs.«01_k».proof.Defs
public import proofs.«01_k».proof.Proof.Gen.FfnFwd.Frame
public import proofs.«01_k».proof.Proof.Gen.FfnFwdIdeal.Frame
public import proofs.«01_k».proof.Proof.Gen.FfnFwdRefIdeal.Run
public import proofs.«01_k».proof.Proof.Gen.FfnFwdRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.FfnFwdIdeal.Value

open Cert.FfnFwdIdeal Cert.FfnFwdIdeal.Gen Cert.FfnFwdRefIdeal.Read

variable (m : (ℓ : Loc nD τ sig) → Buf (Elt Ideal) ℓ)

theorem idx : ∀ t : Fin cfg0.N,
    win0_0.index t = ![t.val / 2, t.val % 2, 0]
      ∧ win0_1.index t = ![4 + t.val / 2, t.val % 2, 0]
      ∧ win0_2.index t = ![4 + t.val / 2, 63 * (t.val % 2), 0]
      ∧ win0_3.index t = ![4 + t.val / 2, 64 + 63 * (t.val % 2), 0]
      ∧ win0_4.index t = ![t.val / 2, 0, 0]
      ∧ win0_5.index t = ![t.val / 2, 0, 0]
      ∧ win0_6.index t = ![t.val / 2, t.val % 2, 0] :=
  (by decide +kernel : ∀ t : Fin grid0.N, _)

theorem coords : ∀ t : Fin cfg0.N, (grid0.coords t 1).val = t.val % 2 :=
  (by decide +kernel : ∀ t : Fin grid0.N, _)

/-- A position of the value's tile, in the whole value. -/
theorem val_point (c : Dev nD) (t : Fin cfg0.N) (z : S1x1024x704.Idx) (r : Fin 2048) (q : Fin 2816)
    (hr : r.val = t.val % 2 * 1024 + (z 1).val) (hq : q.val = t.val / 2 * 704 + (z 2).val) :
    (iblk m c 0 t z : EReal) = m ((c : Thread nD τ).loc main_arg0) (ix2 r q) := by
  obtain ⟨z0, a, b, rfl⟩ : ∃ z0 a b, z = ix3 z0 a b := ⟨z 0, z 1, z 2, by funext k; fin_cases k <;> rfl⟩
  have ht : t.val < 8 := t.isLt
  idx_bounds_all
  simp only [ix3_1, ix3_2] at hr hq
  blk_simp [iblk, idx t]
  entry_read
  pointwise
  split_ifs with h
  · blk_ext [idx t]
  · exfalso; blk_simp [idx t] at h; omega
  · rename_i h'; exact absurd rfl h'

/-- A position of the gate's tile, in the whole gate. -/
theorem gate_point (c : Dev nD) (t : Fin cfg0.N) (z : S1x1024x704.Idx) (r : Fin 2048) (q : Fin 2816)
    (hr : r.val = t.val % 2 * 1024 + (z 1).val) (hq : q.val = t.val / 2 * 704 + (z 2).val) :
    (iblk m c 1 t z : EReal) = m ((c : Thread nD τ).loc main_arg1) (ix2 r q) := by
  obtain ⟨z0, a, b, rfl⟩ : ∃ z0 a b, z = ix3 z0 a b := ⟨z 0, z 1, z 2, by funext k; fin_cases k <;> rfl⟩
  have ht : t.val < 8 := t.isLt
  idx_bounds_all
  simp only [ix3_1, ix3_2] at hr hq
  blk_simp [iblk, idx t]
  entry_read
  pointwise
  split_ifs with h
  · exfalso; blk_simp [idx t] at h; omega
  · blk_ext [idx t]
  · rename_i h'; exact absurd rfl h'

/-- A position of the rows before the gate's tile, in the whole gate. -/
theorem before_point (c : Dev nD) (t : Fin cfg0.N) (z : S1x16x704.Idx) (r : Fin 2048) (q : Fin 2816)
    (hr : r.val = 63 * (t.val % 2) * 16 + (z 1).val) (hq : q.val = t.val / 2 * 704 + (z 2).val) :
    (iblk m c 2 t z : EReal) = m ((c : Thread nD τ).loc main_arg1) (ix2 r q) := by
  obtain ⟨z0, a, b, rfl⟩ : ∃ z0 a b, z = ix3 z0 a b := ⟨z 0, z 1, z 2, by funext k; fin_cases k <;> rfl⟩
  have ht : t.val < 8 := t.isLt
  idx_bounds_all
  simp only [ix3_1, ix3_2] at hr hq
  blk_simp [iblk, idx t]
  entry_read
  pointwise
  split_ifs with h
  · exfalso; blk_simp [idx t] at h; omega
  · blk_ext [idx t]
  · rename_i h'; exact absurd rfl h'

/-- A position of the rows after the gate's tile, in the whole gate. -/
theorem after_point (c : Dev nD) (t : Fin cfg0.N) (z : S1x16x704.Idx) (r : Fin 2048) (q : Fin 2816)
    (hr : r.val = (64 + 63 * (t.val % 2)) * 16 + (z 1).val) (hq : q.val = t.val / 2 * 704 + (z 2).val) :
    (iblk m c 3 t z : EReal) = m ((c : Thread nD τ).loc main_arg1) (ix2 r q) := by
  obtain ⟨z0, a, b, rfl⟩ : ∃ z0 a b, z = ix3 z0 a b := ⟨z 0, z 1, z 2, by funext k; fin_cases k <;> rfl⟩
  have ht : t.val < 8 := t.isLt
  idx_bounds_all
  simp only [ix3_1, ix3_2] at hr hq
  blk_simp [iblk, idx t]
  entry_read
  pointwise
  split_ifs with h
  · exfalso; blk_simp [idx t] at h; omega
  · blk_ext [idx t]
  · rename_i h'; exact absurd rfl h'

/-- A choice by the equality of two words, as a choice by the equality of their values. -/
theorem pick {α : Type} (a n : Nat) (x y : α) (ha : a < 2 ^ 32) (hn : n < 2 ^ 32) :
    Scalar.select (IntOp.cmpi .eq (BitVec.ofNat 32 a) (BitVec.ofNat 32 n)) x y = if a = n then x else y := by
  rw [WordCmp.cmpi_eq_ofNat ha hn]
  by_cases h : a = n <;> simp [Scalar.select, h]

/-- The exact gelu times a factor, by the error function and by its complement at the negated argument. -/
theorem gate {h k x x' v v' : EReal} (hx : x = x') (hv : v = v') :
    h * x * (1 + Ideal.erf (x * k)) * v = h * x' * Ideal.erfc (-x' * k) * v' := by
  rw [hx, hv, EReal.neg_mul, Ideal.erfc_neg]

set_option maxHeartbeats 4000000 in
theorem final6 (c : Dev nD) : (dats m 0 c).arrAt 6 (cfgs 0).N
    = val_main_v37 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 6 _ (by decide +kernel) fun t _ y => ?_
  blk_simp
  rw [after0_6]; frame_out
  obtain ⟨i, hi⟩ : ∃ i, ((cfg0.win 6).blk t).view.emb y = i := ⟨_, rfl⟩
  have hi0 : (i 0).val = t.val / 2 := by rw [← hi]; blk_simp [idx t]
  have hi1 : (i 1).val = t.val % 2 * 1024 + (y 1).val := by rw [← hi]; blk_simp [idx t]
  have hi2 : (i 2).val = (y 2).val := by rw [← hi]; blk_simp [idx t]
  have hy : (y 1).val < 1024 := (y 1).isLt
  have hc := coords t
  rw [hi]
  pointwise [k0_pay1, k0_pay2, k0_pay3, k0_pay4,
    val_main_v0, val_main_v1, val_main_cst, val_main_v2, val_main_v3, val_main_v4, val_main_v5, val_main_v6,
    val_main_v7, val_main_v8, val_main_v9, val_main_v10, val_main_v11, val_main_v12, val_main_v13, val_main_v14,
    val_main_v15, val_main_v16, val_main_v17, val_main_v18, val_main_v19, val_main_v20, val_main_v21,
    val_main_v22, val_main_v23, val_main_v24, val_main_v25, val_main_v26, val_main_cst_0, val_main_v27,
    val_main_v28, val_main_v29, val_main_cst_1, val_main_v30, val_main_v31, val_main_v32, val_main_v33,
    val_main_v34, val_main_v35, val_main_v36, val_main_v37]
  refine gate (congrArg₂ (· + ·) (congrArg₂ (· + ·) (congrArg₂ (· + ·) (congrArg₂ (· * ·) ?_ ?_)
    (congrArg₂ (· * ·) ?_ ?_)) (congrArg₂ (· * ·) ?_ ?_)) ?_) ?_
  · rw [Scalar.cmpi, pick _ _ _ _ (by omega) (by omega), pick _ _ _ _ (by omega) (by omega)]
    by_cases ha : (y 1).val = 0
    · by_cases hb : t.val % 2 = 0
      · rw [if_pos ha, if_pos (hc.trans hb), dif_pos (by omega)]
      · rw [if_pos ha, if_neg (by omega), dif_neg (by omega), dif_pos (by omega)]
        exact before_point m c t _ _ _ (by show (i 1).val - 1 = 63 * (t.val % 2) * 16 + 15; omega)
          (by show (i 0).val * 704 + (i 2).val = t.val / 2 * 704 + (y 2).val; omega)
    · rw [if_neg ha, dif_neg (by omega), dif_pos (by omega)]
      exact gate_point m c t _ _ _ (by show (i 1).val - 1 = t.val % 2 * 1024 + ((y 1).val + 1024 - 1) % 1024; omega)
          (by show (i 0).val * 704 + (i 2).val = t.val / 2 * 704 + (y 2).val; omega)
  · blk_point [iblk, V, idx t]
  · exact gate_point m c t _ _ _ hi1
      (by show (i 0).val * 704 + (i 2).val = t.val / 2 * 704 + (y 2).val; omega)
  · blk_point [iblk, V, idx t]
  · rw [Scalar.cmpi, pick _ _ _ _ (by omega) (by omega), pick _ _ _ _ (by omega) (by omega)]
    by_cases ha : (y 1).val = 1023
    · by_cases hb : t.val % 2 = 1
      · rw [if_pos ha, if_pos (hc.trans hb), dif_neg (by omega), dif_neg (by omega)]
      · rw [if_pos ha, if_neg (by omega), dif_neg (by omega), dif_pos (by omega)]
        exact after_point m c t _ _ _ (by show 2 + (i 1).val - 1 = (64 + 63 * (t.val % 2)) * 16 + 0; omega)
          (by show (i 0).val * 704 + (i 2).val = t.val / 2 * 704 + (y 2).val; omega)
    · rw [if_neg ha, dif_neg (by omega), dif_pos (by omega)]
      exact gate_point m c t _ _ _ (by show 2 + (i 1).val - 1 = t.val % 2 * 1024 + ((y 1).val + 1024 - 1023) % 1024; omega)
          (by show (i 0).val * 704 + (i 2).val = t.val / 2 * 704 + (y 2).val; omega)
  · blk_point [iblk, V, idx t]
  · blk_point [iblk, V, idx t]
  · exact val_point m c t _ _ _ hi1
      (by show (i 0).val * 704 + (i 2).val = t.val / 2 * 704 + (y 2).val; omega)

end Cert.FfnFwdIdeal.Value

namespace Cert.Proof.FfnFwd

theorem frame : Cert.quiescent_FfnFwd := fun m ρ _ => Cert.FfnFwd.Gen.frame m ρ

theorem frame_ideal : Cert.quiescent_FfnFwdIdeal := fun m ρ _ => Cert.FfnFwdIdeal.Gen.frame m ρ

theorem frame_ref : Cert.quiescent_FfnFwdRefIdeal := fun m ρ _ =>
  (θ_run Cert.FfnFwdRefIdeal.defs _ _).mono (fun r h => ⟨fun c => (h c).2,
      Idealize.ShloMosaic.sem_eq_zero_of_no_sems (by decide) r.2⟩)
    (Cert.FfnFwdRefIdeal.Value.run (F := Ideal) m ρ)

theorem algebraic : Cert.algebraic_FfnFwdIdeal_FfnFwdRefIdeal := by
  pair_intro
  · run_from Cert.FfnFwdIdeal.Gen.run_main m g
  · run_from Cert.FfnFwdRefIdeal.Value.run m' g'
    obtain ⟨h0, h1, h2, h3⟩ := hagree c
    rw [Cert.FfnFwdRefIdeal.Read.val_main_v37_eq m' c, h0, h1, h2, h3]
    exact (Cert.FfnFwdIdeal.Value.final6 m c).symm

end Cert.Proof.FfnFwd

end
-- ==== Proof.DownFwd.lean ====
module

public import proofs.«01_k».proof.Defs
public import proofs.«01_k».proof.Proof.Gen.DownFwd.Frame
public import proofs.«01_k».proof.Proof.Gen.DownFwdIdeal.Frame
public import proofs.«01_k».proof.Proof.Gen.DownFwdRefIdeal.Run
public import proofs.«01_k».proof.Proof.Gen.DownFwdRefIdeal.Read
public import proofs.«01_k».proof.Proof.Pieces
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DownFwdIdeal.Value

open Cert.DownFwdIdeal Cert.DownFwdIdeal.Gen Cert.DownFwdRefIdeal.Read

variable (m : (ℓ : Loc nD τ sig) → Buf (Elt Ideal) ℓ)

theorem idx : ∀ t : Fin cfg0.N,
    win0_0.index t = ![0, t.val, 0]
      ∧ win0_1.index t = ![0, 0, 0]
      ∧ win0_2.index t = ![t.val, 0]
      ∧ win0_3.index t = ![0, 0, 0]
      ∧ win0_4.index t = ![t.val, 0]
      ∧ win0_5.index t = ![0, 0, 0]
      ∧ win0_6.index t = ![t.val, 0]
      ∧ win0_7.index t = ![0, 0]
      ∧ win0_8.index t = ![0, 0]
      ∧ win0_9.index t = ![t.val, 0]
      ∧ win0_10.index t = ![t.val, 0]
      ∧ win0_11.index t = ![t.val, 0]
      ∧ win0_12.index t = ![t.val, 0]
      ∧ win0_13.index t = ![t.val, 0] :=
  (by decide +kernel : ∀ t : Fin grid0.N, _)

set_option maxHeartbeats 2000000 in
/-- The sum that the second norm is taken of, at one entry. -/
theorem sum_point (c : Dev nD) (t : Fin cfg0.N) (p : S256x1024.Idx) (i : S2048x1024.Idx)
    (hi0 : (i 0).val = 256 * t.val + (p 0).val) (hi1 : (i 1).val = (p 1).val) :
    k0_pay10 (F := Ideal) (iblk m c 0 t) (iblk m c 1 t) (iblk m c 2 t) (iblk m c 3 t) (iblk m c 4 t) (iblk m c 5 t) (iblk m c 6 t) (iblk
      m c 7 t) (iblk m c 8 t) p
    = val_main_v19 (F := Ideal) (m ((c : Thread nD τ).loc main_arg0)) (m ((c : Thread nD τ).loc main_arg1)) (m ((c : Thread nD τ).loc
      main_arg2)) (m ((c : Thread nD τ).loc main_arg3)) (m ((c : Thread nD τ).loc main_arg4)) (m ((c : Thread nD
      τ).loc main_arg5)) (m ((c : Thread nD τ).loc main_arg6)) i := by
  pointwise [k0_pay5, k0_pay6, k0_pay7, k0_pay8, k0_pay9, k0_pay10,
    val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v17, val_main_v18, val_main_v19, val_main_cst, val_main_cst_0, val_main_cst_1]
  simp only [zero_sub]
  show (_ : EReal) = _
  rw [Cert.Pieces.sum_four_pieces]
  have hp := (p 1).isLt
  refine congrArg₂ (fun a b : EReal => a + b) (congrArg₂ (fun a b : EReal => a + b) ?_
    (congrArg₂ (fun a b : EReal => a + b) (congrArg₂ (fun a b : EReal => a + b)
      (congrArg₂ (fun a b : EReal => a + b) (Finset.sum_congr rfl fun k _ => ?_) (Finset.sum_congr rfl fun k _ => ?_))
        (Finset.sum_congr rfl fun k _ => ?_)) (Finset.sum_congr rfl fun k _ => ?_)))
    (congrArg₂ (fun a b : EReal => a * b) ?_ (Finset.sum_congr rfl fun k _ => ?_))
  · blk_point [iblk, V, idx t]
  · blk_point [iblk, V, idx t]
  · blk_point [iblk, V, idx t]
  · blk_point [iblk, V, idx t]
  · blk_point [iblk, V, idx t]
  · blk_point [iblk, V, idx t]
  · blk_point [iblk, V, idx t]

set_option maxHeartbeats 4000000 in
theorem final9 (c : Dev nD) : (dats m 0 c).arrAt 9 (cfgs 0).N
    = val_main_v19 (F := Ideal) (m ((c : Thread nD τ).loc main_arg0)) (m ((c : Thread nD τ).loc main_arg1)) (m ((c : Thread nD τ).loc
      main_arg2)) (m ((c : Thread nD τ).loc main_arg3)) (m ((c : Thread nD τ).loc main_arg4)) (m ((c : Thread nD
      τ).loc main_arg5)) (m ((c : Thread nD τ).loc main_arg6)) := by
  refine (dats m 0 c).arrAt_eq_of_covers 9 _ (by decide +kernel) fun t _ y => ?_
  blk_simp
  rw [after0_9]; frame_out
  have hi0 : ((((cfg0.win 9).blk t).view.emb y) 0).val = 256 * t.val + (y 0).val := by blk_simp [idx t]; try (idx_bounds_all; omega)
  have hi1 : ((((cfg0.win 9).blk t).view.emb y) 1).val = (y 1).val := by blk_simp [idx t]; try (idx_bounds_all; omega)
  exact sum_point m c t y _ hi0 hi1

set_option maxHeartbeats 4000000 in
theorem final10 (c : Dev nD) : (dats m 0 c).arrAt 10 (cfgs 0).N
    = val_main_v41 (F := Ideal) (m ((c : Thread nD τ).loc main_arg0)) (m ((c : Thread nD τ).loc main_arg1)) (m ((c : Thread nD τ).loc
      main_arg2)) (m ((c : Thread nD τ).loc main_arg3)) (m ((c : Thread nD τ).loc main_arg4)) (m ((c : Thread nD
      τ).loc main_arg5)) (m ((c : Thread nD τ).loc main_arg6)) (m ((c : Thread nD τ).loc main_arg7)) (m ((c : Thread
      nD τ).loc main_arg8)) := by
  refine (dats m 0 c).arrAt_eq_of_covers 10 _ (by decide +kernel) fun t _ y => ?_
  blk_simp
  rw [after0_10]; frame_out
  have hi0 : ((((cfg0.win 10).blk t).view.emb y) 0).val = 256 * t.val + (y 0).val := by blk_simp [idx t]; try (idx_bounds_all; omega)
  have hi1 : ((((cfg0.win 10).blk t).view.emb y) 1).val = (y 1).val := by blk_simp [idx t]; try (idx_bounds_all; omega)
  have hz : ∀ k : Fin 1024, k0_pay10 (F := Ideal) (iblk m c 0 t) (iblk m c 1 t) (iblk m c 2 t) (iblk m c 3 t) (iblk m c 4 t) (iblk m c 5 t) (iblk m c 6 t) (iblk
      m c 7 t) (iblk m c 8 t) (ix2 (y 0) k)
      = val_main_v19 (F := Ideal) (m ((c : Thread nD τ).loc main_arg0)) (m ((c : Thread nD τ).loc main_arg1)) (m ((c : Thread nD τ).loc
      main_arg2)) (m ((c : Thread nD τ).loc main_arg3)) (m ((c : Thread nD τ).loc main_arg4)) (m ((c : Thread nD
      τ).loc main_arg5)) (m ((c : Thread nD τ).loc main_arg6)) (ix2 ((((cfg0.win 10).blk t).view.emb y) 0) k) :=
    fun k => sum_point m c t _ _ hi0 rfl
  have hy := sum_point m c t y _ hi0 hi1
  pointwise [k0_pay1,
    val_main_v20, val_main_v21, val_main_v22, val_main_v23, val_main_v24, val_main_v25, val_main_v26,
    val_main_v27, val_main_v28, val_main_v29, val_main_v30, val_main_v31, val_main_v32, val_main_v33,
    val_main_v34, val_main_v35, val_main_v36, val_main_v37, val_main_v38, val_main_v39, val_main_v40,
    val_main_v41, val_main_cst_2, val_main_cst_3, val_main_cst_4, val_main_cst_5, val_main_cst_6]
  simp only [hz]
  rw [hy]
  show (_ : EReal) = _
  refine congrArg₂ (fun x y : EReal => x + y) (congrArg₂ (fun x y : EReal => x * y) rfl ?_) ?_
  all_goals blk_point [iblk, V, idx t]

set_option maxHeartbeats 4000000 in
theorem final11 (c : Dev nD) : (dats m 0 c).arrAt 11 (cfgs 0).N
    = val_main_v42 (F := Ideal) (m ((c : Thread nD τ).loc main_arg0)) (m ((c : Thread nD τ).loc main_arg1)) (m ((c : Thread nD τ).loc
      main_arg2)) (m ((c : Thread nD τ).loc main_arg3)) (m ((c : Thread nD τ).loc main_arg4)) (m ((c : Thread nD
      τ).loc main_arg5)) (m ((c : Thread nD τ).loc main_arg6)) (m ((c : Thread nD τ).loc main_arg7)) (m ((c : Thread
      nD τ).loc main_arg8)) := by
  refine (dats m 0 c).arrAt_eq_of_covers 11 _ (by decide +kernel) fun t _ y => ?_
  blk_simp
  rw [after0_11]; frame_out
  have hi0 : ((((cfg0.win 11).blk t).view.emb y) 0).val = 256 * t.val + (y 0).val := by blk_simp [idx t]; try (idx_bounds_all; omega)
  have hi1 : ((((cfg0.win 11).blk t).view.emb y) 1).val = (y 1).val := by blk_simp [idx t]; try (idx_bounds_all; omega)
  have hz : ∀ k : Fin 1024, k0_pay10 (F := Ideal) (iblk m c 0 t) (iblk m c 1 t) (iblk m c 2 t) (iblk m c 3 t) (iblk m c 4 t) (iblk m c 5 t) (iblk m c 6 t) (iblk
      m c 7 t) (iblk m c 8 t) (ix2 (y 0) k)
      = val_main_v19 (F := Ideal) (m ((c : Thread nD τ).loc main_arg0)) (m ((c : Thread nD τ).loc main_arg1)) (m ((c : Thread nD τ).loc
      main_arg2)) (m ((c : Thread nD τ).loc main_arg3)) (m ((c : Thread nD τ).loc main_arg4)) (m ((c : Thread nD
      τ).loc main_arg5)) (m ((c : Thread nD τ).loc main_arg6)) (ix2 ((((cfg0.win 11).blk t).view.emb y) 0) k) :=
    fun k => sum_point m c t _ _ hi0 rfl
  have hy := sum_point m c t y _ hi0 hi1
  pointwise [k0_pay1, k0_pay2,
    val_main_v20, val_main_v21, val_main_v22, val_main_v23, val_main_v24, val_main_v25, val_main_v26,
    val_main_v27, val_main_v28, val_main_v29, val_main_v30, val_main_v31, val_main_v32, val_main_v33,
    val_main_v34, val_main_v35, val_main_v36, val_main_v37, val_main_v38, val_main_v39, val_main_v40,
    val_main_v41, val_main_v42, val_main_cst_2, val_main_cst_3, val_main_cst_4, val_main_cst_5, val_main_cst_6]
  simp only [hz]
  rw [hy]
  show (_ : EReal) = _
  refine congrArg₂ (fun x y : EReal => x + y) (congrArg₂ (fun x y : EReal => x * y) rfl ?_) ?_
  all_goals blk_point [iblk, V, idx t]

set_option maxHeartbeats 4000000 in
theorem final12 (c : Dev nD) : (dats m 0 c).arrAt 12 (cfgs 0).N
    = val_main_v43 (F := Ideal) (m ((c : Thread nD τ).loc main_arg2)) (m ((c : Thread nD τ).loc main_arg3)) := by
  refine (dats m 0 c).arrAt_eq_of_covers 12 _ (by decide +kernel) fun t _ y => ?_
  blk_simp
  rw [after0_12]; frame_out
  pointwise [k0_pay1, k0_pay2, k0_pay3, k0_pay4, k0_pay5, k0_pay6, k0_pay7, k0_pay8, k0_pay9, k0_pay10,
    val_main_v2, val_main_v3, val_main_v7, val_main_v43]
  show (_ : EReal) = _
  refine Finset.sum_congr rfl fun k _ => ?_
  blk_point [iblk, V, idx t]

set_option maxHeartbeats 4000000 in
theorem final13 (c : Dev nD) : (dats m 0 c).arrAt 13 (cfgs 0).N
    = val_main_v44 (F := Ideal) (m ((c : Thread nD τ).loc main_arg4)) (m ((c : Thread nD τ).loc main_arg5)) := by
  refine (dats m 0 c).arrAt_eq_of_covers 13 _ (by decide +kernel) fun t _ y => ?_
  blk_simp
  rw [after0_13]; frame_out
  pointwise [k0_pay1, k0_pay2, k0_pay3, k0_pay4, k0_pay5, k0_pay6, k0_pay7, k0_pay8, k0_pay9, k0_pay10,
    val_main_v4, val_main_v5, val_main_v8, val_main_v44]
  show (_ : EReal) = _
  refine Finset.sum_congr rfl fun k _ => ?_
  blk_point [iblk, V, idx t]

end Cert.DownFwdIdeal.Value

namespace Cert.Proof.DownFwd

theorem frame : Cert.quiescent_DownFwd := fun m ρ _ => Cert.DownFwd.Gen.frame m ρ

theorem frame_ideal : Cert.quiescent_DownFwdIdeal := fun m ρ _ => Cert.DownFwdIdeal.Gen.frame m ρ

theorem frame_ref : Cert.quiescent_DownFwdRefIdeal := fun m ρ _ =>
  (θ_run Cert.DownFwdRefIdeal.defs _ _).mono (fun r h => ⟨fun c => (h c).2.2.2.2.2,
      Idealize.ShloMosaic.sem_eq_zero_of_no_sems (by decide) r.2⟩)
    (Cert.DownFwdRefIdeal.Value.run (F := Ideal) m ρ)

set_option maxHeartbeats 4000000 in
theorem algebraic : Cert.algebraic_DownFwdIdeal_DownFwdRefIdeal := by
  pair_intro
  · run_from Cert.DownFwdIdeal.Gen.run_main m g
  · run_from Cert.DownFwdRefIdeal.Value.run m' g'
    · exact (Cert.DownFwdIdeal.Value.final9 m c).symm
    · obtain ⟨h0, h1, h2, h3, h4, h5, h6, h7, h8⟩ := hagree c
      rw [Cert.DownFwdRefIdeal.Read.val_main_v41_eq m' c, h0, h1, h2, h3, h4, h5, h6, h7, h8]
      exact (Cert.DownFwdIdeal.Value.final10 m c).symm
    · obtain ⟨h0, h1, h2, h3, h4, h5, h6, h7, h8⟩ := hagree c
      rw [Cert.DownFwdRefIdeal.Read.val_main_v42_eq m' c, h0, h1, h2, h3, h4, h5, h6, h7, h8]
      exact (Cert.DownFwdIdeal.Value.final11 m c).symm
    · exact (Cert.DownFwdIdeal.Value.final12 m c).symm
    · exact (Cert.DownFwdIdeal.Value.final13 m c).symm

end Cert.Proof.DownFwd

end
-- ==== Proof.lean ====
module

public import proofs.«01_k».proof.Defs
public import proofs.«01_k».proof.Proof.Merge
public import proofs.«01_k».proof.Proof.Ln2
public import proofs.«01_k».proof.Proof.Ln1
public import proofs.«01_k».proof.Proof.Dh0
public import proofs.«01_k».proof.Proof.Win
public import proofs.«01_k».proof.Proof.Wup
public import proofs.«01_k».proof.Proof.Wdown
public import proofs.«01_k».proof.Proof.Wout
public import proofs.«01_k».proof.Proof.Wple
public import proofs.«01_k».proof.Proof.Aout
public import proofs.«01_k».proof.Proof.MergeFwd
public import proofs.«01_k».proof.Proof.MixFwd
public import proofs.«01_k».proof.Proof.UpFwd
public import proofs.«01_k».proof.Proof.FfnFwd
public import proofs.«01_k».proof.Proof.DownFwd

@[expose] public section

namespace Cert.Proof

/-- Every call terminates without fault and leaves its arguments alone, and computes over the extended reals what its
    reference computes. -/
theorem claim : Cert.Claim := ⟨
  Cert.Merge.Gen.facts, Cert.MergeIdeal.Gen.facts, Cert.MergeRefIdeal.Gen.facts,
  Cert.Ln2.Gen.facts, Cert.Ln2Ideal.Gen.facts, Cert.Ln2RefIdeal.Gen.facts,
  Cert.Ln1.Gen.facts, Cert.Ln1Ideal.Gen.facts, Cert.Ln1RefIdeal.Gen.facts,
  Cert.Dh0.Gen.facts, Cert.Dh0Ideal.Gen.facts, Cert.Dh0RefIdeal.Gen.facts,
  Cert.Win.Gen.facts, Cert.WinIdeal.Gen.facts, Cert.WinRefIdeal.Gen.facts,
  Cert.Wup.Gen.facts, Cert.WupIdeal.Gen.facts, Cert.WupRefIdeal.Gen.facts,
  Cert.Wdown.Gen.facts, Cert.WdownIdeal.Gen.facts, Cert.WdownRefIdeal.Gen.facts,
  Cert.Wout.Gen.facts, Cert.WoutIdeal.Gen.facts, Cert.WoutRefIdeal.Gen.facts,
  Cert.Wple.Gen.facts, Cert.WpleIdeal.Gen.facts, Cert.WpleRefIdeal.Gen.facts,
  Cert.Aout.Gen.facts, Cert.AoutIdeal.Gen.facts, Cert.AoutRefIdeal.Gen.facts,
  Cert.MergeFwd.Gen.facts, Cert.MergeFwdIdeal.Gen.facts, Cert.MergeFwdRefIdeal.Gen.facts,
  Cert.MixFwd.Gen.facts, Cert.MixFwdIdeal.Gen.facts, Cert.MixFwdRefIdeal.Gen.facts,
  Cert.UpFwd.Gen.facts, Cert.UpFwdIdeal.Gen.facts, Cert.UpFwdRefIdeal.Gen.facts,
  Cert.FfnFwd.Gen.facts, Cert.FfnFwdIdeal.Gen.facts, Cert.FfnFwdRefIdeal.Gen.facts,
  Cert.DownFwd.Gen.facts, Cert.DownFwdIdeal.Gen.facts, Cert.DownFwdRefIdeal.Gen.facts,
  Cert.Pre_finite_ln2.Gen.facts,
  Cert.Pre_finite_ln1.Gen.facts,
  Merge.frame_p, Merge.frame_pi, Merge.frame_ri,
  Ln2.frame, Ln2.frame_ideal, Ln2.frame_ideal_pre, Ln2.frame_ref, Ln2.frame_ref_pre,
  Ln1.frame, Ln1.frame_ideal, Ln1.frame_ideal_pre, Ln1.frame_ref, Ln1.frame_ref_pre,
  Dh0.frame, Dh0.frame_ideal, Dh0.frame_ref,
  Win.frame, Win.frame_ideal, Win.frame_ref,
  Wup.frame, Wup.frame_ideal, Wup.frame_ref,
  Wdown.frame, Wdown.frame_ideal, Wdown.frame_ref,
  Wout.frame, Wout.frame_ideal, Wout.frame_ref,
  Wple.frame, Wple.frame_ideal, Wple.frame_ref,
  Aout.frame, Aout.frame_ideal, Aout.frame_ref,
  MergeFwd.frame, MergeFwd.frame_ideal, MergeFwd.frame_ref,
  MixFwd.frame, MixFwd.frame_ideal, MixFwd.frame_ref,
  UpFwd.frame, UpFwd.frame_ideal, UpFwd.frame_ref,
  FfnFwd.frame, FfnFwd.frame_ideal, FfnFwd.frame_ref,
  DownFwd.frame, DownFwd.frame_ideal, DownFwd.frame_ref,
  trivial, Merge.algebraic,
  trivial, Ln2.algebraic,
  trivial, Ln1.algebraic,
  trivial, Dh0.algebraic,
  trivial, Win.algebraic,
  trivial, Wup.algebraic,
  trivial, Wdown.algebraic,
  trivial, Wout.algebraic,
  trivial, Wple.algebraic,
  trivial, Aout.algebraic,
  trivial, MergeFwd.algebraic,
  trivial, MixFwd.algebraic,
  trivial, UpFwd.algebraic,
  trivial, FfnFwd.algebraic,
  trivial, DownFwd.algebraic⟩

end Cert.Proof

end
